-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table_KernelIdeal [hPre_in_table_KernelIdeal : Cert.Pre_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table_KernelIdeal [hKernelIdeal : Cert.KernelIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table_KernelIdeal [hKernelIdeal : Cert.KernelIdeal.Facts] [hReferenceIdeal : Cert.ReferenceIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_KernelIdeal : Cert.Pre_in_table_KernelIdeal.Facts) (hPre_in_table_ReferenceIdeal : Cert.Pre_in_table_ReferenceIdeal.Facts),
    quiescent_Kernel (hKernel := hKernel)
    ∧ quiescent_KernelIdeal (hKernelIdeal := hKernelIdeal)
    ∧ quiescent_KernelIdeal_pre_in_table_KernelIdeal (hKernelIdeal := hKernelIdeal) (hPre_in_table_KernelIdeal := hPre_in_table_KernelIdeal)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal_pre_in_table_KernelIdeal (hKernelIdeal := hKernelIdeal) (hReferenceIdeal := hReferenceIdeal) (hPre_in_table_KernelIdeal := hPre_in_table_KernelIdeal)
-- ==== Pre_in_table_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S8192x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Pre_in_table_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S16384x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Kernel.lean ====
abbrev S1024 : Shape := ⟨1, ![1024]⟩
abbrev S8192x1024 : Shape := ⟨2, ![8192, 1024]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S256x1024 : Shape := ⟨2, ![256, 1024]⟩
abbrev S4x256x1024 : Shape := ⟨3, ![4, 256, 1024]⟩
abbrev S4 : Shape := ⟨1, ![4]⟩
abbrev S1 : Shape := ⟨1, ![1]⟩
abbrev S1x1024 : Shape := ⟨2, ![1, 1024]⟩
abbrev S64x1024 : Shape := ⟨2, ![64, 1024]⟩
abbrev S64x1 : Shape := ⟨2, ![64, 1]⟩
abbrev S1x64x1024 : Shape := ⟨3, ![1, 64, 1024]⟩
abbrev S1x256x1024 : Shape := ⟨3, ![1, 256, 1024]⟩

abbrev nBuf : Space → Nat
  | .hbm => 67
  | .vmem => 4
  | .smem => 1
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i1⟩
  | .hbm, ⟨36, _⟩ => ⟨S_, .i1⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S256, .i32⟩
  | .hbm, ⟨49, _⟩ => ⟨S_, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i1⟩
  | .hbm, ⟨59, _⟩ => ⟨S256, .i1⟩
  | .hbm, ⟨60, _⟩ => ⟨S_, .i32⟩
  | .hbm, ⟨61, _⟩ => ⟨S_, .i32⟩
  | .hbm, ⟨62, _⟩ => ⟨S256, .i32⟩
  | .hbm, ⟨63, _⟩ => ⟨S256, .i32⟩
  | .hbm, ⟨64, _⟩ => ⟨S256, .f32⟩
  | .hbm, ⟨65, _⟩ => ⟨S256x1, .f32⟩
  | .hbm, ⟨66, _⟩ => ⟨S1024x1024, .f32⟩
  | .local _ .vmem, ⟨0, _⟩ => ⟨S256x1, .f32⟩
  | .local _ .vmem, ⟨1, _⟩ => ⟨S256x1024, .f32⟩
  | .local _ .vmem, ⟨2, _⟩ => ⟨S256x1024, .f32⟩
  | .local _ .vmem, ⟨3, _⟩ => ⟨S4x256x1024, .f32⟩
  | .local _ .smem, ⟨0, _⟩ => ⟨S256, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 2 → Bool
  | ⟨0, _⟩ => false
  | ⟨1, _⟩ => true
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 2 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_v14 : Ref sig .tc := ⟨.hbm, 22, rfl⟩
abbrev main_c_6 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_c_1 : Ref sig .tc := ⟨.hbm, 30, rfl⟩
abbrev main_call0_v4 : Ref sig .tc := ⟨.hbm, 31, rfl⟩
abbrev main_call0_c_2 : Ref sig .tc := ⟨.hbm, 32, rfl⟩
abbrev main_call0_v5 : Ref sig .tc := ⟨.hbm, 33, rfl⟩
abbrev main_call0_c_3 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_v15 : Ref sig .tc := ⟨.hbm, 39, rfl⟩
abbrev main_v16 : Ref sig .tc := ⟨.hbm, 40, rfl⟩
abbrev main_c_7 : Ref sig .tc := ⟨.hbm, 41, rfl⟩
abbrev main_v17 : Ref sig .tc := ⟨.hbm, 42, rfl⟩
abbrev main_c_8 : Ref sig .tc := ⟨.hbm, 43, rfl⟩
abbrev main_v18 : Ref sig .tc := ⟨.hbm, 44, rfl⟩
abbrev main_c_9 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_10 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_11 : Ref sig .tc := ⟨.hbm, 53, rfl⟩
abbrev main_v25 : Ref sig .tc := ⟨.hbm, 54, rfl⟩
abbrev main_v26 : Ref sig .tc := ⟨.hbm, 55, rfl⟩
abbrev main_c_12 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_13 : Ref sig .tc := ⟨.hbm, 60, rfl⟩
abbrev main_call1_v0 : Ref sig .tc := ⟨.hbm, 61, rfl⟩
abbrev main_call1_v1 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (v112 : BitVec 32) : Fin 2 → Nat :=
  let c0_i32_59 : BitVec 32 := 0#32
  ![v112.toNat, 0]

def k0_chk1 (v112 : BitVec 32) : Prop :=
  (∀ a, (k0_off1 v112) a + S1x1024.size a ≤ S8192x1024.size a)
theorem k0_off1_inb : ∀ (v112 : BitVec 32) (k0_hw1 : k0_chk1 v112), ∀ a, (k0_off1 v112) a + S1x1024.size a ≤ S8192x1024.size a := fun v112 k0_hw1 => k0_hw1

def k0_off2 (v117 : BitVec 32) : Fin 2 → Nat :=
  let c0_i32_63 : BitVec 32 := 0#32
  ![v117.toNat, 0]

def k0_chk2 (v117 : BitVec 32) : Prop :=
  (∀ a, (k0_off2 v117) a + S1x1024.size a ≤ S8192x1024.size a)
theorem k0_off2_inb : ∀ (v117 : BitVec 32) (k0_hw2 : k0_chk2 v117), ∀ a, (k0_off2 v117) a + S1x1024.size a ≤ S8192x1024.size a := fun v117 k0_hw2 => k0_hw2

def k0_off3 (v122 : BitVec 32) : Fin 2 → Nat :=
  let c0_i32_67 : BitVec 32 := 0#32
  ![v122.toNat, 0]

def k0_chk3 (v122 : BitVec 32) : Prop :=
  (∀ a, (k0_off3 v122) a + S1x1024.size a ≤ S8192x1024.size a)
theorem k0_off3_inb : ∀ (v122 : BitVec 32) (k0_hw3 : k0_chk3 v122), ∀ a, (k0_off3 v122) a + S1x1024.size a ≤ S8192x1024.size a := fun v122 k0_hw3 => k0_hw3

def k0_off4 (v127 : BitVec 32) : Fin 2 → Nat :=
  let c0_i32_71 : BitVec 32 := 0#32
  ![v127.toNat, 0]

def k0_chk4 (v127 : BitVec 32) : Prop :=
  (∀ a, (k0_off4 v127) a + S1x1024.size a ≤ S8192x1024.size a)
theorem k0_off4_inb : ∀ (v127 : BitVec 32) (k0_hw4 : k0_chk4 v127), ∀ a, (k0_off4 v127) a + S1x1024.size a ≤ S8192x1024.size a := fun v127 k0_hw4 => k0_hw4

def k0_off5 (v132 : BitVec 32) : Fin 2 → Nat :=
  let c0_i32_75 : BitVec 32 := 0#32
  ![v132.toNat, 0]

def k0_chk5 (v132 : BitVec 32) : Prop :=
  (∀ a, (k0_off5 v132) a + S1x1024.size a ≤ S8192x1024.size a)
theorem k0_off5_inb : ∀ (v132 : BitVec 32) (k0_hw5 : k0_chk5 v132), ∀ a, (k0_off5 v132) a + S1x1024.size a ≤ S8192x1024.size a := fun v132 k0_hw5 => k0_hw5

def k0_off6 (v137 : BitVec 32) : Fin 2 → Nat :=
  let c0_i32_78 : BitVec 32 := 0#32
  ![v137.toNat, 0]

def k0_chk6 (v137 : BitVec 32) : Prop :=
  (∀ a, (k0_off6 v137) a + S1x1024.size a ≤ S8192x1024.size a)
theorem k0_off6_inb : ∀ (v137 : BitVec 32) (k0_hw6 : k0_chk6 v137), ∀ a, (k0_off6 v137) a + S1x1024.size a ≤ S8192x1024.size a := fun v137 k0_hw6 => k0_hw6

def k0_off7 (v142 : BitVec 32) : Fin 2 → Nat :=
  let c0_i32_81 : BitVec 32 := 0#32
  ![v142.toNat, 0]

def k0_chk7 (v142 : BitVec 32) : Prop :=
  (∀ a, (k0_off7 v142) a + S1x1024.size a ≤ S8192x1024.size a)
theorem k0_off7_inb : ∀ (v142 : BitVec 32) (k0_hw7 : k0_chk7 v142), ∀ a, (k0_off7 v142) a + S1x1024.size a ≤ S8192x1024.size a := fun v142 k0_hw7 => k0_hw7

def k0_off8 (v147 : BitVec 32) : Fin 2 → Nat :=
  let c0_i32_84 : BitVec 32 := 0#32
  ![v147.toNat, 0]

def k0_chk8 (v147 : BitVec 32) : Prop :=
  (∀ a, (k0_off8 v147) a + S1x1024.size a ≤ S8192x1024.size a)
theorem k0_off8_inb : ∀ (v147 : BitVec 32) (k0_hw8 : k0_chk8 v147), ∀ a, (k0_off8 v147) a + S1x1024.size a ≤ S8192x1024.size a := fun v147 k0_hw8 => k0_hw8

def k0_off9 (v152 : BitVec 32) : Fin 2 → Nat :=
  let c0_i32_87 : BitVec 32 := 0#32
  ![v152.toNat, 0]

def k0_chk9 (v152 : BitVec 32) : Prop :=
  (∀ a, (k0_off9 v152) a + S1x1024.size a ≤ S8192x1024.size a)
theorem k0_off9_inb : ∀ (v152 : BitVec 32) (k0_hw9 : k0_chk9 v152), ∀ a, (k0_off9 v152) a + S1x1024.size a ≤ S8192x1024.size a := fun v152 k0_hw9 => k0_hw9

def k0_off10 (v157 : BitVec 32) : Fin 2 → Nat :=
  let c0_i32_90 : BitVec 32 := 0#32
  ![v157.toNat, 0]

def k0_chk10 (v157 : BitVec 32) : Prop :=
  (∀ a, (k0_off10 v157) a + S1x1024.size a ≤ S8192x1024.size a)
theorem k0_off10_inb : ∀ (v157 : BitVec 32) (k0_hw10 : k0_chk10 v157), ∀ a, (k0_off10 v157) a + S1x1024.size a ≤ S8192x1024.size a := fun v157 k0_hw10 => k0_hw10

def k0_off11 (v162 : BitVec 32) : Fin 2 → Nat :=
  let c0_i32_93 : BitVec 32 := 0#32
  ![v162.toNat, 0]

def k0_chk11 (v162 : BitVec 32) : Prop :=
  (∀ a, (k0_off11 v162) a + S1x1024.size a ≤ S8192x1024.size a)
theorem k0_off11_inb : ∀ (v162 : BitVec 32) (k0_hw11 : k0_chk11 v162), ∀ a, (k0_off11 v162) a + S1x1024.size a ≤ S8192x1024.size a := fun v162 k0_hw11 => k0_hw11

def k0_off12 (v167 : BitVec 32) : Fin 2 → Nat :=
  let c0_i32_96 : BitVec 32 := 0#32
  ![v167.toNat, 0]

def k0_chk12 (v167 : BitVec 32) : Prop :=
  (∀ a, (k0_off12 v167) a + S1x1024.size a ≤ S8192x1024.size a)
theorem k0_off12_inb : ∀ (v167 : BitVec 32) (k0_hw12 : k0_chk12 v167), ∀ a, (k0_off12 v167) a + S1x1024.size a ≤ S8192x1024.size a := fun v167 k0_hw12 => k0_hw12

def k0_off13 (v172 : BitVec 32) : Fin 2 → Nat :=
  let c0_i32_99 : BitVec 32 := 0#32
  ![v172.toNat, 0]

def k0_chk13 (v172 : BitVec 32) : Prop :=
  (∀ a, (k0_off13 v172) a + S1x1024.size a ≤ S8192x1024.size a)
theorem k0_off13_inb : ∀ (v172 : BitVec 32) (k0_hw13 : k0_chk13 v172), ∀ a, (k0_off13 v172) a + S1x1024.size a ≤ S8192x1024.size a := fun v172 k0_hw13 => k0_hw13

def k0_off14 (v177 : BitVec 32) : Fin 2 → Nat :=
  let c0_i32_102 : BitVec 32 := 0#32
  ![v177.toNat, 0]

def k0_chk14 (v177 : BitVec 32) : Prop :=
  (∀ a, (k0_off14 v177) a + S1x1024.size a ≤ S8192x1024.size a)
theorem k0_off14_inb : ∀ (v177 : BitVec 32) (k0_hw14 : k0_chk14 v177), ∀ a, (k0_off14 v177) a + S1x1024.size a ≤ S8192x1024.size a := fun v177 k0_hw14 => k0_hw14

def k0_off15 (v182 : BitVec 32) : Fin 2 → Nat :=
  let c0_i32_105 : BitVec 32 := 0#32
  ![v182.toNat, 0]

def k0_chk15 (v182 : BitVec 32) : Prop :=
  (∀ a, (k0_off15 v182) a + S1x1024.size a ≤ S8192x1024.size a)
theorem k0_off15_inb : ∀ (v182 : BitVec 32) (k0_hw15 : k0_chk15 v182), ∀ a, (k0_off15 v182) a + S1x1024.size a ≤ S8192x1024.size a := fun v182 k0_hw15 => k0_hw15

def k0_off16 (v187 : BitVec 32) : Fin 2 → Nat :=
  let c0_i32_108 : BitVec 32 := 0#32
  ![v187.toNat, 0]

def k0_chk16 (v187 : BitVec 32) : Prop :=
  (∀ a, (k0_off16 v187) a + S1x1024.size a ≤ S8192x1024.size a)
theorem k0_off16_inb : ∀ (v187 : BitVec 32) (k0_hw16 : k0_chk16 v187), ∀ a, (k0_off16 v187) a + S1x1024.size a ≤ S8192x1024.size a := fun v187 k0_hw16 => k0_hw16

def k0_off17 (v192 : BitVec 32) : Fin 2 → Nat :=
  let c0_i32_111 : BitVec 32 := 0#32
  ![v192.toNat, 0]

def k0_chk17 (v192 : BitVec 32) : Prop :=
  (∀ a, (k0_off17 v192) a + S1x1024.size a ≤ S8192x1024.size a)
theorem k0_off17_inb : ∀ (v192 : BitVec 32) (k0_hw17 : k0_chk17 v192), ∀ a, (k0_off17 v192) a + S1x1024.size a ≤ S8192x1024.size a := fun v192 k0_hw17 => k0_hw17

def k0_off18 (v197 : BitVec 32) : Fin 2 → Nat :=
  let c0_i32_114 : BitVec 32 := 0#32
  ![v197.toNat, 0]

def k0_chk18 (v197 : BitVec 32) : Prop :=
  (∀ a, (k0_off18 v197) a + S1x1024.size a ≤ S8192x1024.size a)
theorem k0_off18_inb : ∀ (v197 : BitVec 32) (k0_hw18 : k0_chk18 v197), ∀ a, (k0_off18 v197) a + S1x1024.size a ≤ S8192x1024.size a := fun v197 k0_hw18 => k0_hw18

def k0_off19 (v202 : BitVec 32) : Fin 2 → Nat :=
  let c0_i32_117 : BitVec 32 := 0#32
  ![v202.toNat, 0]

def k0_chk19 (v202 : BitVec 32) : Prop :=
  (∀ a, (k0_off19 v202) a + S1x1024.size a ≤ S8192x1024.size a)
theorem k0_off19_inb : ∀ (v202 : BitVec 32) (k0_hw19 : k0_chk19 v202), ∀ a, (k0_off19 v202) a + S1x1024.size a ≤ S8192x1024.size a := fun v202 k0_hw19 => k0_hw19

def k0_off20 (v207 : BitVec 32) : Fin 2 → Nat :=
  let c0_i32_120 : BitVec 32 := 0#32
  ![v207.toNat, 0]

def k0_chk20 (v207 : BitVec 32) : Prop :=
  (∀ a, (k0_off20 v207) a + S1x1024.size a ≤ S8192x1024.size a)
theorem k0_off20_inb : ∀ (v207 : BitVec 32) (k0_hw20 : k0_chk20 v207), ∀ a, (k0_off20 v207) a + S1x1024.size a ≤ S8192x1024.size a := fun v207 k0_hw20 => k0_hw20

def k0_off21 (v212 : BitVec 32) : Fin 2 → Nat :=
  let c0_i32_123 : BitVec 32 := 0#32
  ![v212.toNat, 0]

def k0_chk21 (v212 : BitVec 32) : Prop :=
  (∀ a, (k0_off21 v212) a + S1x1024.size a ≤ S8192x1024.size a)
theorem k0_off21_inb : ∀ (v212 : BitVec 32) (k0_hw21 : k0_chk21 v212), ∀ a, (k0_off21 v212) a + S1x1024.size a ≤ S8192x1024.size a := fun v212 k0_hw21 => k0_hw21

def k0_off22 (v217 : BitVec 32) : Fin 2 → Nat :=
  let c0_i32_126 : BitVec 32 := 0#32
  ![v217.toNat, 0]

def k0_chk22 (v217 : BitVec 32) : Prop :=
  (∀ a, (k0_off22 v217) a + S1x1024.size a ≤ S8192x1024.size a)
theorem k0_off22_inb : ∀ (v217 : BitVec 32) (k0_hw22 : k0_chk22 v217), ∀ a, (k0_off22 v217) a + S1x1024.size a ≤ S8192x1024.size a := fun v217 k0_hw22 => k0_hw22

def k0_off23 (v222 : BitVec 32) : Fin 2 → Nat :=
  let c0_i32_129 : BitVec 32 := 0#32
  ![v222.toNat, 0]

def k0_chk23 (v222 : BitVec 32) : Prop :=
  (∀ a, (k0_off23 v222) a + S1x1024.size a ≤ S8192x1024.size a)
theorem k0_off23_inb : ∀ (v222 : BitVec 32) (k0_hw23 : k0_chk23 v222), ∀ a, (k0_off23 v222) a + S1x1024.size a ≤ S8192x1024.size a := fun v222 k0_hw23 => k0_hw23

def k0_off24 (v227 : BitVec 32) : Fin 2 → Nat :=
  let c0_i32_132 : BitVec 32 := 0#32
  ![v227.toNat, 0]

def k0_chk24 (v227 : BitVec 32) : Prop :=
  (∀ a, (k0_off24 v227) a + S1x1024.size a ≤ S8192x1024.size a)
theorem k0_off24_inb : ∀ (v227 : BitVec 32) (k0_hw24 : k0_chk24 v227), ∀ a, (k0_off24 v227) a + S1x1024.size a ≤ S8192x1024.size a := fun v227 k0_hw24 => k0_hw24

def k0_off25 (v232 : BitVec 32) : Fin 2 → Nat :=
  let c0_i32_135 : BitVec 32 := 0#32
  ![v232.toNat, 0]

def k0_chk25 (v232 : BitVec 32) : Prop :=
  (∀ a, (k0_off25 v232) a + S1x1024.size a ≤ S8192x1024.size a)
theorem k0_off25_inb : ∀ (v232 : BitVec 32) (k0_hw25 : k0_chk25 v232), ∀ a, (k0_off25 v232) a + S1x1024.size a ≤ S8192x1024.size a := fun v232 k0_hw25 => k0_hw25

def k0_off26 (v237 : BitVec 32) : Fin 2 → Nat :=
  let c0_i32_138 : BitVec 32 := 0#32
  ![v237.toNat, 0]

def k0_chk26 (v237 : BitVec 32) : Prop :=
  (∀ a, (k0_off26 v237) a + S1x1024.size a ≤ S8192x1024.size a)
theorem k0_off26_inb : ∀ (v237 : BitVec 32) (k0_hw26 : k0_chk26 v237), ∀ a, (k0_off26 v237) a + S1x1024.size a ≤ S8192x1024.size a := fun v237 k0_hw26 => k0_hw26

def k0_off27 (v242 : BitVec 32) : Fin 2 → Nat :=
  let c0_i32_141 : BitVec 32 := 0#32
  ![v242.toNat, 0]

def k0_chk27 (v242 : BitVec 32) : Prop :=
  (∀ a, (k0_off27 v242) a + S1x1024.size a ≤ S8192x1024.size a)
theorem k0_off27_inb : ∀ (v242 : BitVec 32) (k0_hw27 : k0_chk27 v242), ∀ a, (k0_off27 v242) a + S1x1024.size a ≤ S8192x1024.size a := fun v242 k0_hw27 => k0_hw27

def k0_off28 (v247 : BitVec 32) : Fin 2 → Nat :=
  let c0_i32_144 : BitVec 32 := 0#32
  ![v247.toNat, 0]

def k0_chk28 (v247 : BitVec 32) : Prop :=
  (∀ a, (k0_off28 v247) a + S1x1024.size a ≤ S8192x1024.size a)
theorem k0_off28_inb : ∀ (v247 : BitVec 32) (k0_hw28 : k0_chk28 v247), ∀ a, (k0_off28 v247) a + S1x1024.size a ≤ S8192x1024.size a := fun v247 k0_hw28 => k0_hw28

def k0_off29 (v252 : BitVec 32) : Fin 2 → Nat :=
  let c0_i32_147 : BitVec 32 := 0#32
  ![v252.toNat, 0]

def k0_chk29 (v252 : BitVec 32) : Prop :=
  (∀ a, (k0_off29 v252) a + S1x1024.size a ≤ S8192x1024.size a)
theorem k0_off29_inb : ∀ (v252 : BitVec 32) (k0_hw29 : k0_chk29 v252), ∀ a, (k0_off29 v252) a + S1x1024.size a ≤ S8192x1024.size a := fun v252 k0_hw29 => k0_hw29

def k0_off30 (v257 : BitVec 32) : Fin 2 → Nat :=
  let c0_i32_150 : BitVec 32 := 0#32
  ![v257.toNat, 0]

def k0_chk30 (v257 : BitVec 32) : Prop :=
  (∀ a, (k0_off30 v257) a + S1x1024.size a ≤ S8192x1024.size a)
theorem k0_off30_inb : ∀ (v257 : BitVec 32) (k0_hw30 : k0_chk30 v257), ∀ a, (k0_off30 v257) a + S1x1024.size a ≤ S8192x1024.size a := fun v257 k0_hw30 => k0_hw30

def k0_off31 (v262 : BitVec 32) : Fin 2 → Nat :=
  let c0_i32_153 : BitVec 32 := 0#32
  ![v262.toNat, 0]

def k0_chk31 (v262 : BitVec 32) : Prop :=
  (∀ a, (k0_off31 v262) a + S1x1024.size a ≤ S8192x1024.size a)
theorem k0_off31_inb : ∀ (v262 : BitVec 32) (k0_hw31 : k0_chk31 v262), ∀ a, (k0_off31 v262) a + S1x1024.size a ≤ S8192x1024.size a := fun v262 k0_hw31 => k0_hw31

def k0_off32 (v267 : BitVec 32) : Fin 2 → Nat :=
  let c0_i32_156 : BitVec 32 := 0#32
  ![v267.toNat, 0]

def k0_chk32 (v267 : BitVec 32) : Prop :=
  (∀ a, (k0_off32 v267) a + S1x1024.size a ≤ S8192x1024.size a)
theorem k0_off32_inb : ∀ (v267 : BitVec 32) (k0_hw32 : k0_chk32 v267), ∀ a, (k0_off32 v267) a + S1x1024.size a ≤ S8192x1024.size a := fun v267 k0_hw32 => k0_hw32

def k0_off33 (v272 : BitVec 32) : Fin 2 → Nat :=
  let c0_i32_159 : BitVec 32 := 0#32
  ![v272.toNat, 0]

def k0_chk33 (v272 : BitVec 32) : Prop :=
  (∀ a, (k0_off33 v272) a + S1x1024.size a ≤ S8192x1024.size a)
theorem k0_off33_inb : ∀ (v272 : BitVec 32) (k0_hw33 : k0_chk33 v272), ∀ a, (k0_off33 v272) a + S1x1024.size a ≤ S8192x1024.size a := fun v272 k0_hw33 => k0_hw33

def k0_off34 (v277 : BitVec 32) : Fin 2 → Nat :=
  let c0_i32_162 : BitVec 32 := 0#32
  ![v277.toNat, 0]

def k0_chk34 (v277 : BitVec 32) : Prop :=
  (∀ a, (k0_off34 v277) a + S1x1024.size a ≤ S8192x1024.size a)
theorem k0_off34_inb : ∀ (v277 : BitVec 32) (k0_hw34 : k0_chk34 v277), ∀ a, (k0_off34 v277) a + S1x1024.size a ≤ S8192x1024.size a := fun v277 k0_hw34 => k0_hw34

def k0_off35 (v282 : BitVec 32) : Fin 2 → Nat :=
  let c0_i32_165 : BitVec 32 := 0#32
  ![v282.toNat, 0]

def k0_chk35 (v282 : BitVec 32) : Prop :=
  (∀ a, (k0_off35 v282) a + S1x1024.size a ≤ S8192x1024.size a)
theorem k0_off35_inb : ∀ (v282 : BitVec 32) (k0_hw35 : k0_chk35 v282), ∀ a, (k0_off35 v282) a + S1x1024.size a ≤ S8192x1024.size a := fun v282 k0_hw35 => k0_hw35

def k0_off36 (v287 : BitVec 32) : Fin 2 → Nat :=
  let c0_i32_168 : BitVec 32 := 0#32
  ![v287.toNat, 0]

def k0_chk36 (v287 : BitVec 32) : Prop :=
  (∀ a, (k0_off36 v287) a + S1x1024.size a ≤ S8192x1024.size a)
theorem k0_off36_inb : ∀ (v287 : BitVec 32) (k0_hw36 : k0_chk36 v287), ∀ a, (k0_off36 v287) a + S1x1024.size a ≤ S8192x1024.size a := fun v287 k0_hw36 => k0_hw36

def k0_off37 (v292 : BitVec 32) : Fin 2 → Nat :=
  let c0_i32_171 : BitVec 32 := 0#32
  ![v292.toNat, 0]

def k0_chk37 (v292 : BitVec 32) : Prop :=
  (∀ a, (k0_off37 v292) a + S1x1024.size a ≤ S8192x1024.size a)
theorem k0_off37_inb : ∀ (v292 : BitVec 32) (k0_hw37 : k0_chk37 v292), ∀ a, (k0_off37 v292) a + S1x1024.size a ≤ S8192x1024.size a := fun v292 k0_hw37 => k0_hw37

def k0_off38 (v297 : BitVec 32) : Fin 2 → Nat :=
  let c0_i32_174 : BitVec 32 := 0#32
  ![v297.toNat, 0]

def k0_chk38 (v297 : BitVec 32) : Prop :=
  (∀ a, (k0_off38 v297) a + S1x1024.size a ≤ S8192x1024.size a)
theorem k0_off38_inb : ∀ (v297 : BitVec 32) (k0_hw38 : k0_chk38 v297), ∀ a, (k0_off38 v297) a + S1x1024.size a ≤ S8192x1024.size a := fun v297 k0_hw38 => k0_hw38

def k0_off39 (v302 : BitVec 32) : Fin 2 → Nat :=
  let c0_i32_177 : BitVec 32 := 0#32
  ![v302.toNat, 0]

def k0_chk39 (v302 : BitVec 32) : Prop :=
  (∀ a, (k0_off39 v302) a + S1x1024.size a ≤ S8192x1024.size a)
theorem k0_off39_inb : ∀ (v302 : BitVec 32) (k0_hw39 : k0_chk39 v302), ∀ a, (k0_off39 v302) a + S1x1024.size a ≤ S8192x1024.size a := fun v302 k0_hw39 => k0_hw39

def k0_off40 (v307 : BitVec 32) : Fin 2 → Nat :=
  let c0_i32_180 : BitVec 32 := 0#32
  ![v307.toNat, 0]

def k0_chk40 (v307 : BitVec 32) : Prop :=
  (∀ a, (k0_off40 v307) a + S1x1024.size a ≤ S8192x1024.size a)
theorem k0_off40_inb : ∀ (v307 : BitVec 32) (k0_hw40 : k0_chk40 v307), ∀ a, (k0_off40 v307) a + S1x1024.size a ≤ S8192x1024.size a := fun v307 k0_hw40 => k0_hw40

def k0_off41 (v312 : BitVec 32) : Fin 2 → Nat :=
  let c0_i32_183 : BitVec 32 := 0#32
  ![v312.toNat, 0]

def k0_chk41 (v312 : BitVec 32) : Prop :=
  (∀ a, (k0_off41 v312) a + S1x1024.size a ≤ S8192x1024.size a)
theorem k0_off41_inb : ∀ (v312 : BitVec 32) (k0_hw41 : k0_chk41 v312), ∀ a, (k0_off41 v312) a + S1x1024.size a ≤ S8192x1024.size a := fun v312 k0_hw41 => k0_hw41

def k0_off42 (v317 : BitVec 32) : Fin 2 → Nat :=
  let c0_i32_186 : BitVec 32 := 0#32
  ![v317.toNat, 0]

def k0_chk42 (v317 : BitVec 32) : Prop :=
  (∀ a, (k0_off42 v317) a + S1x1024.size a ≤ S8192x1024.size a)
theorem k0_off42_inb : ∀ (v317 : BitVec 32) (k0_hw42 : k0_chk42 v317), ∀ a, (k0_off42 v317) a + S1x1024.size a ≤ S8192x1024.size a := fun v317 k0_hw42 => k0_hw42

def k0_off43 (v322 : BitVec 32) : Fin 2 → Nat :=
  let c0_i32_189 : BitVec 32 := 0#32
  ![v322.toNat, 0]

def k0_chk43 (v322 : BitVec 32) : Prop :=
  (∀ a, (k0_off43 v322) a + S1x1024.size a ≤ S8192x1024.size a)
theorem k0_off43_inb : ∀ (v322 : BitVec 32) (k0_hw43 : k0_chk43 v322), ∀ a, (k0_off43 v322) a + S1x1024.size a ≤ S8192x1024.size a := fun v322 k0_hw43 => k0_hw43

def k0_off44 (v327 : BitVec 32) : Fin 2 → Nat :=
  let c0_i32_192 : BitVec 32 := 0#32
  ![v327.toNat, 0]

def k0_chk44 (v327 : BitVec 32) : Prop :=
  (∀ a, (k0_off44 v327) a + S1x1024.size a ≤ S8192x1024.size a)
theorem k0_off44_inb : ∀ (v327 : BitVec 32) (k0_hw44 : k0_chk44 v327), ∀ a, (k0_off44 v327) a + S1x1024.size a ≤ S8192x1024.size a := fun v327 k0_hw44 => k0_hw44

def k0_off45 (v332 : BitVec 32) : Fin 2 → Nat :=
  let c0_i32_195 : BitVec 32 := 0#32
  ![v332.toNat, 0]

def k0_chk45 (v332 : BitVec 32) : Prop :=
  (∀ a, (k0_off45 v332) a + S1x1024.size a ≤ S8192x1024.size a)
theorem k0_off45_inb : ∀ (v332 : BitVec 32) (k0_hw45 : k0_chk45 v332), ∀ a, (k0_off45 v332) a + S1x1024.size a ≤ S8192x1024.size a := fun v332 k0_hw45 => k0_hw45

def k0_off46 (v337 : BitVec 32) : Fin 2 → Nat :=
  let c0_i32_198 : BitVec 32 := 0#32
  ![v337.toNat, 0]

def k0_chk46 (v337 : BitVec 32) : Prop :=
  (∀ a, (k0_off46 v337) a + S1x1024.size a ≤ S8192x1024.size a)
theorem k0_off46_inb : ∀ (v337 : BitVec 32) (k0_hw46 : k0_chk46 v337), ∀ a, (k0_off46 v337) a + S1x1024.size a ≤ S8192x1024.size a := fun v337 k0_hw46 => k0_hw46

def k0_off47 (v342 : BitVec 32) : Fin 2 → Nat :=
  let c0_i32_201 : BitVec 32 := 0#32
  ![v342.toNat, 0]

def k0_chk47 (v342 : BitVec 32) : Prop :=
  (∀ a, (k0_off47 v342) a + S1x1024.size a ≤ S8192x1024.size a)
theorem k0_off47_inb : ∀ (v342 : BitVec 32) (k0_hw47 : k0_chk47 v342), ∀ a, (k0_off47 v342) a + S1x1024.size a ≤ S8192x1024.size a := fun v342 k0_hw47 => k0_hw47

def k0_off48 (v347 : BitVec 32) : Fin 2 → Nat :=
  let c0_i32_204 : BitVec 32 := 0#32
  ![v347.toNat, 0]

def k0_chk48 (v347 : BitVec 32) : Prop :=
  (∀ a, (k0_off48 v347) a + S1x1024.size a ≤ S8192x1024.size a)
theorem k0_off48_inb : ∀ (v347 : BitVec 32) (k0_hw48 : k0_chk48 v347), ∀ a, (k0_off48 v347) a + S1x1024.size a ≤ S8192x1024.size a := fun v347 k0_hw48 => k0_hw48

def k0_off49 (v352 : BitVec 32) : Fin 2 → Nat :=
  let c0_i32_207 : BitVec 32 := 0#32
  ![v352.toNat, 0]

def k0_chk49 (v352 : BitVec 32) : Prop :=
  (∀ a, (k0_off49 v352) a + S1x1024.size a ≤ S8192x1024.size a)
theorem k0_off49_inb : ∀ (v352 : BitVec 32) (k0_hw49 : k0_chk49 v352), ∀ a, (k0_off49 v352) a + S1x1024.size a ≤ S8192x1024.size a := fun v352 k0_hw49 => k0_hw49

def k0_off50 (v357 : BitVec 32) : Fin 2 → Nat :=
  let c0_i32_210 : BitVec 32 := 0#32
  ![v357.toNat, 0]

def k0_chk50 (v357 : BitVec 32) : Prop :=
  (∀ a, (k0_off50 v357) a + S1x1024.size a ≤ S8192x1024.size a)
theorem k0_off50_inb : ∀ (v357 : BitVec 32) (k0_hw50 : k0_chk50 v357), ∀ a, (k0_off50 v357) a + S1x1024.size a ≤ S8192x1024.size a := fun v357 k0_hw50 => k0_hw50

def k0_off51 (v362 : BitVec 32) : Fin 2 → Nat :=
  let c0_i32_213 : BitVec 32 := 0#32
  ![v362.toNat, 0]

def k0_chk51 (v362 : BitVec 32) : Prop :=
  (∀ a, (k0_off51 v362) a + S1x1024.size a ≤ S8192x1024.size a)
theorem k0_off51_inb : ∀ (v362 : BitVec 32) (k0_hw51 : k0_chk51 v362), ∀ a, (k0_off51 v362) a + S1x1024.size a ≤ S8192x1024.size a := fun v362 k0_hw51 => k0_hw51

def k0_off52 (v367 : BitVec 32) : Fin 2 → Nat :=
  let c0_i32_216 : BitVec 32 := 0#32
  ![v367.toNat, 0]

def k0_chk52 (v367 : BitVec 32) : Prop :=
  (∀ a, (k0_off52 v367) a + S1x1024.size a ≤ S8192x1024.size a)
theorem k0_off52_inb : ∀ (v367 : BitVec 32) (k0_hw52 : k0_chk52 v367), ∀ a, (k0_off52 v367) a + S1x1024.size a ≤ S8192x1024.size a := fun v367 k0_hw52 => k0_hw52

def k0_off53 (v372 : BitVec 32) : Fin 2 → Nat :=
  let c0_i32_219 : BitVec 32 := 0#32
  ![v372.toNat, 0]

def k0_chk53 (v372 : BitVec 32) : Prop :=
  (∀ a, (k0_off53 v372) a + S1x1024.size a ≤ S8192x1024.size a)
theorem k0_off53_inb : ∀ (v372 : BitVec 32) (k0_hw53 : k0_chk53 v372), ∀ a, (k0_off53 v372) a + S1x1024.size a ≤ S8192x1024.size a := fun v372 k0_hw53 => k0_hw53

def k0_off54 (v377 : BitVec 32) : Fin 2 → Nat :=
  let c0_i32_222 : BitVec 32 := 0#32
  ![v377.toNat, 0]

def k0_chk54 (v377 : BitVec 32) : Prop :=
  (∀ a, (k0_off54 v377) a + S1x1024.size a ≤ S8192x1024.size a)
theorem k0_off54_inb : ∀ (v377 : BitVec 32) (k0_hw54 : k0_chk54 v377), ∀ a, (k0_off54 v377) a + S1x1024.size a ≤ S8192x1024.size a := fun v377 k0_hw54 => k0_hw54

def k0_off55 (v382 : BitVec 32) : Fin 2 → Nat :=
  let c0_i32_225 : BitVec 32 := 0#32
  ![v382.toNat, 0]

def k0_chk55 (v382 : BitVec 32) : Prop :=
  (∀ a, (k0_off55 v382) a + S1x1024.size a ≤ S8192x1024.size a)
theorem k0_off55_inb : ∀ (v382 : BitVec 32) (k0_hw55 : k0_chk55 v382), ∀ a, (k0_off55 v382) a + S1x1024.size a ≤ S8192x1024.size a := fun v382 k0_hw55 => k0_hw55

def k0_off56 (v387 : BitVec 32) : Fin 2 → Nat :=
  let c0_i32_228 : BitVec 32 := 0#32
  ![v387.toNat, 0]

def k0_chk56 (v387 : BitVec 32) : Prop :=
  (∀ a, (k0_off56 v387) a + S1x1024.size a ≤ S8192x1024.size a)
theorem k0_off56_inb : ∀ (v387 : BitVec 32) (k0_hw56 : k0_chk56 v387), ∀ a, (k0_off56 v387) a + S1x1024.size a ≤ S8192x1024.size a := fun v387 k0_hw56 => k0_hw56

def k0_off57 (v392 : BitVec 32) : Fin 2 → Nat :=
  let c0_i32_231 : BitVec 32 := 0#32
  ![v392.toNat, 0]

def k0_chk57 (v392 : BitVec 32) : Prop :=
  (∀ a, (k0_off57 v392) a + S1x1024.size a ≤ S8192x1024.size a)
theorem k0_off57_inb : ∀ (v392 : BitVec 32) (k0_hw57 : k0_chk57 v392), ∀ a, (k0_off57 v392) a + S1x1024.size a ≤ S8192x1024.size a := fun v392 k0_hw57 => k0_hw57

def k0_off58 (v397 : BitVec 32) : Fin 2 → Nat :=
  let c0_i32_234 : BitVec 32 := 0#32
  ![v397.toNat, 0]

def k0_chk58 (v397 : BitVec 32) : Prop :=
  (∀ a, (k0_off58 v397) a + S1x1024.size a ≤ S8192x1024.size a)
theorem k0_off58_inb : ∀ (v397 : BitVec 32) (k0_hw58 : k0_chk58 v397), ∀ a, (k0_off58 v397) a + S1x1024.size a ≤ S8192x1024.size a := fun v397 k0_hw58 => k0_hw58

def k0_off59 (v402 : BitVec 32) : Fin 2 → Nat :=
  let c0_i32_237 : BitVec 32 := 0#32
  ![v402.toNat, 0]

def k0_chk59 (v402 : BitVec 32) : Prop :=
  (∀ a, (k0_off59 v402) a + S1x1024.size a ≤ S8192x1024.size a)
theorem k0_off59_inb : ∀ (v402 : BitVec 32) (k0_hw59 : k0_chk59 v402), ∀ a, (k0_off59 v402) a + S1x1024.size a ≤ S8192x1024.size a := fun v402 k0_hw59 => k0_hw59

def k0_off60 (v407 : BitVec 32) : Fin 2 → Nat :=
  let c0_i32_240 : BitVec 32 := 0#32
  ![v407.toNat, 0]

def k0_chk60 (v407 : BitVec 32) : Prop :=
  (∀ a, (k0_off60 v407) a + S1x1024.size a ≤ S8192x1024.size a)
theorem k0_off60_inb : ∀ (v407 : BitVec 32) (k0_hw60 : k0_chk60 v407), ∀ a, (k0_off60 v407) a + S1x1024.size a ≤ S8192x1024.size a := fun v407 k0_hw60 => k0_hw60

def k0_off61 (v412 : BitVec 32) : Fin 2 → Nat :=
  let c0_i32_243 : BitVec 32 := 0#32
  ![v412.toNat, 0]

def k0_chk61 (v412 : BitVec 32) : Prop :=
  (∀ a, (k0_off61 v412) a + S1x1024.size a ≤ S8192x1024.size a)
theorem k0_off61_inb : ∀ (v412 : BitVec 32) (k0_hw61 : k0_chk61 v412), ∀ a, (k0_off61 v412) a + S1x1024.size a ≤ S8192x1024.size a := fun v412 k0_hw61 => k0_hw61

def k0_off62 (v417 : BitVec 32) : Fin 2 → Nat :=
  let c0_i32_246 : BitVec 32 := 0#32
  ![v417.toNat, 0]

def k0_chk62 (v417 : BitVec 32) : Prop :=
  (∀ a, (k0_off62 v417) a + S1x1024.size a ≤ S8192x1024.size a)
theorem k0_off62_inb : ∀ (v417 : BitVec 32) (k0_hw62 : k0_chk62 v417), ∀ a, (k0_off62 v417) a + S1x1024.size a ≤ S8192x1024.size a := fun v417 k0_hw62 => k0_hw62

def k0_off63 (v422 : BitVec 32) : Fin 2 → Nat :=
  let c0_i32_249 : BitVec 32 := 0#32
  ![v422.toNat, 0]

def k0_chk63 (v422 : BitVec 32) : Prop :=
  (∀ a, (k0_off63 v422) a + S1x1024.size a ≤ S8192x1024.size a)
theorem k0_off63_inb : ∀ (v422 : BitVec 32) (k0_hw63 : k0_chk63 v422), ∀ a, (k0_off63 v422) a + S1x1024.size a ≤ S8192x1024.size a := fun v422 k0_hw63 => k0_hw63

def k0_off64 (v427 : BitVec 32) : Fin 2 → Nat :=
  let c0_i32_252 : BitVec 32 := 0#32
  ![v427.toNat, 0]

def k0_chk64 (v427 : BitVec 32) : Prop :=
  (∀ a, (k0_off64 v427) a + S1x1024.size a ≤ S8192x1024.size a)
theorem k0_off64_inb : ∀ (v427 : BitVec 32) (k0_hw64 : k0_chk64 v427), ∀ a, (k0_off64 v427) a + S1x1024.size a ≤ S8192x1024.size a := fun v427 k0_hw64 => k0_hw64

def k0_dev1 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v433 : BitVec 32 := Scalar.muli v2 c4_i32_254
  let v434 : BitVec 32 := Scalar.addi c0_i32_255 v433
  let c1_i32_55 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_55 v5
  let c2_i32_256 : BitVec 32 := 2#32
  let v435 : BitVec 32 := Scalar.muli v111 c2_i32_256
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v437 : BitVec 32 := Scalar.muli v8 c1_i32_257
  let v438 : BitVec 32 := Scalar.addi v436 v437
  v438.toNat
def k0_dev2 (d0 : Dev nD) : Nat :=
  let c0_i32_260 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_30 : BitVec 32 := 0#32
  let v56 : BitVec 1 := Scalar.cmpi .sgt v32 c0_i32_30
  let v57 : BitVec 32 := Scalar.extui v56
  let c0_i32_31 : BitVec 32 := 0#32
  let v58 : BitVec 1 := Scalar.cmpi .slt v32 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v32 c2_i32_29
  let c0_i32_34 : BitVec 32 := 0#32
  let v68 : BitVec 1 := Scalar.cmpi .ne v67 c0_i32_34
  let v69 : BitVec 1 := Scalar.andi v66 v68
  let v55 : BitVec 32 := Scalar.divsi v32 c2_i32_29
  let c1_i32_35 : BitVec 32 := 1#32
  let v70 : BitVec 32 := Scalar.subi v55 c1_i32_35
  let v71 : BitVec 32 := Scalar.select v69 v70 v55
  let c4_i32_259 : BitVec 32 := 4#32
  let v439 : BitVec 32 := Scalar.muli v71 c4_i32_259
  let v440 : BitVec 32 := Scalar.addi c0_i32_260 v439
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v441 : BitVec 32 := Scalar.muli v5 c2_i32_261
  let v442 : BitVec 32 := Scalar.addi v440 v441
  let v72 : BitVec 32 := Scalar.addi v71 v32
  let c2_i32_36 : BitVec 32 := 2#32
  let c0_i32_37 : BitVec 32 := 0#32
  let v73 : BitVec 1 := Scalar.cmpi .eq c2_i32_36 c0_i32_37
  let c1_i32_38 : BitVec 32 := 1#32
  let v74 : BitVec 32 := Scalar.select v73 c1_i32_38 c2_i32_36
  let v75 : BitVec 32 := Scalar.remsi v72 v74
  let c0_i32_40 : BitVec 32 := 0#32
  let v77 : BitVec 1 := Scalar.cmpi .slt v75 c0_i32_40
  let c0_i32_41 : BitVec 32 := 0#32
  let v78 : BitVec 1 := Scalar.cmpi .slt v74 c0_i32_41
  let v79 : BitVec 1 := Scalar.xori v77 v78
  let c0_i32_39 : BitVec 32 := 0#32
  let v76 : BitVec 1 := Scalar.cmpi .ne v75 c0_i32_39
  let v80 : BitVec 1 := Scalar.andi v79 v76
  let v81 : BitVec 32 := Scalar.addi v75 v74
  let v82 : BitVec 32 := Scalar.select v80 v81 v75
  let c1_i32_262 : BitVec 32 := 1#32
  let v443 : BitVec 32 := Scalar.muli v82 c1_i32_262
  let v444 : BitVec 32 := Scalar.addi v442 v443
  v444.toNat
def k0_dev3 (d0 : Dev nD) : Nat :=
  let c0_i32_265 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_43 : BitVec 32 := 0#32
  let v84 : BitVec 1 := Scalar.cmpi .sgt v43 c0_i32_43
  let v85 : BitVec 32 := Scalar.extui v84
  let c0_i32_44 : BitVec 32 := 0#32
  let v86 : BitVec 1 := Scalar.cmpi .slt v43 c0_i32_44
  let v87 : BitVec 32 := Scalar.extui v86
  let v88 : BitVec 32 := Scalar.subi v85 v87
  let c2_i32_42 : BitVec 32 := 2#32
  let c0_i32_45 : BitVec 32 := 0#32
  let v89 : BitVec 1 := Scalar.cmpi .sgt c2_i32_42 c0_i32_45
  let v90 : BitVec 32 := Scalar.extui v89
  let c0_i32_46 : BitVec 32 := 0#32
  let v91 : BitVec 1 := Scalar.cmpi .slt c2_i32_42 c0_i32_46
  let v92 : BitVec 32 := Scalar.extui v91
  let v93 : BitVec 32 := Scalar.subi v90 v92
  let v94 : BitVec 1 := Scalar.cmpi .ne v88 v93
  let v95 : BitVec 32 := Scalar.remsi v43 c2_i32_42
  let c0_i32_47 : BitVec 32 := 0#32
  let v96 : BitVec 1 := Scalar.cmpi .ne v95 c0_i32_47
  let v97 : BitVec 1 := Scalar.andi v94 v96
  let v83 : BitVec 32 := Scalar.divsi v43 c2_i32_42
  let c1_i32_48 : BitVec 32 := 1#32
  let v98 : BitVec 32 := Scalar.subi v83 c1_i32_48
  let v99 : BitVec 32 := Scalar.select v97 v98 v83
  let c4_i32_264 : BitVec 32 := 4#32
  let v445 : BitVec 32 := Scalar.muli v99 c4_i32_264
  let v446 : BitVec 32 := Scalar.addi c0_i32_265 v445
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_266 : BitVec 32 := 2#32
  let v447 : BitVec 32 := Scalar.muli v5 c2_i32_266
  let v448 : BitVec 32 := Scalar.addi v446 v447
  let v100 : BitVec 32 := Scalar.addi v99 v43
  let c2_i32_49 : BitVec 32 := 2#32
  let c0_i32_50 : BitVec 32 := 0#32
  let v101 : BitVec 1 := Scalar.cmpi .eq c2_i32_49 c0_i32_50
  let c1_i32_51 : BitVec 32 := 1#32
  let v102 : BitVec 32 := Scalar.select v101 c1_i32_51 c2_i32_49
  let v103 : BitVec 32 := Scalar.remsi v100 v102
  let c0_i32_53 : BitVec 32 := 0#32
  let v105 : BitVec 1 := Scalar.cmpi .slt v103 c0_i32_53
  let c0_i32_54 : BitVec 32 := 0#32
  let v106 : BitVec 1 := Scalar.cmpi .slt v102 c0_i32_54
  let v107 : BitVec 1 := Scalar.xori v105 v106
  let c0_i32_52 : BitVec 32 := 0#32
  let v104 : BitVec 1 := Scalar.cmpi .ne v103 c0_i32_52
  let v108 : BitVec 1 := Scalar.andi v107 v104
  let v109 : BitVec 32 := Scalar.addi v103 v102
  let v110 : BitVec 32 := Scalar.select v108 v109 v103
  let c1_i32_267 : BitVec 32 := 1#32
  let v449 : BitVec 32 := Scalar.muli v110 c1_i32_267
  let v450 : BitVec 32 := Scalar.addi v448 v449
  v450.toNat
def k0_off65 (v451 : BitVec 32) : Fin 2 → Nat :=
  let c0_i32_271 : BitVec 32 := 0#32
  ![v451.toNat, 0]

def k0_chk65 (v451 : BitVec 32) : Prop :=
  (∀ a, (k0_off65 v451) a + S1x1024.size a ≤ S8192x1024.size a)
theorem k0_off65_inb : ∀ (v451 : BitVec 32) (k0_hw65 : k0_chk65 v451), ∀ a, (k0_off65 v451) a + S1x1024.size a ≤ S8192x1024.size a := fun v451 k0_hw65 => k0_hw65

def k0_off66 (v456 : BitVec 32) : Fin 2 → Nat :=
  let c0_i32_274 : BitVec 32 := 0#32
  ![v456.toNat, 0]

def k0_chk66 (v456 : BitVec 32) : Prop :=
  (∀ a, (k0_off66 v456) a + S1x1024.size a ≤ S8192x1024.size a)
theorem k0_off66_inb : ∀ (v456 : BitVec 32) (k0_hw66 : k0_chk66 v456), ∀ a, (k0_off66 v456) a + S1x1024.size a ≤ S8192x1024.size a := fun v456 k0_hw66 => k0_hw66

def k0_off67 (v461 : BitVec 32) : Fin 2 → Nat :=
  let c0_i32_277 : BitVec 32 := 0#32
  ![v461.toNat, 0]

def k0_chk67 (v461 : BitVec 32) : Prop :=
  (∀ a, (k0_off67 v461) a + S1x1024.size a ≤ S8192x1024.size a)
theorem k0_off67_inb : ∀ (v461 : BitVec 32) (k0_hw67 : k0_chk67 v461), ∀ a, (k0_off67 v461) a + S1x1024.size a ≤ S8192x1024.size a := fun v461 k0_hw67 => k0_hw67

def k0_off68 (v466 : BitVec 32) : Fin 2 → Nat :=
  let c0_i32_280 : BitVec 32 := 0#32
  ![v466.toNat, 0]

def k0_chk68 (v466 : BitVec 32) : Prop :=
  (∀ a, (k0_off68 v466) a + S1x1024.size a ≤ S8192x1024.size a)
theorem k0_off68_inb : ∀ (v466 : BitVec 32) (k0_hw68 : k0_chk68 v466), ∀ a, (k0_off68 v466) a + S1x1024.size a ≤ S8192x1024.size a := fun v466 k0_hw68 => k0_hw68

def k0_off69 (v471 : BitVec 32) : Fin 2 → Nat :=
  let c0_i32_283 : BitVec 32 := 0#32
  ![v471.toNat, 0]

def k0_chk69 (v471 : BitVec 32) : Prop :=
  (∀ a, (k0_off69 v471) a + S1x1024.size a ≤ S8192x1024.size a)
theorem k0_off69_inb : ∀ (v471 : BitVec 32) (k0_hw69 : k0_chk69 v471), ∀ a, (k0_off69 v471) a + S1x1024.size a ≤ S8192x1024.size a := fun v471 k0_hw69 => k0_hw69

def k0_off70 (v476 : BitVec 32) : Fin 2 → Nat :=
  let c0_i32_286 : BitVec 32 := 0#32
  ![v476.toNat, 0]

def k0_chk70 (v476 : BitVec 32) : Prop :=
  (∀ a, (k0_off70 v476) a + S1x1024.size a ≤ S8192x1024.size a)
theorem k0_off70_inb : ∀ (v476 : BitVec 32) (k0_hw70 : k0_chk70 v476), ∀ a, (k0_off70 v476) a + S1x1024.size a ≤ S8192x1024.size a := fun v476 k0_hw70 => k0_hw70

def k0_off71 (v481 : BitVec 32) : Fin 2 → Nat :=
  let c0_i32_289 : BitVec 32 := 0#32
  ![v481.toNat, 0]

def k0_chk71 (v481 : BitVec 32) : Prop :=
  (∀ a, (k0_off71 v481) a + S1x1024.size a ≤ S8192x1024.size a)
theorem k0_off71_inb : ∀ (v481 : BitVec 32) (k0_hw71 : k0_chk71 v481), ∀ a, (k0_off71 v481) a + S1x1024.size a ≤ S8192x1024.size a := fun v481 k0_hw71 => k0_hw71

def k0_off72 (v486 : BitVec 32) : Fin 2 → Nat :=
  let c0_i32_292 : BitVec 32 := 0#32
  ![v486.toNat, 0]

def k0_chk72 (v486 : BitVec 32) : Prop :=
  (∀ a, (k0_off72 v486) a + S1x1024.size a ≤ S8192x1024.size a)
theorem k0_off72_inb : ∀ (v486 : BitVec 32) (k0_hw72 : k0_chk72 v486), ∀ a, (k0_off72 v486) a + S1x1024.size a ≤ S8192x1024.size a := fun v486 k0_hw72 => k0_hw72

def k0_off73 (v491 : BitVec 32) : Fin 2 → Nat :=
  let c0_i32_295 : BitVec 32 := 0#32
  ![v491.toNat, 0]

def k0_chk73 (v491 : BitVec 32) : Prop :=
  (∀ a, (k0_off73 v491) a + S1x1024.size a ≤ S8192x1024.size a)
theorem k0_off73_inb : ∀ (v491 : BitVec 32) (k0_hw73 : k0_chk73 v491), ∀ a, (k0_off73 v491) a + S1x1024.size a ≤ S8192x1024.size a := fun v491 k0_hw73 => k0_hw73

def k0_off74 (v496 : BitVec 32) : Fin 2 → Nat :=
  let c0_i32_298 : BitVec 32 := 0#32
  ![v496.toNat, 0]

def k0_chk74 (v496 : BitVec 32) : Prop :=
  (∀ a, (k0_off74 v496) a + S1x1024.size a ≤ S8192x1024.size a)
theorem k0_off74_inb : ∀ (v496 : BitVec 32) (k0_hw74 : k0_chk74 v496), ∀ a, (k0_off74 v496) a + S1x1024.size a ≤ S8192x1024.size a := fun v496 k0_hw74 => k0_hw74

def k0_off75 (v501 : BitVec 32) : Fin 2 → Nat :=
  let c0_i32_301 : BitVec 32 := 0#32
  ![v501.toNat, 0]

def k0_chk75 (v501 : BitVec 32) : Prop :=
  (∀ a, (k0_off75 v501) a + S1x1024.size a ≤ S8192x1024.size a)
theorem k0_off75_inb : ∀ (v501 : BitVec 32) (k0_hw75 : k0_chk75 v501), ∀ a, (k0_off75 v501) a + S1x1024.size a ≤ S8192x1024.size a := fun v501 k0_hw75 => k0_hw75

def k0_off76 (v506 : BitVec 32) : Fin 2 → Nat :=
  let c0_i32_304 : BitVec 32 := 0#32
  ![v506.toNat, 0]

def k0_chk76 (v506 : BitVec 32) : Prop :=
  (∀ a, (k0_off76 v506) a + S1x1024.size a ≤ S8192x1024.size a)
theorem k0_off76_inb : ∀ (v506 : BitVec 32) (k0_hw76 : k0_chk76 v506), ∀ a, (k0_off76 v506) a + S1x1024.size a ≤ S8192x1024.size a := fun v506 k0_hw76 => k0_hw76

def k0_off77 (v511 : BitVec 32) : Fin 2 → Nat :=
  let c0_i32_307 : BitVec 32 := 0#32
  ![v511.toNat, 0]

def k0_chk77 (v511 : BitVec 32) : Prop :=
  (∀ a, (k0_off77 v511) a + S1x1024.size a ≤ S8192x1024.size a)
theorem k0_off77_inb : ∀ (v511 : BitVec 32) (k0_hw77 : k0_chk77 v511), ∀ a, (k0_off77 v511) a + S1x1024.size a ≤ S8192x1024.size a := fun v511 k0_hw77 => k0_hw77

def k0_off78 (v516 : BitVec 32) : Fin 2 → Nat :=
  let c0_i32_310 : BitVec 32 := 0#32
  ![v516.toNat, 0]

def k0_chk78 (v516 : BitVec 32) : Prop :=
  (∀ a, (k0_off78 v516) a + S1x1024.size a ≤ S8192x1024.size a)
theorem k0_off78_inb : ∀ (v516 : BitVec 32) (k0_hw78 : k0_chk78 v516), ∀ a, (k0_off78 v516) a + S1x1024.size a ≤ S8192x1024.size a := fun v516 k0_hw78 => k0_hw78

def k0_off79 (v521 : BitVec 32) : Fin 2 → Nat :=
  let c0_i32_313 : BitVec 32 := 0#32
  ![v521.toNat, 0]

def k0_chk79 (v521 : BitVec 32) : Prop :=
  (∀ a, (k0_off79 v521) a + S1x1024.size a ≤ S8192x1024.size a)
theorem k0_off79_inb : ∀ (v521 : BitVec 32) (k0_hw79 : k0_chk79 v521), ∀ a, (k0_off79 v521) a + S1x1024.size a ≤ S8192x1024.size a := fun v521 k0_hw79 => k0_hw79

def k0_off80 (v526 : BitVec 32) : Fin 2 → Nat :=
  let c0_i32_316 : BitVec 32 := 0#32
  ![v526.toNat, 0]

def k0_chk80 (v526 : BitVec 32) : Prop :=
  (∀ a, (k0_off80 v526) a + S1x1024.size a ≤ S8192x1024.size a)
theorem k0_off80_inb : ∀ (v526 : BitVec 32) (k0_hw80 : k0_chk80 v526), ∀ a, (k0_off80 v526) a + S1x1024.size a ≤ S8192x1024.size a := fun v526 k0_hw80 => k0_hw80

def k0_off81 (v531 : BitVec 32) : Fin 2 → Nat :=
  let c0_i32_319 : BitVec 32 := 0#32
  ![v531.toNat, 0]

def k0_chk81 (v531 : BitVec 32) : Prop :=
  (∀ a, (k0_off81 v531) a + S1x1024.size a ≤ S8192x1024.size a)
theorem k0_off81_inb : ∀ (v531 : BitVec 32) (k0_hw81 : k0_chk81 v531), ∀ a, (k0_off81 v531) a + S1x1024.size a ≤ S8192x1024.size a := fun v531 k0_hw81 => k0_hw81

def k0_off82 (v536 : BitVec 32) : Fin 2 → Nat :=
  let c0_i32_322 : BitVec 32 := 0#32
  ![v536.toNat, 0]

def k0_chk82 (v536 : BitVec 32) : Prop :=
  (∀ a, (k0_off82 v536) a + S1x1024.size a ≤ S8192x1024.size a)
theorem k0_off82_inb : ∀ (v536 : BitVec 32) (k0_hw82 : k0_chk82 v536), ∀ a, (k0_off82 v536) a + S1x1024.size a ≤ S8192x1024.size a := fun v536 k0_hw82 => k0_hw82

def k0_off83 (v541 : BitVec 32) : Fin 2 → Nat :=
  let c0_i32_325 : BitVec 32 := 0#32
  ![v541.toNat, 0]

def k0_chk83 (v541 : BitVec 32) : Prop :=
  (∀ a, (k0_off83 v541) a + S1x1024.size a ≤ S8192x1024.size a)
theorem k0_off83_inb : ∀ (v541 : BitVec 32) (k0_hw83 : k0_chk83 v541), ∀ a, (k0_off83 v541) a + S1x1024.size a ≤ S8192x1024.size a := fun v541 k0_hw83 => k0_hw83

def k0_off84 (v546 : BitVec 32) : Fin 2 → Nat :=
  let c0_i32_328 : BitVec 32 := 0#32
  ![v546.toNat, 0]

def k0_chk84 (v546 : BitVec 32) : Prop :=
  (∀ a, (k0_off84 v546) a + S1x1024.size a ≤ S8192x1024.size a)
theorem k0_off84_inb : ∀ (v546 : BitVec 32) (k0_hw84 : k0_chk84 v546), ∀ a, (k0_off84 v546) a + S1x1024.size a ≤ S8192x1024.size a := fun v546 k0_hw84 => k0_hw84

def k0_off85 (v551 : BitVec 32) : Fin 2 → Nat :=
  let c0_i32_331 : BitVec 32 := 0#32
  ![v551.toNat, 0]

def k0_chk85 (v551 : BitVec 32) : Prop :=
  (∀ a, (k0_off85 v551) a + S1x1024.size a ≤ S8192x1024.size a)
theorem k0_off85_inb : ∀ (v551 : BitVec 32) (k0_hw85 : k0_chk85 v551), ∀ a, (k0_off85 v551) a + S1x1024.size a ≤ S8192x1024.size a := fun v551 k0_hw85 => k0_hw85

def k0_off86 (v556 : BitVec 32) : Fin 2 → Nat :=
  let c0_i32_334 : BitVec 32 := 0#32
  ![v556.toNat, 0]

def k0_chk86 (v556 : BitVec 32) : Prop :=
  (∀ a, (k0_off86 v556) a + S1x1024.size a ≤ S8192x1024.size a)
theorem k0_off86_inb : ∀ (v556 : BitVec 32) (k0_hw86 : k0_chk86 v556), ∀ a, (k0_off86 v556) a + S1x1024.size a ≤ S8192x1024.size a := fun v556 k0_hw86 => k0_hw86

def k0_off87 (v561 : BitVec 32) : Fin 2 → Nat :=
  let c0_i32_337 : BitVec 32 := 0#32
  ![v561.toNat, 0]

def k0_chk87 (v561 : BitVec 32) : Prop :=
  (∀ a, (k0_off87 v561) a + S1x1024.size a ≤ S8192x1024.size a)
theorem k0_off87_inb : ∀ (v561 : BitVec 32) (k0_hw87 : k0_chk87 v561), ∀ a, (k0_off87 v561) a + S1x1024.size a ≤ S8192x1024.size a := fun v561 k0_hw87 => k0_hw87

def k0_off88 (v566 : BitVec 32) : Fin 2 → Nat :=
  let c0_i32_340 : BitVec 32 := 0#32
  ![v566.toNat, 0]

def k0_chk88 (v566 : BitVec 32) : Prop :=
  (∀ a, (k0_off88 v566) a + S1x1024.size a ≤ S8192x1024.size a)
theorem k0_off88_inb : ∀ (v566 : BitVec 32) (k0_hw88 : k0_chk88 v566), ∀ a, (k0_off88 v566) a + S1x1024.size a ≤ S8192x1024.size a := fun v566 k0_hw88 => k0_hw88

def k0_off89 (v571 : BitVec 32) : Fin 2 → Nat :=
  let c0_i32_343 : BitVec 32 := 0#32
  ![v571.toNat, 0]

def k0_chk89 (v571 : BitVec 32) : Prop :=
  (∀ a, (k0_off89 v571) a + S1x1024.size a ≤ S8192x1024.size a)
theorem k0_off89_inb : ∀ (v571 : BitVec 32) (k0_hw89 : k0_chk89 v571), ∀ a, (k0_off89 v571) a + S1x1024.size a ≤ S8192x1024.size a := fun v571 k0_hw89 => k0_hw89

def k0_off90 (v576 : BitVec 32) : Fin 2 → Nat :=
  let c0_i32_346 : BitVec 32 := 0#32
  ![v576.toNat, 0]

def k0_chk90 (v576 : BitVec 32) : Prop :=
  (∀ a, (k0_off90 v576) a + S1x1024.size a ≤ S8192x1024.size a)
theorem k0_off90_inb : ∀ (v576 : BitVec 32) (k0_hw90 : k0_chk90 v576), ∀ a, (k0_off90 v576) a + S1x1024.size a ≤ S8192x1024.size a := fun v576 k0_hw90 => k0_hw90

def k0_off91 (v581 : BitVec 32) : Fin 2 → Nat :=
  let c0_i32_349 : BitVec 32 := 0#32
  ![v581.toNat, 0]

def k0_chk91 (v581 : BitVec 32) : Prop :=
  (∀ a, (k0_off91 v581) a + S1x1024.size a ≤ S8192x1024.size a)
theorem k0_off91_inb : ∀ (v581 : BitVec 32) (k0_hw91 : k0_chk91 v581), ∀ a, (k0_off91 v581) a + S1x1024.size a ≤ S8192x1024.size a := fun v581 k0_hw91 => k0_hw91

def k0_off92 (v586 : BitVec 32) : Fin 2 → Nat :=
  let c0_i32_352 : BitVec 32 := 0#32
  ![v586.toNat, 0]

def k0_chk92 (v586 : BitVec 32) : Prop :=
  (∀ a, (k0_off92 v586) a + S1x1024.size a ≤ S8192x1024.size a)
theorem k0_off92_inb : ∀ (v586 : BitVec 32) (k0_hw92 : k0_chk92 v586), ∀ a, (k0_off92 v586) a + S1x1024.size a ≤ S8192x1024.size a := fun v586 k0_hw92 => k0_hw92

def k0_off93 (v591 : BitVec 32) : Fin 2 → Nat :=
  let c0_i32_355 : BitVec 32 := 0#32
  ![v591.toNat, 0]

def k0_chk93 (v591 : BitVec 32) : Prop :=
  (∀ a, (k0_off93 v591) a + S1x1024.size a ≤ S8192x1024.size a)
theorem k0_off93_inb : ∀ (v591 : BitVec 32) (k0_hw93 : k0_chk93 v591), ∀ a, (k0_off93 v591) a + S1x1024.size a ≤ S8192x1024.size a := fun v591 k0_hw93 => k0_hw93

def k0_off94 (v596 : BitVec 32) : Fin 2 → Nat :=
  let c0_i32_358 : BitVec 32 := 0#32
  ![v596.toNat, 0]

def k0_chk94 (v596 : BitVec 32) : Prop :=
  (∀ a, (k0_off94 v596) a + S1x1024.size a ≤ S8192x1024.size a)
theorem k0_off94_inb : ∀ (v596 : BitVec 32) (k0_hw94 : k0_chk94 v596), ∀ a, (k0_off94 v596) a + S1x1024.size a ≤ S8192x1024.size a := fun v596 k0_hw94 => k0_hw94

def k0_off95 (v601 : BitVec 32) : Fin 2 → Nat :=
  let c0_i32_361 : BitVec 32 := 0#32
  ![v601.toNat, 0]

def k0_chk95 (v601 : BitVec 32) : Prop :=
  (∀ a, (k0_off95 v601) a + S1x1024.size a ≤ S8192x1024.size a)
theorem k0_off95_inb : ∀ (v601 : BitVec 32) (k0_hw95 : k0_chk95 v601), ∀ a, (k0_off95 v601) a + S1x1024.size a ≤ S8192x1024.size a := fun v601 k0_hw95 => k0_hw95

def k0_off96 (v606 : BitVec 32) : Fin 2 → Nat :=
  let c0_i32_364 : BitVec 32 := 0#32
  ![v606.toNat, 0]

def k0_chk96 (v606 : BitVec 32) : Prop :=
  (∀ a, (k0_off96 v606) a + S1x1024.size a ≤ S8192x1024.size a)
theorem k0_off96_inb : ∀ (v606 : BitVec 32) (k0_hw96 : k0_chk96 v606), ∀ a, (k0_off96 v606) a + S1x1024.size a ≤ S8192x1024.size a := fun v606 k0_hw96 => k0_hw96

def k0_off97 (v611 : BitVec 32) : Fin 2 → Nat :=
  let c0_i32_367 : BitVec 32 := 0#32
  ![v611.toNat, 0]

def k0_chk97 (v611 : BitVec 32) : Prop :=
  (∀ a, (k0_off97 v611) a + S1x1024.size a ≤ S8192x1024.size a)
theorem k0_off97_inb : ∀ (v611 : BitVec 32) (k0_hw97 : k0_chk97 v611), ∀ a, (k0_off97 v611) a + S1x1024.size a ≤ S8192x1024.size a := fun v611 k0_hw97 => k0_hw97

def k0_off98 (v616 : BitVec 32) : Fin 2 → Nat :=
  let c0_i32_370 : BitVec 32 := 0#32
  ![v616.toNat, 0]

def k0_chk98 (v616 : BitVec 32) : Prop :=
  (∀ a, (k0_off98 v616) a + S1x1024.size a ≤ S8192x1024.size a)
theorem k0_off98_inb : ∀ (v616 : BitVec 32) (k0_hw98 : k0_chk98 v616), ∀ a, (k0_off98 v616) a + S1x1024.size a ≤ S8192x1024.size a := fun v616 k0_hw98 => k0_hw98

def k0_off99 (v621 : BitVec 32) : Fin 2 → Nat :=
  let c0_i32_373 : BitVec 32 := 0#32
  ![v621.toNat, 0]

def k0_chk99 (v621 : BitVec 32) : Prop :=
  (∀ a, (k0_off99 v621) a + S1x1024.size a ≤ S8192x1024.size a)
theorem k0_off99_inb : ∀ (v621 : BitVec 32) (k0_hw99 : k0_chk99 v621), ∀ a, (k0_off99 v621) a + S1x1024.size a ≤ S8192x1024.size a := fun v621 k0_hw99 => k0_hw99

def k0_off100 (v626 : BitVec 32) : Fin 2 → Nat :=
  let c0_i32_376 : BitVec 32 := 0#32
  ![v626.toNat, 0]

def k0_chk100 (v626 : BitVec 32) : Prop :=
  (∀ a, (k0_off100 v626) a + S1x1024.size a ≤ S8192x1024.size a)
theorem k0_off100_inb : ∀ (v626 : BitVec 32) (k0_hw100 : k0_chk100 v626), ∀ a, (k0_off100 v626) a + S1x1024.size a ≤ S8192x1024.size a := fun v626 k0_hw100 => k0_hw100

def k0_off101 (v631 : BitVec 32) : Fin 2 → Nat :=
  let c0_i32_379 : BitVec 32 := 0#32
  ![v631.toNat, 0]

def k0_chk101 (v631 : BitVec 32) : Prop :=
  (∀ a, (k0_off101 v631) a + S1x1024.size a ≤ S8192x1024.size a)
theorem k0_off101_inb : ∀ (v631 : BitVec 32) (k0_hw101 : k0_chk101 v631), ∀ a, (k0_off101 v631) a + S1x1024.size a ≤ S8192x1024.size a := fun v631 k0_hw101 => k0_hw101

def k0_off102 (v636 : BitVec 32) : Fin 2 → Nat :=
  let c0_i32_382 : BitVec 32 := 0#32
  ![v636.toNat, 0]

def k0_chk102 (v636 : BitVec 32) : Prop :=
  (∀ a, (k0_off102 v636) a + S1x1024.size a ≤ S8192x1024.size a)
theorem k0_off102_inb : ∀ (v636 : BitVec 32) (k0_hw102 : k0_chk102 v636), ∀ a, (k0_off102 v636) a + S1x1024.size a ≤ S8192x1024.size a := fun v636 k0_hw102 => k0_hw102

def k0_off103 (v641 : BitVec 32) : Fin 2 → Nat :=
  let c0_i32_385 : BitVec 32 := 0#32
  ![v641.toNat, 0]

def k0_chk103 (v641 : BitVec 32) : Prop :=
  (∀ a, (k0_off103 v641) a + S1x1024.size a ≤ S8192x1024.size a)
theorem k0_off103_inb : ∀ (v641 : BitVec 32) (k0_hw103 : k0_chk103 v641), ∀ a, (k0_off103 v641) a + S1x1024.size a ≤ S8192x1024.size a := fun v641 k0_hw103 => k0_hw103

def k0_off104 (v646 : BitVec 32) : Fin 2 → Nat :=
  let c0_i32_388 : BitVec 32 := 0#32
  ![v646.toNat, 0]

def k0_chk104 (v646 : BitVec 32) : Prop :=
  (∀ a, (k0_off104 v646) a + S1x1024.size a ≤ S8192x1024.size a)
theorem k0_off104_inb : ∀ (v646 : BitVec 32) (k0_hw104 : k0_chk104 v646), ∀ a, (k0_off104 v646) a + S1x1024.size a ≤ S8192x1024.size a := fun v646 k0_hw104 => k0_hw104

def k0_off105 (v651 : BitVec 32) : Fin 2 → Nat :=
  let c0_i32_391 : BitVec 32 := 0#32
  ![v651.toNat, 0]

def k0_chk105 (v651 : BitVec 32) : Prop :=
  (∀ a, (k0_off105 v651) a + S1x1024.size a ≤ S8192x1024.size a)
theorem k0_off105_inb : ∀ (v651 : BitVec 32) (k0_hw105 : k0_chk105 v651), ∀ a, (k0_off105 v651) a + S1x1024.size a ≤ S8192x1024.size a := fun v651 k0_hw105 => k0_hw105

def k0_off106 (v656 : BitVec 32) : Fin 2 → Nat :=
  let c0_i32_394 : BitVec 32 := 0#32
  ![v656.toNat, 0]

def k0_chk106 (v656 : BitVec 32) : Prop :=
  (∀ a, (k0_off106 v656) a + S1x1024.size a ≤ S8192x1024.size a)
theorem k0_off106_inb : ∀ (v656 : BitVec 32) (k0_hw106 : k0_chk106 v656), ∀ a, (k0_off106 v656) a + S1x1024.size a ≤ S8192x1024.size a := fun v656 k0_hw106 => k0_hw106

def k0_off107 (v661 : BitVec 32) : Fin 2 → Nat :=
  let c0_i32_397 : BitVec 32 := 0#32
  ![v661.toNat, 0]

def k0_chk107 (v661 : BitVec 32) : Prop :=
  (∀ a, (k0_off107 v661) a + S1x1024.size a ≤ S8192x1024.size a)
theorem k0_off107_inb : ∀ (v661 : BitVec 32) (k0_hw107 : k0_chk107 v661), ∀ a, (k0_off107 v661) a + S1x1024.size a ≤ S8192x1024.size a := fun v661 k0_hw107 => k0_hw107

def k0_off108 (v666 : BitVec 32) : Fin 2 → Nat :=
  let c0_i32_400 : BitVec 32 := 0#32
  ![v666.toNat, 0]

def k0_chk108 (v666 : BitVec 32) : Prop :=
  (∀ a, (k0_off108 v666) a + S1x1024.size a ≤ S8192x1024.size a)
theorem k0_off108_inb : ∀ (v666 : BitVec 32) (k0_hw108 : k0_chk108 v666), ∀ a, (k0_off108 v666) a + S1x1024.size a ≤ S8192x1024.size a := fun v666 k0_hw108 => k0_hw108

def k0_off109 (v671 : BitVec 32) : Fin 2 → Nat :=
  let c0_i32_403 : BitVec 32 := 0#32
  ![v671.toNat, 0]

def k0_chk109 (v671 : BitVec 32) : Prop :=
  (∀ a, (k0_off109 v671) a + S1x1024.size a ≤ S8192x1024.size a)
theorem k0_off109_inb : ∀ (v671 : BitVec 32) (k0_hw109 : k0_chk109 v671), ∀ a, (k0_off109 v671) a + S1x1024.size a ≤ S8192x1024.size a := fun v671 k0_hw109 => k0_hw109

def k0_off110 (v676 : BitVec 32) : Fin 2 → Nat :=
  let c0_i32_406 : BitVec 32 := 0#32
  ![v676.toNat, 0]

def k0_chk110 (v676 : BitVec 32) : Prop :=
  (∀ a, (k0_off110 v676) a + S1x1024.size a ≤ S8192x1024.size a)
theorem k0_off110_inb : ∀ (v676 : BitVec 32) (k0_hw110 : k0_chk110 v676), ∀ a, (k0_off110 v676) a + S1x1024.size a ≤ S8192x1024.size a := fun v676 k0_hw110 => k0_hw110

def k0_off111 (v681 : BitVec 32) : Fin 2 → Nat :=
  let c0_i32_409 : BitVec 32 := 0#32
  ![v681.toNat, 0]

def k0_chk111 (v681 : BitVec 32) : Prop :=
  (∀ a, (k0_off111 v681) a + S1x1024.size a ≤ S8192x1024.size a)
theorem k0_off111_inb : ∀ (v681 : BitVec 32) (k0_hw111 : k0_chk111 v681), ∀ a, (k0_off111 v681) a + S1x1024.size a ≤ S8192x1024.size a := fun v681 k0_hw111 => k0_hw111

def k0_off112 (v686 : BitVec 32) : Fin 2 → Nat :=
  let c0_i32_412 : BitVec 32 := 0#32
  ![v686.toNat, 0]

def k0_chk112 (v686 : BitVec 32) : Prop :=
  (∀ a, (k0_off112 v686) a + S1x1024.size a ≤ S8192x1024.size a)
theorem k0_off112_inb : ∀ (v686 : BitVec 32) (k0_hw112 : k0_chk112 v686), ∀ a, (k0_off112 v686) a + S1x1024.size a ≤ S8192x1024.size a := fun v686 k0_hw112 => k0_hw112

def k0_off113 (v691 : BitVec 32) : Fin 2 → Nat :=
  let c0_i32_415 : BitVec 32 := 0#32
  ![v691.toNat, 0]

def k0_chk113 (v691 : BitVec 32) : Prop :=
  (∀ a, (k0_off113 v691) a + S1x1024.size a ≤ S8192x1024.size a)
theorem k0_off113_inb : ∀ (v691 : BitVec 32) (k0_hw113 : k0_chk113 v691), ∀ a, (k0_off113 v691) a + S1x1024.size a ≤ S8192x1024.size a := fun v691 k0_hw113 => k0_hw113

def k0_off114 (v696 : BitVec 32) : Fin 2 → Nat :=
  let c0_i32_418 : BitVec 32 := 0#32
  ![v696.toNat, 0]

def k0_chk114 (v696 : BitVec 32) : Prop :=
  (∀ a, (k0_off114 v696) a + S1x1024.size a ≤ S8192x1024.size a)
theorem k0_off114_inb : ∀ (v696 : BitVec 32) (k0_hw114 : k0_chk114 v696), ∀ a, (k0_off114 v696) a + S1x1024.size a ≤ S8192x1024.size a := fun v696 k0_hw114 => k0_hw114

def k0_off115 (v701 : BitVec 32) : Fin 2 → Nat :=
  let c0_i32_421 : BitVec 32 := 0#32
  ![v701.toNat, 0]

def k0_chk115 (v701 : BitVec 32) : Prop :=
  (∀ a, (k0_off115 v701) a + S1x1024.size a ≤ S8192x1024.size a)
theorem k0_off115_inb : ∀ (v701 : BitVec 32) (k0_hw115 : k0_chk115 v701), ∀ a, (k0_off115 v701) a + S1x1024.size a ≤ S8192x1024.size a := fun v701 k0_hw115 => k0_hw115

def k0_off116 (v706 : BitVec 32) : Fin 2 → Nat :=
  let c0_i32_424 : BitVec 32 := 0#32
  ![v706.toNat, 0]

def k0_chk116 (v706 : BitVec 32) : Prop :=
  (∀ a, (k0_off116 v706) a + S1x1024.size a ≤ S8192x1024.size a)
theorem k0_off116_inb : ∀ (v706 : BitVec 32) (k0_hw116 : k0_chk116 v706), ∀ a, (k0_off116 v706) a + S1x1024.size a ≤ S8192x1024.size a := fun v706 k0_hw116 => k0_hw116

def k0_off117 (v711 : BitVec 32) : Fin 2 → Nat :=
  let c0_i32_427 : BitVec 32 := 0#32
  ![v711.toNat, 0]

def k0_chk117 (v711 : BitVec 32) : Prop :=
  (∀ a, (k0_off117 v711) a + S1x1024.size a ≤ S8192x1024.size a)
theorem k0_off117_inb : ∀ (v711 : BitVec 32) (k0_hw117 : k0_chk117 v711), ∀ a, (k0_off117 v711) a + S1x1024.size a ≤ S8192x1024.size a := fun v711 k0_hw117 => k0_hw117

def k0_off118 (v716 : BitVec 32) : Fin 2 → Nat :=
  let c0_i32_430 : BitVec 32 := 0#32
  ![v716.toNat, 0]

def k0_chk118 (v716 : BitVec 32) : Prop :=
  (∀ a, (k0_off118 v716) a + S1x1024.size a ≤ S8192x1024.size a)
theorem k0_off118_inb : ∀ (v716 : BitVec 32) (k0_hw118 : k0_chk118 v716), ∀ a, (k0_off118 v716) a + S1x1024.size a ≤ S8192x1024.size a := fun v716 k0_hw118 => k0_hw118

def k0_off119 (v721 : BitVec 32) : Fin 2 → Nat :=
  let c0_i32_433 : BitVec 32 := 0#32
  ![v721.toNat, 0]

def k0_chk119 (v721 : BitVec 32) : Prop :=
  (∀ a, (k0_off119 v721) a + S1x1024.size a ≤ S8192x1024.size a)
theorem k0_off119_inb : ∀ (v721 : BitVec 32) (k0_hw119 : k0_chk119 v721), ∀ a, (k0_off119 v721) a + S1x1024.size a ≤ S8192x1024.size a := fun v721 k0_hw119 => k0_hw119

def k0_off120 (v726 : BitVec 32) : Fin 2 → Nat :=
  let c0_i32_436 : BitVec 32 := 0#32
  ![v726.toNat, 0]

def k0_chk120 (v726 : BitVec 32) : Prop :=
  (∀ a, (k0_off120 v726) a + S1x1024.size a ≤ S8192x1024.size a)
theorem k0_off120_inb : ∀ (v726 : BitVec 32) (k0_hw120 : k0_chk120 v726), ∀ a, (k0_off120 v726) a + S1x1024.size a ≤ S8192x1024.size a := fun v726 k0_hw120 => k0_hw120

def k0_off121 (v731 : BitVec 32) : Fin 2 → Nat :=
  let c0_i32_439 : BitVec 32 := 0#32
  ![v731.toNat, 0]

def k0_chk121 (v731 : BitVec 32) : Prop :=
  (∀ a, (k0_off121 v731) a + S1x1024.size a ≤ S8192x1024.size a)
theorem k0_off121_inb : ∀ (v731 : BitVec 32) (k0_hw121 : k0_chk121 v731), ∀ a, (k0_off121 v731) a + S1x1024.size a ≤ S8192x1024.size a := fun v731 k0_hw121 => k0_hw121

def k0_off122 (v736 : BitVec 32) : Fin 2 → Nat :=
  let c0_i32_442 : BitVec 32 := 0#32
  ![v736.toNat, 0]

def k0_chk122 (v736 : BitVec 32) : Prop :=
  (∀ a, (k0_off122 v736) a + S1x1024.size a ≤ S8192x1024.size a)
theorem k0_off122_inb : ∀ (v736 : BitVec 32) (k0_hw122 : k0_chk122 v736), ∀ a, (k0_off122 v736) a + S1x1024.size a ≤ S8192x1024.size a := fun v736 k0_hw122 => k0_hw122

def k0_off123 (v741 : BitVec 32) : Fin 2 → Nat :=
  let c0_i32_445 : BitVec 32 := 0#32
  ![v741.toNat, 0]

def k0_chk123 (v741 : BitVec 32) : Prop :=
  (∀ a, (k0_off123 v741) a + S1x1024.size a ≤ S8192x1024.size a)
theorem k0_off123_inb : ∀ (v741 : BitVec 32) (k0_hw123 : k0_chk123 v741), ∀ a, (k0_off123 v741) a + S1x1024.size a ≤ S8192x1024.size a := fun v741 k0_hw123 => k0_hw123

def k0_off124 (v746 : BitVec 32) : Fin 2 → Nat :=
  let c0_i32_448 : BitVec 32 := 0#32
  ![v746.toNat, 0]

def k0_chk124 (v746 : BitVec 32) : Prop :=
  (∀ a, (k0_off124 v746) a + S1x1024.size a ≤ S8192x1024.size a)
theorem k0_off124_inb : ∀ (v746 : BitVec 32) (k0_hw124 : k0_chk124 v746), ∀ a, (k0_off124 v746) a + S1x1024.size a ≤ S8192x1024.size a := fun v746 k0_hw124 => k0_hw124

def k0_off125 (v751 : BitVec 32) : Fin 2 → Nat :=
  let c0_i32_451 : BitVec 32 := 0#32
  ![v751.toNat, 0]

def k0_chk125 (v751 : BitVec 32) : Prop :=
  (∀ a, (k0_off125 v751) a + S1x1024.size a ≤ S8192x1024.size a)
theorem k0_off125_inb : ∀ (v751 : BitVec 32) (k0_hw125 : k0_chk125 v751), ∀ a, (k0_off125 v751) a + S1x1024.size a ≤ S8192x1024.size a := fun v751 k0_hw125 => k0_hw125

def k0_off126 (v756 : BitVec 32) : Fin 2 → Nat :=
  let c0_i32_454 : BitVec 32 := 0#32
  ![v756.toNat, 0]

def k0_chk126 (v756 : BitVec 32) : Prop :=
  (∀ a, (k0_off126 v756) a + S1x1024.size a ≤ S8192x1024.size a)
theorem k0_off126_inb : ∀ (v756 : BitVec 32) (k0_hw126 : k0_chk126 v756), ∀ a, (k0_off126 v756) a + S1x1024.size a ≤ S8192x1024.size a := fun v756 k0_hw126 => k0_hw126

def k0_off127 (v761 : BitVec 32) : Fin 2 → Nat :=
  let c0_i32_457 : BitVec 32 := 0#32
  ![v761.toNat, 0]

def k0_chk127 (v761 : BitVec 32) : Prop :=
  (∀ a, (k0_off127 v761) a + S1x1024.size a ≤ S8192x1024.size a)
theorem k0_off127_inb : ∀ (v761 : BitVec 32) (k0_hw127 : k0_chk127 v761), ∀ a, (k0_off127 v761) a + S1x1024.size a ≤ S8192x1024.size a := fun v761 k0_hw127 => k0_hw127

def k0_off128 (v766 : BitVec 32) : Fin 2 → Nat :=
  let c0_i32_460 : BitVec 32 := 0#32
  ![v766.toNat, 0]

def k0_chk128 (v766 : BitVec 32) : Prop :=
  (∀ a, (k0_off128 v766) a + S1x1024.size a ≤ S8192x1024.size a)
theorem k0_off128_inb : ∀ (v766 : BitVec 32) (k0_hw128 : k0_chk128 v766), ∀ a, (k0_off128 v766) a + S1x1024.size a ≤ S8192x1024.size a := fun v766 k0_hw128 => k0_hw128

def k0_dev4 (d0 : Dev nD) : Nat :=
  let c0_i32_469 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_468 : BitVec 32 := 4#32
  let v775 : BitVec 32 := Scalar.muli v2 c4_i32_468
  let v776 : BitVec 32 := Scalar.addi c0_i32_469 v775
  let c1_i32_55 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_55 v5
  let c2_i32_470 : BitVec 32 := 2#32
  let v777 : BitVec 32 := Scalar.muli v111 c2_i32_470
  let v778 : BitVec 32 := Scalar.addi v776 v777
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_471 : BitVec 32 := 1#32
  let v779 : BitVec 32 := Scalar.muli v8 c1_i32_471
  let v780 : BitVec 32 := Scalar.addi v778 v779
  v780.toNat
def k0_off129 (v787 : BitVec 32) : Fin 2 → Nat :=
  let c0_i32_478 : BitVec 32 := 0#32
  ![v787.toNat, 0]

def k0_chk129 (v787 : BitVec 32) : Prop :=
  (∀ a, (k0_off129 v787) a + S1x1024.size a ≤ S8192x1024.size a)
theorem k0_off129_inb : ∀ (v787 : BitVec 32) (k0_hw129 : k0_chk129 v787), ∀ a, (k0_off129 v787) a + S1x1024.size a ≤ S8192x1024.size a := fun v787 k0_hw129 => k0_hw129

def k0_off130 (v792 : BitVec 32) : Fin 2 → Nat :=
  let c0_i32_481 : BitVec 32 := 0#32
  ![v792.toNat, 0]

def k0_chk130 (v792 : BitVec 32) : Prop :=
  (∀ a, (k0_off130 v792) a + S1x1024.size a ≤ S8192x1024.size a)
theorem k0_off130_inb : ∀ (v792 : BitVec 32) (k0_hw130 : k0_chk130 v792), ∀ a, (k0_off130 v792) a + S1x1024.size a ≤ S8192x1024.size a := fun v792 k0_hw130 => k0_hw130

def k0_off131 (v797 : BitVec 32) : Fin 2 → Nat :=
  let c0_i32_484 : BitVec 32 := 0#32
  ![v797.toNat, 0]

def k0_chk131 (v797 : BitVec 32) : Prop :=
  (∀ a, (k0_off131 v797) a + S1x1024.size a ≤ S8192x1024.size a)
theorem k0_off131_inb : ∀ (v797 : BitVec 32) (k0_hw131 : k0_chk131 v797), ∀ a, (k0_off131 v797) a + S1x1024.size a ≤ S8192x1024.size a := fun v797 k0_hw131 => k0_hw131

def k0_off132 (v802 : BitVec 32) : Fin 2 → Nat :=
  let c0_i32_487 : BitVec 32 := 0#32
  ![v802.toNat, 0]

def k0_chk132 (v802 : BitVec 32) : Prop :=
  (∀ a, (k0_off132 v802) a + S1x1024.size a ≤ S8192x1024.size a)
theorem k0_off132_inb : ∀ (v802 : BitVec 32) (k0_hw132 : k0_chk132 v802), ∀ a, (k0_off132 v802) a + S1x1024.size a ≤ S8192x1024.size a := fun v802 k0_hw132 => k0_hw132

def k0_off133 (v807 : BitVec 32) : Fin 2 → Nat :=
  let c0_i32_490 : BitVec 32 := 0#32
  ![v807.toNat, 0]

def k0_chk133 (v807 : BitVec 32) : Prop :=
  (∀ a, (k0_off133 v807) a + S1x1024.size a ≤ S8192x1024.size a)
theorem k0_off133_inb : ∀ (v807 : BitVec 32) (k0_hw133 : k0_chk133 v807), ∀ a, (k0_off133 v807) a + S1x1024.size a ≤ S8192x1024.size a := fun v807 k0_hw133 => k0_hw133

def k0_off134 (v812 : BitVec 32) : Fin 2 → Nat :=
  let c0_i32_493 : BitVec 32 := 0#32
  ![v812.toNat, 0]

def k0_chk134 (v812 : BitVec 32) : Prop :=
  (∀ a, (k0_off134 v812) a + S1x1024.size a ≤ S8192x1024.size a)
theorem k0_off134_inb : ∀ (v812 : BitVec 32) (k0_hw134 : k0_chk134 v812), ∀ a, (k0_off134 v812) a + S1x1024.size a ≤ S8192x1024.size a := fun v812 k0_hw134 => k0_hw134

def k0_off135 (v817 : BitVec 32) : Fin 2 → Nat :=
  let c0_i32_496 : BitVec 32 := 0#32
  ![v817.toNat, 0]

def k0_chk135 (v817 : BitVec 32) : Prop :=
  (∀ a, (k0_off135 v817) a + S1x1024.size a ≤ S8192x1024.size a)
theorem k0_off135_inb : ∀ (v817 : BitVec 32) (k0_hw135 : k0_chk135 v817), ∀ a, (k0_off135 v817) a + S1x1024.size a ≤ S8192x1024.size a := fun v817 k0_hw135 => k0_hw135

def k0_off136 (v822 : BitVec 32) : Fin 2 → Nat :=
  let c0_i32_499 : BitVec 32 := 0#32
  ![v822.toNat, 0]

def k0_chk136 (v822 : BitVec 32) : Prop :=
  (∀ a, (k0_off136 v822) a + S1x1024.size a ≤ S8192x1024.size a)
theorem k0_off136_inb : ∀ (v822 : BitVec 32) (k0_hw136 : k0_chk136 v822), ∀ a, (k0_off136 v822) a + S1x1024.size a ≤ S8192x1024.size a := fun v822 k0_hw136 => k0_hw136

def k0_off137 (v827 : BitVec 32) : Fin 2 → Nat :=
  let c0_i32_502 : BitVec 32 := 0#32
  ![v827.toNat, 0]

def k0_chk137 (v827 : BitVec 32) : Prop :=
  (∀ a, (k0_off137 v827) a + S1x1024.size a ≤ S8192x1024.size a)
theorem k0_off137_inb : ∀ (v827 : BitVec 32) (k0_hw137 : k0_chk137 v827), ∀ a, (k0_off137 v827) a + S1x1024.size a ≤ S8192x1024.size a := fun v827 k0_hw137 => k0_hw137

def k0_off138 (v832 : BitVec 32) : Fin 2 → Nat :=
  let c0_i32_505 : BitVec 32 := 0#32
  ![v832.toNat, 0]

def k0_chk138 (v832 : BitVec 32) : Prop :=
  (∀ a, (k0_off138 v832) a + S1x1024.size a ≤ S8192x1024.size a)
theorem k0_off138_inb : ∀ (v832 : BitVec 32) (k0_hw138 : k0_chk138 v832), ∀ a, (k0_off138 v832) a + S1x1024.size a ≤ S8192x1024.size a := fun v832 k0_hw138 => k0_hw138

def k0_off139 (v837 : BitVec 32) : Fin 2 → Nat :=
  let c0_i32_508 : BitVec 32 := 0#32
  ![v837.toNat, 0]

def k0_chk139 (v837 : BitVec 32) : Prop :=
  (∀ a, (k0_off139 v837) a + S1x1024.size a ≤ S8192x1024.size a)
theorem k0_off139_inb : ∀ (v837 : BitVec 32) (k0_hw139 : k0_chk139 v837), ∀ a, (k0_off139 v837) a + S1x1024.size a ≤ S8192x1024.size a := fun v837 k0_hw139 => k0_hw139

def k0_off140 (v842 : BitVec 32) : Fin 2 → Nat :=
  let c0_i32_511 : BitVec 32 := 0#32
  ![v842.toNat, 0]

def k0_chk140 (v842 : BitVec 32) : Prop :=
  (∀ a, (k0_off140 v842) a + S1x1024.size a ≤ S8192x1024.size a)
theorem k0_off140_inb : ∀ (v842 : BitVec 32) (k0_hw140 : k0_chk140 v842), ∀ a, (k0_off140 v842) a + S1x1024.size a ≤ S8192x1024.size a := fun v842 k0_hw140 => k0_hw140

def k0_off141 (v847 : BitVec 32) : Fin 2 → Nat :=
  let c0_i32_514 : BitVec 32 := 0#32
  ![v847.toNat, 0]

def k0_chk141 (v847 : BitVec 32) : Prop :=
  (∀ a, (k0_off141 v847) a + S1x1024.size a ≤ S8192x1024.size a)
theorem k0_off141_inb : ∀ (v847 : BitVec 32) (k0_hw141 : k0_chk141 v847), ∀ a, (k0_off141 v847) a + S1x1024.size a ≤ S8192x1024.size a := fun v847 k0_hw141 => k0_hw141

def k0_off142 (v852 : BitVec 32) : Fin 2 → Nat :=
  let c0_i32_517 : BitVec 32 := 0#32
  ![v852.toNat, 0]

def k0_chk142 (v852 : BitVec 32) : Prop :=
  (∀ a, (k0_off142 v852) a + S1x1024.size a ≤ S8192x1024.size a)
theorem k0_off142_inb : ∀ (v852 : BitVec 32) (k0_hw142 : k0_chk142 v852), ∀ a, (k0_off142 v852) a + S1x1024.size a ≤ S8192x1024.size a := fun v852 k0_hw142 => k0_hw142

def k0_off143 (v857 : BitVec 32) : Fin 2 → Nat :=
  let c0_i32_520 : BitVec 32 := 0#32
  ![v857.toNat, 0]

def k0_chk143 (v857 : BitVec 32) : Prop :=
  (∀ a, (k0_off143 v857) a + S1x1024.size a ≤ S8192x1024.size a)
theorem k0_off143_inb : ∀ (v857 : BitVec 32) (k0_hw143 : k0_chk143 v857), ∀ a, (k0_off143 v857) a + S1x1024.size a ≤ S8192x1024.size a := fun v857 k0_hw143 => k0_hw143

def k0_off144 (v862 : BitVec 32) : Fin 2 → Nat :=
  let c0_i32_523 : BitVec 32 := 0#32
  ![v862.toNat, 0]

def k0_chk144 (v862 : BitVec 32) : Prop :=
  (∀ a, (k0_off144 v862) a + S1x1024.size a ≤ S8192x1024.size a)
theorem k0_off144_inb : ∀ (v862 : BitVec 32) (k0_hw144 : k0_chk144 v862), ∀ a, (k0_off144 v862) a + S1x1024.size a ≤ S8192x1024.size a := fun v862 k0_hw144 => k0_hw144

def k0_off145 (v867 : BitVec 32) : Fin 2 → Nat :=
  let c0_i32_526 : BitVec 32 := 0#32
  ![v867.toNat, 0]

def k0_chk145 (v867 : BitVec 32) : Prop :=
  (∀ a, (k0_off145 v867) a + S1x1024.size a ≤ S8192x1024.size a)
theorem k0_off145_inb : ∀ (v867 : BitVec 32) (k0_hw145 : k0_chk145 v867), ∀ a, (k0_off145 v867) a + S1x1024.size a ≤ S8192x1024.size a := fun v867 k0_hw145 => k0_hw145

def k0_off146 (v872 : BitVec 32) : Fin 2 → Nat :=
  let c0_i32_529 : BitVec 32 := 0#32
  ![v872.toNat, 0]

def k0_chk146 (v872 : BitVec 32) : Prop :=
  (∀ a, (k0_off146 v872) a + S1x1024.size a ≤ S8192x1024.size a)
theorem k0_off146_inb : ∀ (v872 : BitVec 32) (k0_hw146 : k0_chk146 v872), ∀ a, (k0_off146 v872) a + S1x1024.size a ≤ S8192x1024.size a := fun v872 k0_hw146 => k0_hw146

def k0_off147 (v877 : BitVec 32) : Fin 2 → Nat :=
  let c0_i32_532 : BitVec 32 := 0#32
  ![v877.toNat, 0]

def k0_chk147 (v877 : BitVec 32) : Prop :=
  (∀ a, (k0_off147 v877) a + S1x1024.size a ≤ S8192x1024.size a)
theorem k0_off147_inb : ∀ (v877 : BitVec 32) (k0_hw147 : k0_chk147 v877), ∀ a, (k0_off147 v877) a + S1x1024.size a ≤ S8192x1024.size a := fun v877 k0_hw147 => k0_hw147

def k0_off148 (v882 : BitVec 32) : Fin 2 → Nat :=
  let c0_i32_535 : BitVec 32 := 0#32
  ![v882.toNat, 0]

def k0_chk148 (v882 : BitVec 32) : Prop :=
  (∀ a, (k0_off148 v882) a + S1x1024.size a ≤ S8192x1024.size a)
theorem k0_off148_inb : ∀ (v882 : BitVec 32) (k0_hw148 : k0_chk148 v882), ∀ a, (k0_off148 v882) a + S1x1024.size a ≤ S8192x1024.size a := fun v882 k0_hw148 => k0_hw148

def k0_off149 (v887 : BitVec 32) : Fin 2 → Nat :=
  let c0_i32_538 : BitVec 32 := 0#32
  ![v887.toNat, 0]

def k0_chk149 (v887 : BitVec 32) : Prop :=
  (∀ a, (k0_off149 v887) a + S1x1024.size a ≤ S8192x1024.size a)
theorem k0_off149_inb : ∀ (v887 : BitVec 32) (k0_hw149 : k0_chk149 v887), ∀ a, (k0_off149 v887) a + S1x1024.size a ≤ S8192x1024.size a := fun v887 k0_hw149 => k0_hw149

def k0_off150 (v892 : BitVec 32) : Fin 2 → Nat :=
  let c0_i32_541 : BitVec 32 := 0#32
  ![v892.toNat, 0]

def k0_chk150 (v892 : BitVec 32) : Prop :=
  (∀ a, (k0_off150 v892) a + S1x1024.size a ≤ S8192x1024.size a)
theorem k0_off150_inb : ∀ (v892 : BitVec 32) (k0_hw150 : k0_chk150 v892), ∀ a, (k0_off150 v892) a + S1x1024.size a ≤ S8192x1024.size a := fun v892 k0_hw150 => k0_hw150

def k0_off151 (v897 : BitVec 32) : Fin 2 → Nat :=
  let c0_i32_544 : BitVec 32 := 0#32
  ![v897.toNat, 0]

def k0_chk151 (v897 : BitVec 32) : Prop :=
  (∀ a, (k0_off151 v897) a + S1x1024.size a ≤ S8192x1024.size a)
theorem k0_off151_inb : ∀ (v897 : BitVec 32) (k0_hw151 : k0_chk151 v897), ∀ a, (k0_off151 v897) a + S1x1024.size a ≤ S8192x1024.size a := fun v897 k0_hw151 => k0_hw151

def k0_off152 (v902 : BitVec 32) : Fin 2 → Nat :=
  let c0_i32_547 : BitVec 32 := 0#32
  ![v902.toNat, 0]

def k0_chk152 (v902 : BitVec 32) : Prop :=
  (∀ a, (k0_off152 v902) a + S1x1024.size a ≤ S8192x1024.size a)
theorem k0_off152_inb : ∀ (v902 : BitVec 32) (k0_hw152 : k0_chk152 v902), ∀ a, (k0_off152 v902) a + S1x1024.size a ≤ S8192x1024.size a := fun v902 k0_hw152 => k0_hw152

def k0_off153 (v907 : BitVec 32) : Fin 2 → Nat :=
  let c0_i32_550 : BitVec 32 := 0#32
  ![v907.toNat, 0]

def k0_chk153 (v907 : BitVec 32) : Prop :=
  (∀ a, (k0_off153 v907) a + S1x1024.size a ≤ S8192x1024.size a)
theorem k0_off153_inb : ∀ (v907 : BitVec 32) (k0_hw153 : k0_chk153 v907), ∀ a, (k0_off153 v907) a + S1x1024.size a ≤ S8192x1024.size a := fun v907 k0_hw153 => k0_hw153

def k0_off154 (v912 : BitVec 32) : Fin 2 → Nat :=
  let c0_i32_553 : BitVec 32 := 0#32
  ![v912.toNat, 0]

def k0_chk154 (v912 : BitVec 32) : Prop :=
  (∀ a, (k0_off154 v912) a + S1x1024.size a ≤ S8192x1024.size a)
theorem k0_off154_inb : ∀ (v912 : BitVec 32) (k0_hw154 : k0_chk154 v912), ∀ a, (k0_off154 v912) a + S1x1024.size a ≤ S8192x1024.size a := fun v912 k0_hw154 => k0_hw154

def k0_off155 (v917 : BitVec 32) : Fin 2 → Nat :=
  let c0_i32_556 : BitVec 32 := 0#32
  ![v917.toNat, 0]

def k0_chk155 (v917 : BitVec 32) : Prop :=
  (∀ a, (k0_off155 v917) a + S1x1024.size a ≤ S8192x1024.size a)
theorem k0_off155_inb : ∀ (v917 : BitVec 32) (k0_hw155 : k0_chk155 v917), ∀ a, (k0_off155 v917) a + S1x1024.size a ≤ S8192x1024.size a := fun v917 k0_hw155 => k0_hw155

def k0_off156 (v922 : BitVec 32) : Fin 2 → Nat :=
  let c0_i32_559 : BitVec 32 := 0#32
  ![v922.toNat, 0]

def k0_chk156 (v922 : BitVec 32) : Prop :=
  (∀ a, (k0_off156 v922) a + S1x1024.size a ≤ S8192x1024.size a)
theorem k0_off156_inb : ∀ (v922 : BitVec 32) (k0_hw156 : k0_chk156 v922), ∀ a, (k0_off156 v922) a + S1x1024.size a ≤ S8192x1024.size a := fun v922 k0_hw156 => k0_hw156

def k0_off157 (v927 : BitVec 32) : Fin 2 → Nat :=
  let c0_i32_562 : BitVec 32 := 0#32
  ![v927.toNat, 0]

def k0_chk157 (v927 : BitVec 32) : Prop :=
  (∀ a, (k0_off157 v927) a + S1x1024.size a ≤ S8192x1024.size a)
theorem k0_off157_inb : ∀ (v927 : BitVec 32) (k0_hw157 : k0_chk157 v927), ∀ a, (k0_off157 v927) a + S1x1024.size a ≤ S8192x1024.size a := fun v927 k0_hw157 => k0_hw157

def k0_off158 (v932 : BitVec 32) : Fin 2 → Nat :=
  let c0_i32_565 : BitVec 32 := 0#32
  ![v932.toNat, 0]

def k0_chk158 (v932 : BitVec 32) : Prop :=
  (∀ a, (k0_off158 v932) a + S1x1024.size a ≤ S8192x1024.size a)
theorem k0_off158_inb : ∀ (v932 : BitVec 32) (k0_hw158 : k0_chk158 v932), ∀ a, (k0_off158 v932) a + S1x1024.size a ≤ S8192x1024.size a := fun v932 k0_hw158 => k0_hw158

def k0_off159 (v937 : BitVec 32) : Fin 2 → Nat :=
  let c0_i32_568 : BitVec 32 := 0#32
  ![v937.toNat, 0]

def k0_chk159 (v937 : BitVec 32) : Prop :=
  (∀ a, (k0_off159 v937) a + S1x1024.size a ≤ S8192x1024.size a)
theorem k0_off159_inb : ∀ (v937 : BitVec 32) (k0_hw159 : k0_chk159 v937), ∀ a, (k0_off159 v937) a + S1x1024.size a ≤ S8192x1024.size a := fun v937 k0_hw159 => k0_hw159

def k0_off160 (v942 : BitVec 32) : Fin 2 → Nat :=
  let c0_i32_571 : BitVec 32 := 0#32
  ![v942.toNat, 0]

def k0_chk160 (v942 : BitVec 32) : Prop :=
  (∀ a, (k0_off160 v942) a + S1x1024.size a ≤ S8192x1024.size a)
theorem k0_off160_inb : ∀ (v942 : BitVec 32) (k0_hw160 : k0_chk160 v942), ∀ a, (k0_off160 v942) a + S1x1024.size a ≤ S8192x1024.size a := fun v942 k0_hw160 => k0_hw160

def k0_off161 (v947 : BitVec 32) : Fin 2 → Nat :=
  let c0_i32_574 : BitVec 32 := 0#32
  ![v947.toNat, 0]

def k0_chk161 (v947 : BitVec 32) : Prop :=
  (∀ a, (k0_off161 v947) a + S1x1024.size a ≤ S8192x1024.size a)
theorem k0_off161_inb : ∀ (v947 : BitVec 32) (k0_hw161 : k0_chk161 v947), ∀ a, (k0_off161 v947) a + S1x1024.size a ≤ S8192x1024.size a := fun v947 k0_hw161 => k0_hw161

def k0_off162 (v952 : BitVec 32) : Fin 2 → Nat :=
  let c0_i32_577 : BitVec 32 := 0#32
  ![v952.toNat, 0]

def k0_chk162 (v952 : BitVec 32) : Prop :=
  (∀ a, (k0_off162 v952) a + S1x1024.size a ≤ S8192x1024.size a)
theorem k0_off162_inb : ∀ (v952 : BitVec 32) (k0_hw162 : k0_chk162 v952), ∀ a, (k0_off162 v952) a + S1x1024.size a ≤ S8192x1024.size a := fun v952 k0_hw162 => k0_hw162

def k0_off163 (v957 : BitVec 32) : Fin 2 → Nat :=
  let c0_i32_580 : BitVec 32 := 0#32
  ![v957.toNat, 0]

def k0_chk163 (v957 : BitVec 32) : Prop :=
  (∀ a, (k0_off163 v957) a + S1x1024.size a ≤ S8192x1024.size a)
theorem k0_off163_inb : ∀ (v957 : BitVec 32) (k0_hw163 : k0_chk163 v957), ∀ a, (k0_off163 v957) a + S1x1024.size a ≤ S8192x1024.size a := fun v957 k0_hw163 => k0_hw163

def k0_off164 (v962 : BitVec 32) : Fin 2 → Nat :=
  let c0_i32_583 : BitVec 32 := 0#32
  ![v962.toNat, 0]

def k0_chk164 (v962 : BitVec 32) : Prop :=
  (∀ a, (k0_off164 v962) a + S1x1024.size a ≤ S8192x1024.size a)
theorem k0_off164_inb : ∀ (v962 : BitVec 32) (k0_hw164 : k0_chk164 v962), ∀ a, (k0_off164 v962) a + S1x1024.size a ≤ S8192x1024.size a := fun v962 k0_hw164 => k0_hw164

def k0_off165 (v967 : BitVec 32) : Fin 2 → Nat :=
  let c0_i32_586 : BitVec 32 := 0#32
  ![v967.toNat, 0]

def k0_chk165 (v967 : BitVec 32) : Prop :=
  (∀ a, (k0_off165 v967) a + S1x1024.size a ≤ S8192x1024.size a)
theorem k0_off165_inb : ∀ (v967 : BitVec 32) (k0_hw165 : k0_chk165 v967), ∀ a, (k0_off165 v967) a + S1x1024.size a ≤ S8192x1024.size a := fun v967 k0_hw165 => k0_hw165

def k0_off166 (v972 : BitVec 32) : Fin 2 → Nat :=
  let c0_i32_589 : BitVec 32 := 0#32
  ![v972.toNat, 0]

def k0_chk166 (v972 : BitVec 32) : Prop :=
  (∀ a, (k0_off166 v972) a + S1x1024.size a ≤ S8192x1024.size a)
theorem k0_off166_inb : ∀ (v972 : BitVec 32) (k0_hw166 : k0_chk166 v972), ∀ a, (k0_off166 v972) a + S1x1024.size a ≤ S8192x1024.size a := fun v972 k0_hw166 => k0_hw166

def k0_off167 (v977 : BitVec 32) : Fin 2 → Nat :=
  let c0_i32_592 : BitVec 32 := 0#32
  ![v977.toNat, 0]

def k0_chk167 (v977 : BitVec 32) : Prop :=
  (∀ a, (k0_off167 v977) a + S1x1024.size a ≤ S8192x1024.size a)
theorem k0_off167_inb : ∀ (v977 : BitVec 32) (k0_hw167 : k0_chk167 v977), ∀ a, (k0_off167 v977) a + S1x1024.size a ≤ S8192x1024.size a := fun v977 k0_hw167 => k0_hw167

def k0_off168 (v982 : BitVec 32) : Fin 2 → Nat :=
  let c0_i32_595 : BitVec 32 := 0#32
  ![v982.toNat, 0]

def k0_chk168 (v982 : BitVec 32) : Prop :=
  (∀ a, (k0_off168 v982) a + S1x1024.size a ≤ S8192x1024.size a)
theorem k0_off168_inb : ∀ (v982 : BitVec 32) (k0_hw168 : k0_chk168 v982), ∀ a, (k0_off168 v982) a + S1x1024.size a ≤ S8192x1024.size a := fun v982 k0_hw168 => k0_hw168

def k0_off169 (v987 : BitVec 32) : Fin 2 → Nat :=
  let c0_i32_598 : BitVec 32 := 0#32
  ![v987.toNat, 0]

def k0_chk169 (v987 : BitVec 32) : Prop :=
  (∀ a, (k0_off169 v987) a + S1x1024.size a ≤ S8192x1024.size a)
theorem k0_off169_inb : ∀ (v987 : BitVec 32) (k0_hw169 : k0_chk169 v987), ∀ a, (k0_off169 v987) a + S1x1024.size a ≤ S8192x1024.size a := fun v987 k0_hw169 => k0_hw169

def k0_off170 (v992 : BitVec 32) : Fin 2 → Nat :=
  let c0_i32_601 : BitVec 32 := 0#32
  ![v992.toNat, 0]

def k0_chk170 (v992 : BitVec 32) : Prop :=
  (∀ a, (k0_off170 v992) a + S1x1024.size a ≤ S8192x1024.size a)
theorem k0_off170_inb : ∀ (v992 : BitVec 32) (k0_hw170 : k0_chk170 v992), ∀ a, (k0_off170 v992) a + S1x1024.size a ≤ S8192x1024.size a := fun v992 k0_hw170 => k0_hw170

def k0_off171 (v997 : BitVec 32) : Fin 2 → Nat :=
  let c0_i32_604 : BitVec 32 := 0#32
  ![v997.toNat, 0]

def k0_chk171 (v997 : BitVec 32) : Prop :=
  (∀ a, (k0_off171 v997) a + S1x1024.size a ≤ S8192x1024.size a)
theorem k0_off171_inb : ∀ (v997 : BitVec 32) (k0_hw171 : k0_chk171 v997), ∀ a, (k0_off171 v997) a + S1x1024.size a ≤ S8192x1024.size a := fun v997 k0_hw171 => k0_hw171

def k0_off172 (v1002 : BitVec 32) : Fin 2 → Nat :=
  let c0_i32_607 : BitVec 32 := 0#32
  ![v1002.toNat, 0]

def k0_chk172 (v1002 : BitVec 32) : Prop :=
  (∀ a, (k0_off172 v1002) a + S1x1024.size a ≤ S8192x1024.size a)
theorem k0_off172_inb : ∀ (v1002 : BitVec 32) (k0_hw172 : k0_chk172 v1002), ∀ a, (k0_off172 v1002) a + S1x1024.size a ≤ S8192x1024.size a := fun v1002 k0_hw172 => k0_hw172

def k0_off173 (v1007 : BitVec 32) : Fin 2 → Nat :=
  let c0_i32_610 : BitVec 32 := 0#32
  ![v1007.toNat, 0]

def k0_chk173 (v1007 : BitVec 32) : Prop :=
  (∀ a, (k0_off173 v1007) a + S1x1024.size a ≤ S8192x1024.size a)
theorem k0_off173_inb : ∀ (v1007 : BitVec 32) (k0_hw173 : k0_chk173 v1007), ∀ a, (k0_off173 v1007) a + S1x1024.size a ≤ S8192x1024.size a := fun v1007 k0_hw173 => k0_hw173

def k0_off174 (v1012 : BitVec 32) : Fin 2 → Nat :=
  let c0_i32_613 : BitVec 32 := 0#32
  ![v1012.toNat, 0]

def k0_chk174 (v1012 : BitVec 32) : Prop :=
  (∀ a, (k0_off174 v1012) a + S1x1024.size a ≤ S8192x1024.size a)
theorem k0_off174_inb : ∀ (v1012 : BitVec 32) (k0_hw174 : k0_chk174 v1012), ∀ a, (k0_off174 v1012) a + S1x1024.size a ≤ S8192x1024.size a := fun v1012 k0_hw174 => k0_hw174

def k0_off175 (v1017 : BitVec 32) : Fin 2 → Nat :=
  let c0_i32_616 : BitVec 32 := 0#32
  ![v1017.toNat, 0]

def k0_chk175 (v1017 : BitVec 32) : Prop :=
  (∀ a, (k0_off175 v1017) a + S1x1024.size a ≤ S8192x1024.size a)
theorem k0_off175_inb : ∀ (v1017 : BitVec 32) (k0_hw175 : k0_chk175 v1017), ∀ a, (k0_off175 v1017) a + S1x1024.size a ≤ S8192x1024.size a := fun v1017 k0_hw175 => k0_hw175

def k0_off176 (v1022 : BitVec 32) : Fin 2 → Nat :=
  let c0_i32_619 : BitVec 32 := 0#32
  ![v1022.toNat, 0]

def k0_chk176 (v1022 : BitVec 32) : Prop :=
  (∀ a, (k0_off176 v1022) a + S1x1024.size a ≤ S8192x1024.size a)
theorem k0_off176_inb : ∀ (v1022 : BitVec 32) (k0_hw176 : k0_chk176 v1022), ∀ a, (k0_off176 v1022) a + S1x1024.size a ≤ S8192x1024.size a := fun v1022 k0_hw176 => k0_hw176

def k0_off177 (v1027 : BitVec 32) : Fin 2 → Nat :=
  let c0_i32_622 : BitVec 32 := 0#32
  ![v1027.toNat, 0]

def k0_chk177 (v1027 : BitVec 32) : Prop :=
  (∀ a, (k0_off177 v1027) a + S1x1024.size a ≤ S8192x1024.size a)
theorem k0_off177_inb : ∀ (v1027 : BitVec 32) (k0_hw177 : k0_chk177 v1027), ∀ a, (k0_off177 v1027) a + S1x1024.size a ≤ S8192x1024.size a := fun v1027 k0_hw177 => k0_hw177

def k0_off178 (v1032 : BitVec 32) : Fin 2 → Nat :=
  let c0_i32_625 : BitVec 32 := 0#32
  ![v1032.toNat, 0]

def k0_chk178 (v1032 : BitVec 32) : Prop :=
  (∀ a, (k0_off178 v1032) a + S1x1024.size a ≤ S8192x1024.size a)
theorem k0_off178_inb : ∀ (v1032 : BitVec 32) (k0_hw178 : k0_chk178 v1032), ∀ a, (k0_off178 v1032) a + S1x1024.size a ≤ S8192x1024.size a := fun v1032 k0_hw178 => k0_hw178

def k0_off179 (v1037 : BitVec 32) : Fin 2 → Nat :=
  let c0_i32_628 : BitVec 32 := 0#32
  ![v1037.toNat, 0]

def k0_chk179 (v1037 : BitVec 32) : Prop :=
  (∀ a, (k0_off179 v1037) a + S1x1024.size a ≤ S8192x1024.size a)
theorem k0_off179_inb : ∀ (v1037 : BitVec 32) (k0_hw179 : k0_chk179 v1037), ∀ a, (k0_off179 v1037) a + S1x1024.size a ≤ S8192x1024.size a := fun v1037 k0_hw179 => k0_hw179

def k0_off180 (v1042 : BitVec 32) : Fin 2 → Nat :=
  let c0_i32_631 : BitVec 32 := 0#32
  ![v1042.toNat, 0]

def k0_chk180 (v1042 : BitVec 32) : Prop :=
  (∀ a, (k0_off180 v1042) a + S1x1024.size a ≤ S8192x1024.size a)
theorem k0_off180_inb : ∀ (v1042 : BitVec 32) (k0_hw180 : k0_chk180 v1042), ∀ a, (k0_off180 v1042) a + S1x1024.size a ≤ S8192x1024.size a := fun v1042 k0_hw180 => k0_hw180

def k0_off181 (v1047 : BitVec 32) : Fin 2 → Nat :=
  let c0_i32_634 : BitVec 32 := 0#32
  ![v1047.toNat, 0]

def k0_chk181 (v1047 : BitVec 32) : Prop :=
  (∀ a, (k0_off181 v1047) a + S1x1024.size a ≤ S8192x1024.size a)
theorem k0_off181_inb : ∀ (v1047 : BitVec 32) (k0_hw181 : k0_chk181 v1047), ∀ a, (k0_off181 v1047) a + S1x1024.size a ≤ S8192x1024.size a := fun v1047 k0_hw181 => k0_hw181

def k0_off182 (v1052 : BitVec 32) : Fin 2 → Nat :=
  let c0_i32_637 : BitVec 32 := 0#32
  ![v1052.toNat, 0]

def k0_chk182 (v1052 : BitVec 32) : Prop :=
  (∀ a, (k0_off182 v1052) a + S1x1024.size a ≤ S8192x1024.size a)
theorem k0_off182_inb : ∀ (v1052 : BitVec 32) (k0_hw182 : k0_chk182 v1052), ∀ a, (k0_off182 v1052) a + S1x1024.size a ≤ S8192x1024.size a := fun v1052 k0_hw182 => k0_hw182

def k0_off183 (v1057 : BitVec 32) : Fin 2 → Nat :=
  let c0_i32_640 : BitVec 32 := 0#32
  ![v1057.toNat, 0]

def k0_chk183 (v1057 : BitVec 32) : Prop :=
  (∀ a, (k0_off183 v1057) a + S1x1024.size a ≤ S8192x1024.size a)
theorem k0_off183_inb : ∀ (v1057 : BitVec 32) (k0_hw183 : k0_chk183 v1057), ∀ a, (k0_off183 v1057) a + S1x1024.size a ≤ S8192x1024.size a := fun v1057 k0_hw183 => k0_hw183

def k0_off184 (v1062 : BitVec 32) : Fin 2 → Nat :=
  let c0_i32_643 : BitVec 32 := 0#32
  ![v1062.toNat, 0]

def k0_chk184 (v1062 : BitVec 32) : Prop :=
  (∀ a, (k0_off184 v1062) a + S1x1024.size a ≤ S8192x1024.size a)
theorem k0_off184_inb : ∀ (v1062 : BitVec 32) (k0_hw184 : k0_chk184 v1062), ∀ a, (k0_off184 v1062) a + S1x1024.size a ≤ S8192x1024.size a := fun v1062 k0_hw184 => k0_hw184

def k0_off185 (v1067 : BitVec 32) : Fin 2 → Nat :=
  let c0_i32_646 : BitVec 32 := 0#32
  ![v1067.toNat, 0]

def k0_chk185 (v1067 : BitVec 32) : Prop :=
  (∀ a, (k0_off185 v1067) a + S1x1024.size a ≤ S8192x1024.size a)
theorem k0_off185_inb : ∀ (v1067 : BitVec 32) (k0_hw185 : k0_chk185 v1067), ∀ a, (k0_off185 v1067) a + S1x1024.size a ≤ S8192x1024.size a := fun v1067 k0_hw185 => k0_hw185

def k0_off186 (v1072 : BitVec 32) : Fin 2 → Nat :=
  let c0_i32_649 : BitVec 32 := 0#32
  ![v1072.toNat, 0]

def k0_chk186 (v1072 : BitVec 32) : Prop :=
  (∀ a, (k0_off186 v1072) a + S1x1024.size a ≤ S8192x1024.size a)
theorem k0_off186_inb : ∀ (v1072 : BitVec 32) (k0_hw186 : k0_chk186 v1072), ∀ a, (k0_off186 v1072) a + S1x1024.size a ≤ S8192x1024.size a := fun v1072 k0_hw186 => k0_hw186

def k0_off187 (v1077 : BitVec 32) : Fin 2 → Nat :=
  let c0_i32_652 : BitVec 32 := 0#32
  ![v1077.toNat, 0]

def k0_chk187 (v1077 : BitVec 32) : Prop :=
  (∀ a, (k0_off187 v1077) a + S1x1024.size a ≤ S8192x1024.size a)
theorem k0_off187_inb : ∀ (v1077 : BitVec 32) (k0_hw187 : k0_chk187 v1077), ∀ a, (k0_off187 v1077) a + S1x1024.size a ≤ S8192x1024.size a := fun v1077 k0_hw187 => k0_hw187

def k0_off188 (v1082 : BitVec 32) : Fin 2 → Nat :=
  let c0_i32_655 : BitVec 32 := 0#32
  ![v1082.toNat, 0]

def k0_chk188 (v1082 : BitVec 32) : Prop :=
  (∀ a, (k0_off188 v1082) a + S1x1024.size a ≤ S8192x1024.size a)
theorem k0_off188_inb : ∀ (v1082 : BitVec 32) (k0_hw188 : k0_chk188 v1082), ∀ a, (k0_off188 v1082) a + S1x1024.size a ≤ S8192x1024.size a := fun v1082 k0_hw188 => k0_hw188

def k0_off189 (v1087 : BitVec 32) : Fin 2 → Nat :=
  let c0_i32_658 : BitVec 32 := 0#32
  ![v1087.toNat, 0]

def k0_chk189 (v1087 : BitVec 32) : Prop :=
  (∀ a, (k0_off189 v1087) a + S1x1024.size a ≤ S8192x1024.size a)
theorem k0_off189_inb : ∀ (v1087 : BitVec 32) (k0_hw189 : k0_chk189 v1087), ∀ a, (k0_off189 v1087) a + S1x1024.size a ≤ S8192x1024.size a := fun v1087 k0_hw189 => k0_hw189

def k0_off190 (v1092 : BitVec 32) : Fin 2 → Nat :=
  let c0_i32_661 : BitVec 32 := 0#32
  ![v1092.toNat, 0]

def k0_chk190 (v1092 : BitVec 32) : Prop :=
  (∀ a, (k0_off190 v1092) a + S1x1024.size a ≤ S8192x1024.size a)
theorem k0_off190_inb : ∀ (v1092 : BitVec 32) (k0_hw190 : k0_chk190 v1092), ∀ a, (k0_off190 v1092) a + S1x1024.size a ≤ S8192x1024.size a := fun v1092 k0_hw190 => k0_hw190

def k0_off191 (v1097 : BitVec 32) : Fin 2 → Nat :=
  let c0_i32_664 : BitVec 32 := 0#32
  ![v1097.toNat, 0]

def k0_chk191 (v1097 : BitVec 32) : Prop :=
  (∀ a, (k0_off191 v1097) a + S1x1024.size a ≤ S8192x1024.size a)
theorem k0_off191_inb : ∀ (v1097 : BitVec 32) (k0_hw191 : k0_chk191 v1097), ∀ a, (k0_off191 v1097) a + S1x1024.size a ≤ S8192x1024.size a := fun v1097 k0_hw191 => k0_hw191

def k0_off192 (v1102 : BitVec 32) : Fin 2 → Nat :=
  let c0_i32_667 : BitVec 32 := 0#32
  ![v1102.toNat, 0]

def k0_chk192 (v1102 : BitVec 32) : Prop :=
  (∀ a, (k0_off192 v1102) a + S1x1024.size a ≤ S8192x1024.size a)
theorem k0_off192_inb : ∀ (v1102 : BitVec 32) (k0_hw192 : k0_chk192 v1102), ∀ a, (k0_off192 v1102) a + S1x1024.size a ≤ S8192x1024.size a := fun v1102 k0_hw192 => k0_hw192

def k0_dev5 (d0 : Dev nD) : Nat :=
  let c0_i32_676 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_675 : BitVec 32 := 4#32
  let v1111 : BitVec 32 := Scalar.muli v2 c4_i32_675
  let v1112 : BitVec 32 := Scalar.addi c0_i32_676 v1111
  let c1_i32_55 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_55 v5
  let c2_i32_677 : BitVec 32 := 2#32
  let v1113 : BitVec 32 := Scalar.muli v111 c2_i32_677
  let v1114 : BitVec 32 := Scalar.addi v1112 v1113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_678 : BitVec 32 := 1#32
  let v1115 : BitVec 32 := Scalar.muli v8 c1_i32_678
  let v1116 : BitVec 32 := Scalar.addi v1114 v1115
  v1116.toNat
def k0_off193 (v1123 : BitVec 32) : Fin 2 → Nat :=
  let c0_i32_685 : BitVec 32 := 0#32
  ![v1123.toNat, 0]

def k0_chk193 (v1123 : BitVec 32) : Prop :=
  (∀ a, (k0_off193 v1123) a + S1x1024.size a ≤ S8192x1024.size a)
theorem k0_off193_inb : ∀ (v1123 : BitVec 32) (k0_hw193 : k0_chk193 v1123), ∀ a, (k0_off193 v1123) a + S1x1024.size a ≤ S8192x1024.size a := fun v1123 k0_hw193 => k0_hw193

def k0_off194 (v1128 : BitVec 32) : Fin 2 → Nat :=
  let c0_i32_688 : BitVec 32 := 0#32
  ![v1128.toNat, 0]

def k0_chk194 (v1128 : BitVec 32) : Prop :=
  (∀ a, (k0_off194 v1128) a + S1x1024.size a ≤ S8192x1024.size a)
theorem k0_off194_inb : ∀ (v1128 : BitVec 32) (k0_hw194 : k0_chk194 v1128), ∀ a, (k0_off194 v1128) a + S1x1024.size a ≤ S8192x1024.size a := fun v1128 k0_hw194 => k0_hw194

def k0_off195 (v1133 : BitVec 32) : Fin 2 → Nat :=
  let c0_i32_691 : BitVec 32 := 0#32
  ![v1133.toNat, 0]

def k0_chk195 (v1133 : BitVec 32) : Prop :=
  (∀ a, (k0_off195 v1133) a + S1x1024.size a ≤ S8192x1024.size a)
theorem k0_off195_inb : ∀ (v1133 : BitVec 32) (k0_hw195 : k0_chk195 v1133), ∀ a, (k0_off195 v1133) a + S1x1024.size a ≤ S8192x1024.size a := fun v1133 k0_hw195 => k0_hw195

def k0_off196 (v1138 : BitVec 32) : Fin 2 → Nat :=
  let c0_i32_694 : BitVec 32 := 0#32
  ![v1138.toNat, 0]

def k0_chk196 (v1138 : BitVec 32) : Prop :=
  (∀ a, (k0_off196 v1138) a + S1x1024.size a ≤ S8192x1024.size a)
theorem k0_off196_inb : ∀ (v1138 : BitVec 32) (k0_hw196 : k0_chk196 v1138), ∀ a, (k0_off196 v1138) a + S1x1024.size a ≤ S8192x1024.size a := fun v1138 k0_hw196 => k0_hw196

def k0_off197 (v1143 : BitVec 32) : Fin 2 → Nat :=
  let c0_i32_697 : BitVec 32 := 0#32
  ![v1143.toNat, 0]

def k0_chk197 (v1143 : BitVec 32) : Prop :=
  (∀ a, (k0_off197 v1143) a + S1x1024.size a ≤ S8192x1024.size a)
theorem k0_off197_inb : ∀ (v1143 : BitVec 32) (k0_hw197 : k0_chk197 v1143), ∀ a, (k0_off197 v1143) a + S1x1024.size a ≤ S8192x1024.size a := fun v1143 k0_hw197 => k0_hw197

def k0_off198 (v1148 : BitVec 32) : Fin 2 → Nat :=
  let c0_i32_700 : BitVec 32 := 0#32
  ![v1148.toNat, 0]

def k0_chk198 (v1148 : BitVec 32) : Prop :=
  (∀ a, (k0_off198 v1148) a + S1x1024.size a ≤ S8192x1024.size a)
theorem k0_off198_inb : ∀ (v1148 : BitVec 32) (k0_hw198 : k0_chk198 v1148), ∀ a, (k0_off198 v1148) a + S1x1024.size a ≤ S8192x1024.size a := fun v1148 k0_hw198 => k0_hw198

def k0_off199 (v1153 : BitVec 32) : Fin 2 → Nat :=
  let c0_i32_703 : BitVec 32 := 0#32
  ![v1153.toNat, 0]

def k0_chk199 (v1153 : BitVec 32) : Prop :=
  (∀ a, (k0_off199 v1153) a + S1x1024.size a ≤ S8192x1024.size a)
theorem k0_off199_inb : ∀ (v1153 : BitVec 32) (k0_hw199 : k0_chk199 v1153), ∀ a, (k0_off199 v1153) a + S1x1024.size a ≤ S8192x1024.size a := fun v1153 k0_hw199 => k0_hw199

def k0_off200 (v1158 : BitVec 32) : Fin 2 → Nat :=
  let c0_i32_706 : BitVec 32 := 0#32
  ![v1158.toNat, 0]

def k0_chk200 (v1158 : BitVec 32) : Prop :=
  (∀ a, (k0_off200 v1158) a + S1x1024.size a ≤ S8192x1024.size a)
theorem k0_off200_inb : ∀ (v1158 : BitVec 32) (k0_hw200 : k0_chk200 v1158), ∀ a, (k0_off200 v1158) a + S1x1024.size a ≤ S8192x1024.size a := fun v1158 k0_hw200 => k0_hw200

def k0_off201 (v1163 : BitVec 32) : Fin 2 → Nat :=
  let c0_i32_709 : BitVec 32 := 0#32
  ![v1163.toNat, 0]

def k0_chk201 (v1163 : BitVec 32) : Prop :=
  (∀ a, (k0_off201 v1163) a + S1x1024.size a ≤ S8192x1024.size a)
theorem k0_off201_inb : ∀ (v1163 : BitVec 32) (k0_hw201 : k0_chk201 v1163), ∀ a, (k0_off201 v1163) a + S1x1024.size a ≤ S8192x1024.size a := fun v1163 k0_hw201 => k0_hw201

def k0_off202 (v1168 : BitVec 32) : Fin 2 → Nat :=
  let c0_i32_712 : BitVec 32 := 0#32
  ![v1168.toNat, 0]

def k0_chk202 (v1168 : BitVec 32) : Prop :=
  (∀ a, (k0_off202 v1168) a + S1x1024.size a ≤ S8192x1024.size a)
theorem k0_off202_inb : ∀ (v1168 : BitVec 32) (k0_hw202 : k0_chk202 v1168), ∀ a, (k0_off202 v1168) a + S1x1024.size a ≤ S8192x1024.size a := fun v1168 k0_hw202 => k0_hw202

def k0_off203 (v1173 : BitVec 32) : Fin 2 → Nat :=
  let c0_i32_715 : BitVec 32 := 0#32
  ![v1173.toNat, 0]

def k0_chk203 (v1173 : BitVec 32) : Prop :=
  (∀ a, (k0_off203 v1173) a + S1x1024.size a ≤ S8192x1024.size a)
theorem k0_off203_inb : ∀ (v1173 : BitVec 32) (k0_hw203 : k0_chk203 v1173), ∀ a, (k0_off203 v1173) a + S1x1024.size a ≤ S8192x1024.size a := fun v1173 k0_hw203 => k0_hw203

def k0_off204 (v1178 : BitVec 32) : Fin 2 → Nat :=
  let c0_i32_718 : BitVec 32 := 0#32
  ![v1178.toNat, 0]

def k0_chk204 (v1178 : BitVec 32) : Prop :=
  (∀ a, (k0_off204 v1178) a + S1x1024.size a ≤ S8192x1024.size a)
theorem k0_off204_inb : ∀ (v1178 : BitVec 32) (k0_hw204 : k0_chk204 v1178), ∀ a, (k0_off204 v1178) a + S1x1024.size a ≤ S8192x1024.size a := fun v1178 k0_hw204 => k0_hw204

def k0_off205 (v1183 : BitVec 32) : Fin 2 → Nat :=
  let c0_i32_721 : BitVec 32 := 0#32
  ![v1183.toNat, 0]

def k0_chk205 (v1183 : BitVec 32) : Prop :=
  (∀ a, (k0_off205 v1183) a + S1x1024.size a ≤ S8192x1024.size a)
theorem k0_off205_inb : ∀ (v1183 : BitVec 32) (k0_hw205 : k0_chk205 v1183), ∀ a, (k0_off205 v1183) a + S1x1024.size a ≤ S8192x1024.size a := fun v1183 k0_hw205 => k0_hw205

def k0_off206 (v1188 : BitVec 32) : Fin 2 → Nat :=
  let c0_i32_724 : BitVec 32 := 0#32
  ![v1188.toNat, 0]

def k0_chk206 (v1188 : BitVec 32) : Prop :=
  (∀ a, (k0_off206 v1188) a + S1x1024.size a ≤ S8192x1024.size a)
theorem k0_off206_inb : ∀ (v1188 : BitVec 32) (k0_hw206 : k0_chk206 v1188), ∀ a, (k0_off206 v1188) a + S1x1024.size a ≤ S8192x1024.size a := fun v1188 k0_hw206 => k0_hw206

def k0_off207 (v1193 : BitVec 32) : Fin 2 → Nat :=
  let c0_i32_727 : BitVec 32 := 0#32
  ![v1193.toNat, 0]

def k0_chk207 (v1193 : BitVec 32) : Prop :=
  (∀ a, (k0_off207 v1193) a + S1x1024.size a ≤ S8192x1024.size a)
theorem k0_off207_inb : ∀ (v1193 : BitVec 32) (k0_hw207 : k0_chk207 v1193), ∀ a, (k0_off207 v1193) a + S1x1024.size a ≤ S8192x1024.size a := fun v1193 k0_hw207 => k0_hw207

def k0_off208 (v1198 : BitVec 32) : Fin 2 → Nat :=
  let c0_i32_730 : BitVec 32 := 0#32
  ![v1198.toNat, 0]

def k0_chk208 (v1198 : BitVec 32) : Prop :=
  (∀ a, (k0_off208 v1198) a + S1x1024.size a ≤ S8192x1024.size a)
theorem k0_off208_inb : ∀ (v1198 : BitVec 32) (k0_hw208 : k0_chk208 v1198), ∀ a, (k0_off208 v1198) a + S1x1024.size a ≤ S8192x1024.size a := fun v1198 k0_hw208 => k0_hw208

def k0_off209 (v1203 : BitVec 32) : Fin 2 → Nat :=
  let c0_i32_733 : BitVec 32 := 0#32
  ![v1203.toNat, 0]

def k0_chk209 (v1203 : BitVec 32) : Prop :=
  (∀ a, (k0_off209 v1203) a + S1x1024.size a ≤ S8192x1024.size a)
theorem k0_off209_inb : ∀ (v1203 : BitVec 32) (k0_hw209 : k0_chk209 v1203), ∀ a, (k0_off209 v1203) a + S1x1024.size a ≤ S8192x1024.size a := fun v1203 k0_hw209 => k0_hw209

def k0_off210 (v1208 : BitVec 32) : Fin 2 → Nat :=
  let c0_i32_736 : BitVec 32 := 0#32
  ![v1208.toNat, 0]

def k0_chk210 (v1208 : BitVec 32) : Prop :=
  (∀ a, (k0_off210 v1208) a + S1x1024.size a ≤ S8192x1024.size a)
theorem k0_off210_inb : ∀ (v1208 : BitVec 32) (k0_hw210 : k0_chk210 v1208), ∀ a, (k0_off210 v1208) a + S1x1024.size a ≤ S8192x1024.size a := fun v1208 k0_hw210 => k0_hw210

def k0_off211 (v1213 : BitVec 32) : Fin 2 → Nat :=
  let c0_i32_739 : BitVec 32 := 0#32
  ![v1213.toNat, 0]

def k0_chk211 (v1213 : BitVec 32) : Prop :=
  (∀ a, (k0_off211 v1213) a + S1x1024.size a ≤ S8192x1024.size a)
theorem k0_off211_inb : ∀ (v1213 : BitVec 32) (k0_hw211 : k0_chk211 v1213), ∀ a, (k0_off211 v1213) a + S1x1024.size a ≤ S8192x1024.size a := fun v1213 k0_hw211 => k0_hw211

def k0_off212 (v1218 : BitVec 32) : Fin 2 → Nat :=
  let c0_i32_742 : BitVec 32 := 0#32
  ![v1218.toNat, 0]

def k0_chk212 (v1218 : BitVec 32) : Prop :=
  (∀ a, (k0_off212 v1218) a + S1x1024.size a ≤ S8192x1024.size a)
theorem k0_off212_inb : ∀ (v1218 : BitVec 32) (k0_hw212 : k0_chk212 v1218), ∀ a, (k0_off212 v1218) a + S1x1024.size a ≤ S8192x1024.size a := fun v1218 k0_hw212 => k0_hw212

def k0_off213 (v1223 : BitVec 32) : Fin 2 → Nat :=
  let c0_i32_745 : BitVec 32 := 0#32
  ![v1223.toNat, 0]

def k0_chk213 (v1223 : BitVec 32) : Prop :=
  (∀ a, (k0_off213 v1223) a + S1x1024.size a ≤ S8192x1024.size a)
theorem k0_off213_inb : ∀ (v1223 : BitVec 32) (k0_hw213 : k0_chk213 v1223), ∀ a, (k0_off213 v1223) a + S1x1024.size a ≤ S8192x1024.size a := fun v1223 k0_hw213 => k0_hw213

def k0_off214 (v1228 : BitVec 32) : Fin 2 → Nat :=
  let c0_i32_748 : BitVec 32 := 0#32
  ![v1228.toNat, 0]

def k0_chk214 (v1228 : BitVec 32) : Prop :=
  (∀ a, (k0_off214 v1228) a + S1x1024.size a ≤ S8192x1024.size a)
theorem k0_off214_inb : ∀ (v1228 : BitVec 32) (k0_hw214 : k0_chk214 v1228), ∀ a, (k0_off214 v1228) a + S1x1024.size a ≤ S8192x1024.size a := fun v1228 k0_hw214 => k0_hw214

def k0_off215 (v1233 : BitVec 32) : Fin 2 → Nat :=
  let c0_i32_751 : BitVec 32 := 0#32
  ![v1233.toNat, 0]

def k0_chk215 (v1233 : BitVec 32) : Prop :=
  (∀ a, (k0_off215 v1233) a + S1x1024.size a ≤ S8192x1024.size a)
theorem k0_off215_inb : ∀ (v1233 : BitVec 32) (k0_hw215 : k0_chk215 v1233), ∀ a, (k0_off215 v1233) a + S1x1024.size a ≤ S8192x1024.size a := fun v1233 k0_hw215 => k0_hw215

def k0_off216 (v1238 : BitVec 32) : Fin 2 → Nat :=
  let c0_i32_754 : BitVec 32 := 0#32
  ![v1238.toNat, 0]

def k0_chk216 (v1238 : BitVec 32) : Prop :=
  (∀ a, (k0_off216 v1238) a + S1x1024.size a ≤ S8192x1024.size a)
theorem k0_off216_inb : ∀ (v1238 : BitVec 32) (k0_hw216 : k0_chk216 v1238), ∀ a, (k0_off216 v1238) a + S1x1024.size a ≤ S8192x1024.size a := fun v1238 k0_hw216 => k0_hw216

def k0_off217 (v1243 : BitVec 32) : Fin 2 → Nat :=
  let c0_i32_757 : BitVec 32 := 0#32
  ![v1243.toNat, 0]

def k0_chk217 (v1243 : BitVec 32) : Prop :=
  (∀ a, (k0_off217 v1243) a + S1x1024.size a ≤ S8192x1024.size a)
theorem k0_off217_inb : ∀ (v1243 : BitVec 32) (k0_hw217 : k0_chk217 v1243), ∀ a, (k0_off217 v1243) a + S1x1024.size a ≤ S8192x1024.size a := fun v1243 k0_hw217 => k0_hw217

def k0_off218 (v1248 : BitVec 32) : Fin 2 → Nat :=
  let c0_i32_760 : BitVec 32 := 0#32
  ![v1248.toNat, 0]

def k0_chk218 (v1248 : BitVec 32) : Prop :=
  (∀ a, (k0_off218 v1248) a + S1x1024.size a ≤ S8192x1024.size a)
theorem k0_off218_inb : ∀ (v1248 : BitVec 32) (k0_hw218 : k0_chk218 v1248), ∀ a, (k0_off218 v1248) a + S1x1024.size a ≤ S8192x1024.size a := fun v1248 k0_hw218 => k0_hw218

def k0_off219 (v1253 : BitVec 32) : Fin 2 → Nat :=
  let c0_i32_763 : BitVec 32 := 0#32
  ![v1253.toNat, 0]

def k0_chk219 (v1253 : BitVec 32) : Prop :=
  (∀ a, (k0_off219 v1253) a + S1x1024.size a ≤ S8192x1024.size a)
theorem k0_off219_inb : ∀ (v1253 : BitVec 32) (k0_hw219 : k0_chk219 v1253), ∀ a, (k0_off219 v1253) a + S1x1024.size a ≤ S8192x1024.size a := fun v1253 k0_hw219 => k0_hw219

def k0_off220 (v1258 : BitVec 32) : Fin 2 → Nat :=
  let c0_i32_766 : BitVec 32 := 0#32
  ![v1258.toNat, 0]

def k0_chk220 (v1258 : BitVec 32) : Prop :=
  (∀ a, (k0_off220 v1258) a + S1x1024.size a ≤ S8192x1024.size a)
theorem k0_off220_inb : ∀ (v1258 : BitVec 32) (k0_hw220 : k0_chk220 v1258), ∀ a, (k0_off220 v1258) a + S1x1024.size a ≤ S8192x1024.size a := fun v1258 k0_hw220 => k0_hw220

def k0_off221 (v1263 : BitVec 32) : Fin 2 → Nat :=
  let c0_i32_769 : BitVec 32 := 0#32
  ![v1263.toNat, 0]

def k0_chk221 (v1263 : BitVec 32) : Prop :=
  (∀ a, (k0_off221 v1263) a + S1x1024.size a ≤ S8192x1024.size a)
theorem k0_off221_inb : ∀ (v1263 : BitVec 32) (k0_hw221 : k0_chk221 v1263), ∀ a, (k0_off221 v1263) a + S1x1024.size a ≤ S8192x1024.size a := fun v1263 k0_hw221 => k0_hw221

def k0_off222 (v1268 : BitVec 32) : Fin 2 → Nat :=
  let c0_i32_772 : BitVec 32 := 0#32
  ![v1268.toNat, 0]

def k0_chk222 (v1268 : BitVec 32) : Prop :=
  (∀ a, (k0_off222 v1268) a + S1x1024.size a ≤ S8192x1024.size a)
theorem k0_off222_inb : ∀ (v1268 : BitVec 32) (k0_hw222 : k0_chk222 v1268), ∀ a, (k0_off222 v1268) a + S1x1024.size a ≤ S8192x1024.size a := fun v1268 k0_hw222 => k0_hw222

def k0_off223 (v1273 : BitVec 32) : Fin 2 → Nat :=
  let c0_i32_775 : BitVec 32 := 0#32
  ![v1273.toNat, 0]

def k0_chk223 (v1273 : BitVec 32) : Prop :=
  (∀ a, (k0_off223 v1273) a + S1x1024.size a ≤ S8192x1024.size a)
theorem k0_off223_inb : ∀ (v1273 : BitVec 32) (k0_hw223 : k0_chk223 v1273), ∀ a, (k0_off223 v1273) a + S1x1024.size a ≤ S8192x1024.size a := fun v1273 k0_hw223 => k0_hw223

def k0_off224 (v1278 : BitVec 32) : Fin 2 → Nat :=
  let c0_i32_778 : BitVec 32 := 0#32
  ![v1278.toNat, 0]

def k0_chk224 (v1278 : BitVec 32) : Prop :=
  (∀ a, (k0_off224 v1278) a + S1x1024.size a ≤ S8192x1024.size a)
theorem k0_off224_inb : ∀ (v1278 : BitVec 32) (k0_hw224 : k0_chk224 v1278), ∀ a, (k0_off224 v1278) a + S1x1024.size a ≤ S8192x1024.size a := fun v1278 k0_hw224 => k0_hw224

def k0_off225 (v1283 : BitVec 32) : Fin 2 → Nat :=
  let c0_i32_781 : BitVec 32 := 0#32
  ![v1283.toNat, 0]

def k0_chk225 (v1283 : BitVec 32) : Prop :=
  (∀ a, (k0_off225 v1283) a + S1x1024.size a ≤ S8192x1024.size a)
theorem k0_off225_inb : ∀ (v1283 : BitVec 32) (k0_hw225 : k0_chk225 v1283), ∀ a, (k0_off225 v1283) a + S1x1024.size a ≤ S8192x1024.size a := fun v1283 k0_hw225 => k0_hw225

def k0_off226 (v1288 : BitVec 32) : Fin 2 → Nat :=
  let c0_i32_784 : BitVec 32 := 0#32
  ![v1288.toNat, 0]

def k0_chk226 (v1288 : BitVec 32) : Prop :=
  (∀ a, (k0_off226 v1288) a + S1x1024.size a ≤ S8192x1024.size a)
theorem k0_off226_inb : ∀ (v1288 : BitVec 32) (k0_hw226 : k0_chk226 v1288), ∀ a, (k0_off226 v1288) a + S1x1024.size a ≤ S8192x1024.size a := fun v1288 k0_hw226 => k0_hw226

def k0_off227 (v1293 : BitVec 32) : Fin 2 → Nat :=
  let c0_i32_787 : BitVec 32 := 0#32
  ![v1293.toNat, 0]

def k0_chk227 (v1293 : BitVec 32) : Prop :=
  (∀ a, (k0_off227 v1293) a + S1x1024.size a ≤ S8192x1024.size a)
theorem k0_off227_inb : ∀ (v1293 : BitVec 32) (k0_hw227 : k0_chk227 v1293), ∀ a, (k0_off227 v1293) a + S1x1024.size a ≤ S8192x1024.size a := fun v1293 k0_hw227 => k0_hw227

def k0_off228 (v1298 : BitVec 32) : Fin 2 → Nat :=
  let c0_i32_790 : BitVec 32 := 0#32
  ![v1298.toNat, 0]

def k0_chk228 (v1298 : BitVec 32) : Prop :=
  (∀ a, (k0_off228 v1298) a + S1x1024.size a ≤ S8192x1024.size a)
theorem k0_off228_inb : ∀ (v1298 : BitVec 32) (k0_hw228 : k0_chk228 v1298), ∀ a, (k0_off228 v1298) a + S1x1024.size a ≤ S8192x1024.size a := fun v1298 k0_hw228 => k0_hw228

def k0_off229 (v1303 : BitVec 32) : Fin 2 → Nat :=
  let c0_i32_793 : BitVec 32 := 0#32
  ![v1303.toNat, 0]

def k0_chk229 (v1303 : BitVec 32) : Prop :=
  (∀ a, (k0_off229 v1303) a + S1x1024.size a ≤ S8192x1024.size a)
theorem k0_off229_inb : ∀ (v1303 : BitVec 32) (k0_hw229 : k0_chk229 v1303), ∀ a, (k0_off229 v1303) a + S1x1024.size a ≤ S8192x1024.size a := fun v1303 k0_hw229 => k0_hw229

def k0_off230 (v1308 : BitVec 32) : Fin 2 → Nat :=
  let c0_i32_796 : BitVec 32 := 0#32
  ![v1308.toNat, 0]

def k0_chk230 (v1308 : BitVec 32) : Prop :=
  (∀ a, (k0_off230 v1308) a + S1x1024.size a ≤ S8192x1024.size a)
theorem k0_off230_inb : ∀ (v1308 : BitVec 32) (k0_hw230 : k0_chk230 v1308), ∀ a, (k0_off230 v1308) a + S1x1024.size a ≤ S8192x1024.size a := fun v1308 k0_hw230 => k0_hw230

def k0_off231 (v1313 : BitVec 32) : Fin 2 → Nat :=
  let c0_i32_799 : BitVec 32 := 0#32
  ![v1313.toNat, 0]

def k0_chk231 (v1313 : BitVec 32) : Prop :=
  (∀ a, (k0_off231 v1313) a + S1x1024.size a ≤ S8192x1024.size a)
theorem k0_off231_inb : ∀ (v1313 : BitVec 32) (k0_hw231 : k0_chk231 v1313), ∀ a, (k0_off231 v1313) a + S1x1024.size a ≤ S8192x1024.size a := fun v1313 k0_hw231 => k0_hw231

def k0_off232 (v1318 : BitVec 32) : Fin 2 → Nat :=
  let c0_i32_802 : BitVec 32 := 0#32
  ![v1318.toNat, 0]

def k0_chk232 (v1318 : BitVec 32) : Prop :=
  (∀ a, (k0_off232 v1318) a + S1x1024.size a ≤ S8192x1024.size a)
theorem k0_off232_inb : ∀ (v1318 : BitVec 32) (k0_hw232 : k0_chk232 v1318), ∀ a, (k0_off232 v1318) a + S1x1024.size a ≤ S8192x1024.size a := fun v1318 k0_hw232 => k0_hw232

def k0_off233 (v1323 : BitVec 32) : Fin 2 → Nat :=
  let c0_i32_805 : BitVec 32 := 0#32
  ![v1323.toNat, 0]

def k0_chk233 (v1323 : BitVec 32) : Prop :=
  (∀ a, (k0_off233 v1323) a + S1x1024.size a ≤ S8192x1024.size a)
theorem k0_off233_inb : ∀ (v1323 : BitVec 32) (k0_hw233 : k0_chk233 v1323), ∀ a, (k0_off233 v1323) a + S1x1024.size a ≤ S8192x1024.size a := fun v1323 k0_hw233 => k0_hw233

def k0_off234 (v1328 : BitVec 32) : Fin 2 → Nat :=
  let c0_i32_808 : BitVec 32 := 0#32
  ![v1328.toNat, 0]

def k0_chk234 (v1328 : BitVec 32) : Prop :=
  (∀ a, (k0_off234 v1328) a + S1x1024.size a ≤ S8192x1024.size a)
theorem k0_off234_inb : ∀ (v1328 : BitVec 32) (k0_hw234 : k0_chk234 v1328), ∀ a, (k0_off234 v1328) a + S1x1024.size a ≤ S8192x1024.size a := fun v1328 k0_hw234 => k0_hw234

def k0_off235 (v1333 : BitVec 32) : Fin 2 → Nat :=
  let c0_i32_811 : BitVec 32 := 0#32
  ![v1333.toNat, 0]

def k0_chk235 (v1333 : BitVec 32) : Prop :=
  (∀ a, (k0_off235 v1333) a + S1x1024.size a ≤ S8192x1024.size a)
theorem k0_off235_inb : ∀ (v1333 : BitVec 32) (k0_hw235 : k0_chk235 v1333), ∀ a, (k0_off235 v1333) a + S1x1024.size a ≤ S8192x1024.size a := fun v1333 k0_hw235 => k0_hw235

def k0_off236 (v1338 : BitVec 32) : Fin 2 → Nat :=
  let c0_i32_814 : BitVec 32 := 0#32
  ![v1338.toNat, 0]

def k0_chk236 (v1338 : BitVec 32) : Prop :=
  (∀ a, (k0_off236 v1338) a + S1x1024.size a ≤ S8192x1024.size a)
theorem k0_off236_inb : ∀ (v1338 : BitVec 32) (k0_hw236 : k0_chk236 v1338), ∀ a, (k0_off236 v1338) a + S1x1024.size a ≤ S8192x1024.size a := fun v1338 k0_hw236 => k0_hw236

def k0_off237 (v1343 : BitVec 32) : Fin 2 → Nat :=
  let c0_i32_817 : BitVec 32 := 0#32
  ![v1343.toNat, 0]

def k0_chk237 (v1343 : BitVec 32) : Prop :=
  (∀ a, (k0_off237 v1343) a + S1x1024.size a ≤ S8192x1024.size a)
theorem k0_off237_inb : ∀ (v1343 : BitVec 32) (k0_hw237 : k0_chk237 v1343), ∀ a, (k0_off237 v1343) a + S1x1024.size a ≤ S8192x1024.size a := fun v1343 k0_hw237 => k0_hw237

def k0_off238 (v1348 : BitVec 32) : Fin 2 → Nat :=
  let c0_i32_820 : BitVec 32 := 0#32
  ![v1348.toNat, 0]

def k0_chk238 (v1348 : BitVec 32) : Prop :=
  (∀ a, (k0_off238 v1348) a + S1x1024.size a ≤ S8192x1024.size a)
theorem k0_off238_inb : ∀ (v1348 : BitVec 32) (k0_hw238 : k0_chk238 v1348), ∀ a, (k0_off238 v1348) a + S1x1024.size a ≤ S8192x1024.size a := fun v1348 k0_hw238 => k0_hw238

def k0_off239 (v1353 : BitVec 32) : Fin 2 → Nat :=
  let c0_i32_823 : BitVec 32 := 0#32
  ![v1353.toNat, 0]

def k0_chk239 (v1353 : BitVec 32) : Prop :=
  (∀ a, (k0_off239 v1353) a + S1x1024.size a ≤ S8192x1024.size a)
theorem k0_off239_inb : ∀ (v1353 : BitVec 32) (k0_hw239 : k0_chk239 v1353), ∀ a, (k0_off239 v1353) a + S1x1024.size a ≤ S8192x1024.size a := fun v1353 k0_hw239 => k0_hw239

def k0_off240 (v1358 : BitVec 32) : Fin 2 → Nat :=
  let c0_i32_826 : BitVec 32 := 0#32
  ![v1358.toNat, 0]

def k0_chk240 (v1358 : BitVec 32) : Prop :=
  (∀ a, (k0_off240 v1358) a + S1x1024.size a ≤ S8192x1024.size a)
theorem k0_off240_inb : ∀ (v1358 : BitVec 32) (k0_hw240 : k0_chk240 v1358), ∀ a, (k0_off240 v1358) a + S1x1024.size a ≤ S8192x1024.size a := fun v1358 k0_hw240 => k0_hw240

def k0_off241 (v1363 : BitVec 32) : Fin 2 → Nat :=
  let c0_i32_829 : BitVec 32 := 0#32
  ![v1363.toNat, 0]

def k0_chk241 (v1363 : BitVec 32) : Prop :=
  (∀ a, (k0_off241 v1363) a + S1x1024.size a ≤ S8192x1024.size a)
theorem k0_off241_inb : ∀ (v1363 : BitVec 32) (k0_hw241 : k0_chk241 v1363), ∀ a, (k0_off241 v1363) a + S1x1024.size a ≤ S8192x1024.size a := fun v1363 k0_hw241 => k0_hw241

def k0_off242 (v1368 : BitVec 32) : Fin 2 → Nat :=
  let c0_i32_832 : BitVec 32 := 0#32
  ![v1368.toNat, 0]

def k0_chk242 (v1368 : BitVec 32) : Prop :=
  (∀ a, (k0_off242 v1368) a + S1x1024.size a ≤ S8192x1024.size a)
theorem k0_off242_inb : ∀ (v1368 : BitVec 32) (k0_hw242 : k0_chk242 v1368), ∀ a, (k0_off242 v1368) a + S1x1024.size a ≤ S8192x1024.size a := fun v1368 k0_hw242 => k0_hw242

def k0_off243 (v1373 : BitVec 32) : Fin 2 → Nat :=
  let c0_i32_835 : BitVec 32 := 0#32
  ![v1373.toNat, 0]

def k0_chk243 (v1373 : BitVec 32) : Prop :=
  (∀ a, (k0_off243 v1373) a + S1x1024.size a ≤ S8192x1024.size a)
theorem k0_off243_inb : ∀ (v1373 : BitVec 32) (k0_hw243 : k0_chk243 v1373), ∀ a, (k0_off243 v1373) a + S1x1024.size a ≤ S8192x1024.size a := fun v1373 k0_hw243 => k0_hw243

def k0_off244 (v1378 : BitVec 32) : Fin 2 → Nat :=
  let c0_i32_838 : BitVec 32 := 0#32
  ![v1378.toNat, 0]

def k0_chk244 (v1378 : BitVec 32) : Prop :=
  (∀ a, (k0_off244 v1378) a + S1x1024.size a ≤ S8192x1024.size a)
theorem k0_off244_inb : ∀ (v1378 : BitVec 32) (k0_hw244 : k0_chk244 v1378), ∀ a, (k0_off244 v1378) a + S1x1024.size a ≤ S8192x1024.size a := fun v1378 k0_hw244 => k0_hw244

def k0_off245 (v1383 : BitVec 32) : Fin 2 → Nat :=
  let c0_i32_841 : BitVec 32 := 0#32
  ![v1383.toNat, 0]

def k0_chk245 (v1383 : BitVec 32) : Prop :=
  (∀ a, (k0_off245 v1383) a + S1x1024.size a ≤ S8192x1024.size a)
theorem k0_off245_inb : ∀ (v1383 : BitVec 32) (k0_hw245 : k0_chk245 v1383), ∀ a, (k0_off245 v1383) a + S1x1024.size a ≤ S8192x1024.size a := fun v1383 k0_hw245 => k0_hw245

def k0_off246 (v1388 : BitVec 32) : Fin 2 → Nat :=
  let c0_i32_844 : BitVec 32 := 0#32
  ![v1388.toNat, 0]

def k0_chk246 (v1388 : BitVec 32) : Prop :=
  (∀ a, (k0_off246 v1388) a + S1x1024.size a ≤ S8192x1024.size a)
theorem k0_off246_inb : ∀ (v1388 : BitVec 32) (k0_hw246 : k0_chk246 v1388), ∀ a, (k0_off246 v1388) a + S1x1024.size a ≤ S8192x1024.size a := fun v1388 k0_hw246 => k0_hw246

def k0_off247 (v1393 : BitVec 32) : Fin 2 → Nat :=
  let c0_i32_847 : BitVec 32 := 0#32
  ![v1393.toNat, 0]

def k0_chk247 (v1393 : BitVec 32) : Prop :=
  (∀ a, (k0_off247 v1393) a + S1x1024.size a ≤ S8192x1024.size a)
theorem k0_off247_inb : ∀ (v1393 : BitVec 32) (k0_hw247 : k0_chk247 v1393), ∀ a, (k0_off247 v1393) a + S1x1024.size a ≤ S8192x1024.size a := fun v1393 k0_hw247 => k0_hw247

def k0_off248 (v1398 : BitVec 32) : Fin 2 → Nat :=
  let c0_i32_850 : BitVec 32 := 0#32
  ![v1398.toNat, 0]

def k0_chk248 (v1398 : BitVec 32) : Prop :=
  (∀ a, (k0_off248 v1398) a + S1x1024.size a ≤ S8192x1024.size a)
theorem k0_off248_inb : ∀ (v1398 : BitVec 32) (k0_hw248 : k0_chk248 v1398), ∀ a, (k0_off248 v1398) a + S1x1024.size a ≤ S8192x1024.size a := fun v1398 k0_hw248 => k0_hw248

def k0_off249 (v1403 : BitVec 32) : Fin 2 → Nat :=
  let c0_i32_853 : BitVec 32 := 0#32
  ![v1403.toNat, 0]

def k0_chk249 (v1403 : BitVec 32) : Prop :=
  (∀ a, (k0_off249 v1403) a + S1x1024.size a ≤ S8192x1024.size a)
theorem k0_off249_inb : ∀ (v1403 : BitVec 32) (k0_hw249 : k0_chk249 v1403), ∀ a, (k0_off249 v1403) a + S1x1024.size a ≤ S8192x1024.size a := fun v1403 k0_hw249 => k0_hw249

def k0_off250 (v1408 : BitVec 32) : Fin 2 → Nat :=
  let c0_i32_856 : BitVec 32 := 0#32
  ![v1408.toNat, 0]

def k0_chk250 (v1408 : BitVec 32) : Prop :=
  (∀ a, (k0_off250 v1408) a + S1x1024.size a ≤ S8192x1024.size a)
theorem k0_off250_inb : ∀ (v1408 : BitVec 32) (k0_hw250 : k0_chk250 v1408), ∀ a, (k0_off250 v1408) a + S1x1024.size a ≤ S8192x1024.size a := fun v1408 k0_hw250 => k0_hw250

def k0_off251 (v1413 : BitVec 32) : Fin 2 → Nat :=
  let c0_i32_859 : BitVec 32 := 0#32
  ![v1413.toNat, 0]

def k0_chk251 (v1413 : BitVec 32) : Prop :=
  (∀ a, (k0_off251 v1413) a + S1x1024.size a ≤ S8192x1024.size a)
theorem k0_off251_inb : ∀ (v1413 : BitVec 32) (k0_hw251 : k0_chk251 v1413), ∀ a, (k0_off251 v1413) a + S1x1024.size a ≤ S8192x1024.size a := fun v1413 k0_hw251 => k0_hw251

def k0_off252 (v1418 : BitVec 32) : Fin 2 → Nat :=
  let c0_i32_862 : BitVec 32 := 0#32
  ![v1418.toNat, 0]

def k0_chk252 (v1418 : BitVec 32) : Prop :=
  (∀ a, (k0_off252 v1418) a + S1x1024.size a ≤ S8192x1024.size a)
theorem k0_off252_inb : ∀ (v1418 : BitVec 32) (k0_hw252 : k0_chk252 v1418), ∀ a, (k0_off252 v1418) a + S1x1024.size a ≤ S8192x1024.size a := fun v1418 k0_hw252 => k0_hw252

def k0_off253 (v1423 : BitVec 32) : Fin 2 → Nat :=
  let c0_i32_865 : BitVec 32 := 0#32
  ![v1423.toNat, 0]

def k0_chk253 (v1423 : BitVec 32) : Prop :=
  (∀ a, (k0_off253 v1423) a + S1x1024.size a ≤ S8192x1024.size a)
theorem k0_off253_inb : ∀ (v1423 : BitVec 32) (k0_hw253 : k0_chk253 v1423), ∀ a, (k0_off253 v1423) a + S1x1024.size a ≤ S8192x1024.size a := fun v1423 k0_hw253 => k0_hw253

def k0_off254 (v1428 : BitVec 32) : Fin 2 → Nat :=
  let c0_i32_868 : BitVec 32 := 0#32
  ![v1428.toNat, 0]

def k0_chk254 (v1428 : BitVec 32) : Prop :=
  (∀ a, (k0_off254 v1428) a + S1x1024.size a ≤ S8192x1024.size a)
theorem k0_off254_inb : ∀ (v1428 : BitVec 32) (k0_hw254 : k0_chk254 v1428), ∀ a, (k0_off254 v1428) a + S1x1024.size a ≤ S8192x1024.size a := fun v1428 k0_hw254 => k0_hw254

def k0_off255 (v1433 : BitVec 32) : Fin 2 → Nat :=
  let c0_i32_871 : BitVec 32 := 0#32
  ![v1433.toNat, 0]

def k0_chk255 (v1433 : BitVec 32) : Prop :=
  (∀ a, (k0_off255 v1433) a + S1x1024.size a ≤ S8192x1024.size a)
theorem k0_off255_inb : ∀ (v1433 : BitVec 32) (k0_hw255 : k0_chk255 v1433), ∀ a, (k0_off255 v1433) a + S1x1024.size a ≤ S8192x1024.size a := fun v1433 k0_hw255 => k0_hw255

def k0_off256 (v1438 : BitVec 32) : Fin 2 → Nat :=
  let c0_i32_874 : BitVec 32 := 0#32
  ![v1438.toNat, 0]

def k0_chk256 (v1438 : BitVec 32) : Prop :=
  (∀ a, (k0_off256 v1438) a + S1x1024.size a ≤ S8192x1024.size a)
theorem k0_off256_inb : ∀ (v1438 : BitVec 32) (k0_hw256 : k0_chk256 v1438), ∀ a, (k0_off256 v1438) a + S1x1024.size a ≤ S8192x1024.size a := fun v1438 k0_hw256 => k0_hw256

def k0_dev6 (d0 : Dev nD) : Nat :=
  let c0_i32_883 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_882 : BitVec 32 := 4#32
  let v1447 : BitVec 32 := Scalar.muli v2 c4_i32_882
  let v1448 : BitVec 32 := Scalar.addi c0_i32_883 v1447
  let c1_i32_55 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_55 v5
  let c2_i32_884 : BitVec 32 := 2#32
  let v1449 : BitVec 32 := Scalar.muli v111 c2_i32_884
  let v1450 : BitVec 32 := Scalar.addi v1448 v1449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_885 : BitVec 32 := 1#32
  let v1451 : BitVec 32 := Scalar.muli v8 c1_i32_885
  let v1452 : BitVec 32 := Scalar.addi v1450 v1451
  v1452.toNat
def k0_dev7 (d0 : Dev nD) : Nat :=
  let c0_i32_898 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_897 : BitVec 32 := 4#32
  let v1463 : BitVec 32 := Scalar.muli v2 c4_i32_897
  let v1464 : BitVec 32 := Scalar.addi c0_i32_898 v1463
  let c1_i32_55 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_55 v5
  let c2_i32_899 : BitVec 32 := 2#32
  let v1465 : BitVec 32 := Scalar.muli v111 c2_i32_899
  let v1466 : BitVec 32 := Scalar.addi v1464 v1465
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_900 : BitVec 32 := 1#32
  let v1467 : BitVec 32 := Scalar.muli v8 c1_i32_900
  let v1468 : BitVec 32 := Scalar.addi v1466 v1467
  v1468.toNat
def k0_off257 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v1494 : Index := Scalar.indexCast v21
  let c0_921 : Index := 0#32
  let c0_922 : Index := 0#32
  ![v1494.toNat, 0, 0]
def k0_off258 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c0_i32_929 : BitVec 32 := 0#32
  let c0_i32_930 : BitVec 32 := 0#32
  ![v21.toNat, 0, 0]
def k0_dev8 (d0 : Dev nD) : Nat :=
  let c0_i32_926 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_30 : BitVec 32 := 0#32
  let v56 : BitVec 1 := Scalar.cmpi .sgt v32 c0_i32_30
  let v57 : BitVec 32 := Scalar.extui v56
  let c0_i32_31 : BitVec 32 := 0#32
  let v58 : BitVec 1 := Scalar.cmpi .slt v32 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v32 c2_i32_29
  let c0_i32_34 : BitVec 32 := 0#32
  let v68 : BitVec 1 := Scalar.cmpi .ne v67 c0_i32_34
  let v69 : BitVec 1 := Scalar.andi v66 v68
  let v55 : BitVec 32 := Scalar.divsi v32 c2_i32_29
  let c1_i32_35 : BitVec 32 := 1#32
  let v70 : BitVec 32 := Scalar.subi v55 c1_i32_35
  let v71 : BitVec 32 := Scalar.select v69 v70 v55
  let c4_i32_925 : BitVec 32 := 4#32
  let v1498 : BitVec 32 := Scalar.muli v71 c4_i32_925
  let v1499 : BitVec 32 := Scalar.addi c0_i32_926 v1498
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_927 : BitVec 32 := 2#32
  let v1500 : BitVec 32 := Scalar.muli v5 c2_i32_927
  let v1501 : BitVec 32 := Scalar.addi v1499 v1500
  let v72 : BitVec 32 := Scalar.addi v71 v32
  let c2_i32_36 : BitVec 32 := 2#32
  let c0_i32_37 : BitVec 32 := 0#32
  let v73 : BitVec 1 := Scalar.cmpi .eq c2_i32_36 c0_i32_37
  let c1_i32_38 : BitVec 32 := 1#32
  let v74 : BitVec 32 := Scalar.select v73 c1_i32_38 c2_i32_36
  let v75 : BitVec 32 := Scalar.remsi v72 v74
  let c0_i32_40 : BitVec 32 := 0#32
  let v77 : BitVec 1 := Scalar.cmpi .slt v75 c0_i32_40
  let c0_i32_41 : BitVec 32 := 0#32
  let v78 : BitVec 1 := Scalar.cmpi .slt v74 c0_i32_41
  let v79 : BitVec 1 := Scalar.xori v77 v78
  let c0_i32_39 : BitVec 32 := 0#32
  let v76 : BitVec 1 := Scalar.cmpi .ne v75 c0_i32_39
  let v80 : BitVec 1 := Scalar.andi v79 v76
  let v81 : BitVec 32 := Scalar.addi v75 v74
  let v82 : BitVec 32 := Scalar.select v80 v81 v75
  let c1_i32_928 : BitVec 32 := 1#32
  let v1502 : BitVec 32 := Scalar.muli v82 c1_i32_928
  let v1503 : BitVec 32 := Scalar.addi v1501 v1502
  v1503.toNat
def k0_dev9 (d0 : Dev nD) : Nat :=
  let c0_i32_936 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_43 : BitVec 32 := 0#32
  let v84 : BitVec 1 := Scalar.cmpi .sgt v43 c0_i32_43
  let v85 : BitVec 32 := Scalar.extui v84
  let c0_i32_44 : BitVec 32 := 0#32
  let v86 : BitVec 1 := Scalar.cmpi .slt v43 c0_i32_44
  let v87 : BitVec 32 := Scalar.extui v86
  let v88 : BitVec 32 := Scalar.subi v85 v87
  let c2_i32_42 : BitVec 32 := 2#32
  let c0_i32_45 : BitVec 32 := 0#32
  let v89 : BitVec 1 := Scalar.cmpi .sgt c2_i32_42 c0_i32_45
  let v90 : BitVec 32 := Scalar.extui v89
  let c0_i32_46 : BitVec 32 := 0#32
  let v91 : BitVec 1 := Scalar.cmpi .slt c2_i32_42 c0_i32_46
  let v92 : BitVec 32 := Scalar.extui v91
  let v93 : BitVec 32 := Scalar.subi v90 v92
  let v94 : BitVec 1 := Scalar.cmpi .ne v88 v93
  let v95 : BitVec 32 := Scalar.remsi v43 c2_i32_42
  let c0_i32_47 : BitVec 32 := 0#32
  let v96 : BitVec 1 := Scalar.cmpi .ne v95 c0_i32_47
  let v97 : BitVec 1 := Scalar.andi v94 v96
  let v83 : BitVec 32 := Scalar.divsi v43 c2_i32_42
  let c1_i32_48 : BitVec 32 := 1#32
  let v98 : BitVec 32 := Scalar.subi v83 c1_i32_48
  let v99 : BitVec 32 := Scalar.select v97 v98 v83
  let c4_i32_935 : BitVec 32 := 4#32
  let v1512 : BitVec 32 := Scalar.muli v99 c4_i32_935
  let v1513 : BitVec 32 := Scalar.addi c0_i32_936 v1512
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_937 : BitVec 32 := 2#32
  let v1514 : BitVec 32 := Scalar.muli v5 c2_i32_937
  let v1515 : BitVec 32 := Scalar.addi v1513 v1514
  let v100 : BitVec 32 := Scalar.addi v99 v43
  let c2_i32_49 : BitVec 32 := 2#32
  let c0_i32_50 : BitVec 32 := 0#32
  let v101 : BitVec 1 := Scalar.cmpi .eq c2_i32_49 c0_i32_50
  let c1_i32_51 : BitVec 32 := 1#32
  let v102 : BitVec 32 := Scalar.select v101 c1_i32_51 c2_i32_49
  let v103 : BitVec 32 := Scalar.remsi v100 v102
  let c0_i32_53 : BitVec 32 := 0#32
  let v105 : BitVec 1 := Scalar.cmpi .slt v103 c0_i32_53
  let c0_i32_54 : BitVec 32 := 0#32
  let v106 : BitVec 1 := Scalar.cmpi .slt v102 c0_i32_54
  let v107 : BitVec 1 := Scalar.xori v105 v106
  let c0_i32_52 : BitVec 32 := 0#32
  let v104 : BitVec 1 := Scalar.cmpi .ne v103 c0_i32_52
  let v108 : BitVec 1 := Scalar.andi v107 v104
  let v109 : BitVec 32 := Scalar.addi v103 v102
  let v110 : BitVec 32 := Scalar.select v108 v109 v103
  let c1_i32_938 : BitVec 32 := 1#32
  let v1516 : BitVec 32 := Scalar.muli v110 c1_i32_938
  let v1517 : BitVec 32 := Scalar.addi v1515 v1516
  v1517.toNat
def k0_off259 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v1545 : Index := Scalar.indexCast v21
  let c64_960 : Index := 64#32
  let c0_961 : Index := 0#32
  ![v1545.toNat, 64, 0]
def k0_off260 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c64_i32_968 : BitVec 32 := 64#32
  let c0_i32_969 : BitVec 32 := 0#32
  ![v21.toNat, 64, 0]
def k0_dev10 (d0 : Dev nD) : Nat :=
  let c0_i32_965 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_30 : BitVec 32 := 0#32
  let v56 : BitVec 1 := Scalar.cmpi .sgt v32 c0_i32_30
  let v57 : BitVec 32 := Scalar.extui v56
  let c0_i32_31 : BitVec 32 := 0#32
  let v58 : BitVec 1 := Scalar.cmpi .slt v32 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v32 c2_i32_29
  let c0_i32_34 : BitVec 32 := 0#32
  let v68 : BitVec 1 := Scalar.cmpi .ne v67 c0_i32_34
  let v69 : BitVec 1 := Scalar.andi v66 v68
  let v55 : BitVec 32 := Scalar.divsi v32 c2_i32_29
  let c1_i32_35 : BitVec 32 := 1#32
  let v70 : BitVec 32 := Scalar.subi v55 c1_i32_35
  let v71 : BitVec 32 := Scalar.select v69 v70 v55
  let c4_i32_964 : BitVec 32 := 4#32
  let v1549 : BitVec 32 := Scalar.muli v71 c4_i32_964
  let v1550 : BitVec 32 := Scalar.addi c0_i32_965 v1549
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_966 : BitVec 32 := 2#32
  let v1551 : BitVec 32 := Scalar.muli v5 c2_i32_966
  let v1552 : BitVec 32 := Scalar.addi v1550 v1551
  let v72 : BitVec 32 := Scalar.addi v71 v32
  let c2_i32_36 : BitVec 32 := 2#32
  let c0_i32_37 : BitVec 32 := 0#32
  let v73 : BitVec 1 := Scalar.cmpi .eq c2_i32_36 c0_i32_37
  let c1_i32_38 : BitVec 32 := 1#32
  let v74 : BitVec 32 := Scalar.select v73 c1_i32_38 c2_i32_36
  let v75 : BitVec 32 := Scalar.remsi v72 v74
  let c0_i32_40 : BitVec 32 := 0#32
  let v77 : BitVec 1 := Scalar.cmpi .slt v75 c0_i32_40
  let c0_i32_41 : BitVec 32 := 0#32
  let v78 : BitVec 1 := Scalar.cmpi .slt v74 c0_i32_41
  let v79 : BitVec 1 := Scalar.xori v77 v78
  let c0_i32_39 : BitVec 32 := 0#32
  let v76 : BitVec 1 := Scalar.cmpi .ne v75 c0_i32_39
  let v80 : BitVec 1 := Scalar.andi v79 v76
  let v81 : BitVec 32 := Scalar.addi v75 v74
  let v82 : BitVec 32 := Scalar.select v80 v81 v75
  let c1_i32_967 : BitVec 32 := 1#32
  let v1553 : BitVec 32 := Scalar.muli v82 c1_i32_967
  let v1554 : BitVec 32 := Scalar.addi v1552 v1553
  v1554.toNat
def k0_dev11 (d0 : Dev nD) : Nat :=
  let c0_i32_975 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_43 : BitVec 32 := 0#32
  let v84 : BitVec 1 := Scalar.cmpi .sgt v43 c0_i32_43
  let v85 : BitVec 32 := Scalar.extui v84
  let c0_i32_44 : BitVec 32 := 0#32
  let v86 : BitVec 1 := Scalar.cmpi .slt v43 c0_i32_44
  let v87 : BitVec 32 := Scalar.extui v86
  let v88 : BitVec 32 := Scalar.subi v85 v87
  let c2_i32_42 : BitVec 32 := 2#32
  let c0_i32_45 : BitVec 32 := 0#32
  let v89 : BitVec 1 := Scalar.cmpi .sgt c2_i32_42 c0_i32_45
  let v90 : BitVec 32 := Scalar.extui v89
  let c0_i32_46 : BitVec 32 := 0#32
  let v91 : BitVec 1 := Scalar.cmpi .slt c2_i32_42 c0_i32_46
  let v92 : BitVec 32 := Scalar.extui v91
  let v93 : BitVec 32 := Scalar.subi v90 v92
  let v94 : BitVec 1 := Scalar.cmpi .ne v88 v93
  let v95 : BitVec 32 := Scalar.remsi v43 c2_i32_42
  let c0_i32_47 : BitVec 32 := 0#32
  let v96 : BitVec 1 := Scalar.cmpi .ne v95 c0_i32_47
  let v97 : BitVec 1 := Scalar.andi v94 v96
  let v83 : BitVec 32 := Scalar.divsi v43 c2_i32_42
  let c1_i32_48 : BitVec 32 := 1#32
  let v98 : BitVec 32 := Scalar.subi v83 c1_i32_48
  let v99 : BitVec 32 := Scalar.select v97 v98 v83
  let c4_i32_974 : BitVec 32 := 4#32
  let v1563 : BitVec 32 := Scalar.muli v99 c4_i32_974
  let v1564 : BitVec 32 := Scalar.addi c0_i32_975 v1563
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_976 : BitVec 32 := 2#32
  let v1565 : BitVec 32 := Scalar.muli v5 c2_i32_976
  let v1566 : BitVec 32 := Scalar.addi v1564 v1565
  let v100 : BitVec 32 := Scalar.addi v99 v43
  let c2_i32_49 : BitVec 32 := 2#32
  let c0_i32_50 : BitVec 32 := 0#32
  let v101 : BitVec 1 := Scalar.cmpi .eq c2_i32_49 c0_i32_50
  let c1_i32_51 : BitVec 32 := 1#32
  let v102 : BitVec 32 := Scalar.select v101 c1_i32_51 c2_i32_49
  let v103 : BitVec 32 := Scalar.remsi v100 v102
  let c0_i32_53 : BitVec 32 := 0#32
  let v105 : BitVec 1 := Scalar.cmpi .slt v103 c0_i32_53
  let c0_i32_54 : BitVec 32 := 0#32
  let v106 : BitVec 1 := Scalar.cmpi .slt v102 c0_i32_54
  let v107 : BitVec 1 := Scalar.xori v105 v106
  let c0_i32_52 : BitVec 32 := 0#32
  let v104 : BitVec 1 := Scalar.cmpi .ne v103 c0_i32_52
  let v108 : BitVec 1 := Scalar.andi v107 v104
  let v109 : BitVec 32 := Scalar.addi v103 v102
  let v110 : BitVec 32 := Scalar.select v108 v109 v103
  let c1_i32_977 : BitVec 32 := 1#32
  let v1567 : BitVec 32 := Scalar.muli v110 c1_i32_977
  let v1568 : BitVec 32 := Scalar.addi v1566 v1567
  v1568.toNat
def k0_off261 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v1596 : Index := Scalar.indexCast v21
  let c128_999 : Index := 128#32
  let c0_1000 : Index := 0#32
  ![v1596.toNat, 128, 0]
def k0_off262 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c128_i32_1007 : BitVec 32 := 128#32
  let c0_i32_1008 : BitVec 32 := 0#32
  ![v21.toNat, 128, 0]
def k0_dev12 (d0 : Dev nD) : Nat :=
  let c0_i32_1004 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_30 : BitVec 32 := 0#32
  let v56 : BitVec 1 := Scalar.cmpi .sgt v32 c0_i32_30
  let v57 : BitVec 32 := Scalar.extui v56
  let c0_i32_31 : BitVec 32 := 0#32
  let v58 : BitVec 1 := Scalar.cmpi .slt v32 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v32 c2_i32_29
  let c0_i32_34 : BitVec 32 := 0#32
  let v68 : BitVec 1 := Scalar.cmpi .ne v67 c0_i32_34
  let v69 : BitVec 1 := Scalar.andi v66 v68
  let v55 : BitVec 32 := Scalar.divsi v32 c2_i32_29
  let c1_i32_35 : BitVec 32 := 1#32
  let v70 : BitVec 32 := Scalar.subi v55 c1_i32_35
  let v71 : BitVec 32 := Scalar.select v69 v70 v55
  let c4_i32_1003 : BitVec 32 := 4#32
  let v1600 : BitVec 32 := Scalar.muli v71 c4_i32_1003
  let v1601 : BitVec 32 := Scalar.addi c0_i32_1004 v1600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1005 : BitVec 32 := 2#32
  let v1602 : BitVec 32 := Scalar.muli v5 c2_i32_1005
  let v1603 : BitVec 32 := Scalar.addi v1601 v1602
  let v72 : BitVec 32 := Scalar.addi v71 v32
  let c2_i32_36 : BitVec 32 := 2#32
  let c0_i32_37 : BitVec 32 := 0#32
  let v73 : BitVec 1 := Scalar.cmpi .eq c2_i32_36 c0_i32_37
  let c1_i32_38 : BitVec 32 := 1#32
  let v74 : BitVec 32 := Scalar.select v73 c1_i32_38 c2_i32_36
  let v75 : BitVec 32 := Scalar.remsi v72 v74
  let c0_i32_40 : BitVec 32 := 0#32
  let v77 : BitVec 1 := Scalar.cmpi .slt v75 c0_i32_40
  let c0_i32_41 : BitVec 32 := 0#32
  let v78 : BitVec 1 := Scalar.cmpi .slt v74 c0_i32_41
  let v79 : BitVec 1 := Scalar.xori v77 v78
  let c0_i32_39 : BitVec 32 := 0#32
  let v76 : BitVec 1 := Scalar.cmpi .ne v75 c0_i32_39
  let v80 : BitVec 1 := Scalar.andi v79 v76
  let v81 : BitVec 32 := Scalar.addi v75 v74
  let v82 : BitVec 32 := Scalar.select v80 v81 v75
  let c1_i32_1006 : BitVec 32 := 1#32
  let v1604 : BitVec 32 := Scalar.muli v82 c1_i32_1006
  let v1605 : BitVec 32 := Scalar.addi v1603 v1604
  v1605.toNat
def k0_dev13 (d0 : Dev nD) : Nat :=
  let c0_i32_1014 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_43 : BitVec 32 := 0#32
  let v84 : BitVec 1 := Scalar.cmpi .sgt v43 c0_i32_43
  let v85 : BitVec 32 := Scalar.extui v84
  let c0_i32_44 : BitVec 32 := 0#32
  let v86 : BitVec 1 := Scalar.cmpi .slt v43 c0_i32_44
  let v87 : BitVec 32 := Scalar.extui v86
  let v88 : BitVec 32 := Scalar.subi v85 v87
  let c2_i32_42 : BitVec 32 := 2#32
  let c0_i32_45 : BitVec 32 := 0#32
  let v89 : BitVec 1 := Scalar.cmpi .sgt c2_i32_42 c0_i32_45
  let v90 : BitVec 32 := Scalar.extui v89
  let c0_i32_46 : BitVec 32 := 0#32
  let v91 : BitVec 1 := Scalar.cmpi .slt c2_i32_42 c0_i32_46
  let v92 : BitVec 32 := Scalar.extui v91
  let v93 : BitVec 32 := Scalar.subi v90 v92
  let v94 : BitVec 1 := Scalar.cmpi .ne v88 v93
  let v95 : BitVec 32 := Scalar.remsi v43 c2_i32_42
  let c0_i32_47 : BitVec 32 := 0#32
  let v96 : BitVec 1 := Scalar.cmpi .ne v95 c0_i32_47
  let v97 : BitVec 1 := Scalar.andi v94 v96
  let v83 : BitVec 32 := Scalar.divsi v43 c2_i32_42
  let c1_i32_48 : BitVec 32 := 1#32
  let v98 : BitVec 32 := Scalar.subi v83 c1_i32_48
  let v99 : BitVec 32 := Scalar.select v97 v98 v83
  let c4_i32_1013 : BitVec 32 := 4#32
  let v1614 : BitVec 32 := Scalar.muli v99 c4_i32_1013
  let v1615 : BitVec 32 := Scalar.addi c0_i32_1014 v1614
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1015 : BitVec 32 := 2#32
  let v1616 : BitVec 32 := Scalar.muli v5 c2_i32_1015
  let v1617 : BitVec 32 := Scalar.addi v1615 v1616
  let v100 : BitVec 32 := Scalar.addi v99 v43
  let c2_i32_49 : BitVec 32 := 2#32
  let c0_i32_50 : BitVec 32 := 0#32
  let v101 : BitVec 1 := Scalar.cmpi .eq c2_i32_49 c0_i32_50
  let c1_i32_51 : BitVec 32 := 1#32
  let v102 : BitVec 32 := Scalar.select v101 c1_i32_51 c2_i32_49
  let v103 : BitVec 32 := Scalar.remsi v100 v102
  let c0_i32_53 : BitVec 32 := 0#32
  let v105 : BitVec 1 := Scalar.cmpi .slt v103 c0_i32_53
  let c0_i32_54 : BitVec 32 := 0#32
  let v106 : BitVec 1 := Scalar.cmpi .slt v102 c0_i32_54
  let v107 : BitVec 1 := Scalar.xori v105 v106
  let c0_i32_52 : BitVec 32 := 0#32
  let v104 : BitVec 1 := Scalar.cmpi .ne v103 c0_i32_52
  let v108 : BitVec 1 := Scalar.andi v107 v104
  let v109 : BitVec 32 := Scalar.addi v103 v102
  let v110 : BitVec 32 := Scalar.select v108 v109 v103
  let c1_i32_1016 : BitVec 32 := 1#32
  let v1618 : BitVec 32 := Scalar.muli v110 c1_i32_1016
  let v1619 : BitVec 32 := Scalar.addi v1617 v1618
  v1619.toNat
def k0_off263 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v1647 : Index := Scalar.indexCast v21
  let c192_1038 : Index := 192#32
  let c0_1039 : Index := 0#32
  ![v1647.toNat, 192, 0]
def k0_off264 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c192_i32_1046 : BitVec 32 := 192#32
  let c0_i32_1047 : BitVec 32 := 0#32
  ![v21.toNat, 192, 0]
def k0_dev14 (d0 : Dev nD) : Nat :=
  let c0_i32_1043 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_30 : BitVec 32 := 0#32
  let v56 : BitVec 1 := Scalar.cmpi .sgt v32 c0_i32_30
  let v57 : BitVec 32 := Scalar.extui v56
  let c0_i32_31 : BitVec 32 := 0#32
  let v58 : BitVec 1 := Scalar.cmpi .slt v32 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v32 c2_i32_29
  let c0_i32_34 : BitVec 32 := 0#32
  let v68 : BitVec 1 := Scalar.cmpi .ne v67 c0_i32_34
  let v69 : BitVec 1 := Scalar.andi v66 v68
  let v55 : BitVec 32 := Scalar.divsi v32 c2_i32_29
  let c1_i32_35 : BitVec 32 := 1#32
  let v70 : BitVec 32 := Scalar.subi v55 c1_i32_35
  let v71 : BitVec 32 := Scalar.select v69 v70 v55
  let c4_i32_1042 : BitVec 32 := 4#32
  let v1651 : BitVec 32 := Scalar.muli v71 c4_i32_1042
  let v1652 : BitVec 32 := Scalar.addi c0_i32_1043 v1651
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1044 : BitVec 32 := 2#32
  let v1653 : BitVec 32 := Scalar.muli v5 c2_i32_1044
  let v1654 : BitVec 32 := Scalar.addi v1652 v1653
  let v72 : BitVec 32 := Scalar.addi v71 v32
  let c2_i32_36 : BitVec 32 := 2#32
  let c0_i32_37 : BitVec 32 := 0#32
  let v73 : BitVec 1 := Scalar.cmpi .eq c2_i32_36 c0_i32_37
  let c1_i32_38 : BitVec 32 := 1#32
  let v74 : BitVec 32 := Scalar.select v73 c1_i32_38 c2_i32_36
  let v75 : BitVec 32 := Scalar.remsi v72 v74
  let c0_i32_40 : BitVec 32 := 0#32
  let v77 : BitVec 1 := Scalar.cmpi .slt v75 c0_i32_40
  let c0_i32_41 : BitVec 32 := 0#32
  let v78 : BitVec 1 := Scalar.cmpi .slt v74 c0_i32_41
  let v79 : BitVec 1 := Scalar.xori v77 v78
  let c0_i32_39 : BitVec 32 := 0#32
  let v76 : BitVec 1 := Scalar.cmpi .ne v75 c0_i32_39
  let v80 : BitVec 1 := Scalar.andi v79 v76
  let v81 : BitVec 32 := Scalar.addi v75 v74
  let v82 : BitVec 32 := Scalar.select v80 v81 v75
  let c1_i32_1045 : BitVec 32 := 1#32
  let v1655 : BitVec 32 := Scalar.muli v82 c1_i32_1045
  let v1656 : BitVec 32 := Scalar.addi v1654 v1655
  v1656.toNat
def k0_dev15 (d0 : Dev nD) : Nat :=
  let c0_i32_1053 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_43 : BitVec 32 := 0#32
  let v84 : BitVec 1 := Scalar.cmpi .sgt v43 c0_i32_43
  let v85 : BitVec 32 := Scalar.extui v84
  let c0_i32_44 : BitVec 32 := 0#32
  let v86 : BitVec 1 := Scalar.cmpi .slt v43 c0_i32_44
  let v87 : BitVec 32 := Scalar.extui v86
  let v88 : BitVec 32 := Scalar.subi v85 v87
  let c2_i32_42 : BitVec 32 := 2#32
  let c0_i32_45 : BitVec 32 := 0#32
  let v89 : BitVec 1 := Scalar.cmpi .sgt c2_i32_42 c0_i32_45
  let v90 : BitVec 32 := Scalar.extui v89
  let c0_i32_46 : BitVec 32 := 0#32
  let v91 : BitVec 1 := Scalar.cmpi .slt c2_i32_42 c0_i32_46
  let v92 : BitVec 32 := Scalar.extui v91
  let v93 : BitVec 32 := Scalar.subi v90 v92
  let v94 : BitVec 1 := Scalar.cmpi .ne v88 v93
  let v95 : BitVec 32 := Scalar.remsi v43 c2_i32_42
  let c0_i32_47 : BitVec 32 := 0#32
  let v96 : BitVec 1 := Scalar.cmpi .ne v95 c0_i32_47
  let v97 : BitVec 1 := Scalar.andi v94 v96
  let v83 : BitVec 32 := Scalar.divsi v43 c2_i32_42
  let c1_i32_48 : BitVec 32 := 1#32
  let v98 : BitVec 32 := Scalar.subi v83 c1_i32_48
  let v99 : BitVec 32 := Scalar.select v97 v98 v83
  let c4_i32_1052 : BitVec 32 := 4#32
  let v1665 : BitVec 32 := Scalar.muli v99 c4_i32_1052
  let v1666 : BitVec 32 := Scalar.addi c0_i32_1053 v1665
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1054 : BitVec 32 := 2#32
  let v1667 : BitVec 32 := Scalar.muli v5 c2_i32_1054
  let v1668 : BitVec 32 := Scalar.addi v1666 v1667
  let v100 : BitVec 32 := Scalar.addi v99 v43
  let c2_i32_49 : BitVec 32 := 2#32
  let c0_i32_50 : BitVec 32 := 0#32
  let v101 : BitVec 1 := Scalar.cmpi .eq c2_i32_49 c0_i32_50
  let c1_i32_51 : BitVec 32 := 1#32
  let v102 : BitVec 32 := Scalar.select v101 c1_i32_51 c2_i32_49
  let v103 : BitVec 32 := Scalar.remsi v100 v102
  let c0_i32_53 : BitVec 32 := 0#32
  let v105 : BitVec 1 := Scalar.cmpi .slt v103 c0_i32_53
  let c0_i32_54 : BitVec 32 := 0#32
  let v106 : BitVec 1 := Scalar.cmpi .slt v102 c0_i32_54
  let v107 : BitVec 1 := Scalar.xori v105 v106
  let c0_i32_52 : BitVec 32 := 0#32
  let v104 : BitVec 1 := Scalar.cmpi .ne v103 c0_i32_52
  let v108 : BitVec 1 := Scalar.andi v107 v104
  let v109 : BitVec 32 := Scalar.addi v103 v102
  let v110 : BitVec 32 := Scalar.select v108 v109 v103
  let c1_i32_1055 : BitVec 32 := 1#32
  let v1669 : BitVec 32 := Scalar.muli v110 c1_i32_1055
  let v1670 : BitVec 32 := Scalar.addi v1668 v1669
  v1670.toNat
def k0_off265 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c256_i32 : BitVec 32 := 256#32
  let v1679 : BitVec 32 := Scalar.muli v21 c256_i32
  let c0_i32_1061 : BitVec 32 := 0#32
  ![v1679.toNat, 0]
def k0_off266 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c0_i32_1062 : BitVec 32 := 0#32
  let c0_i32_1063 : BitVec 32 := 0#32
  ![v21.toNat, 0, 0]
def k0_off267 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_1080 : BitVec 32 := 0#32
  let c0_i32_1081 : BitVec 32 := 0#32
  ![v43.toNat, 0, 0]
def k0_dev16 (d0 : Dev nD) : Nat :=
  let c0_i32_1077 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_30 : BitVec 32 := 0#32
  let v56 : BitVec 1 := Scalar.cmpi .sgt v32 c0_i32_30
  let v57 : BitVec 32 := Scalar.extui v56
  let c0_i32_31 : BitVec 32 := 0#32
  let v58 : BitVec 1 := Scalar.cmpi .slt v32 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v32 c2_i32_29
  let c0_i32_34 : BitVec 32 := 0#32
  let v68 : BitVec 1 := Scalar.cmpi .ne v67 c0_i32_34
  let v69 : BitVec 1 := Scalar.andi v66 v68
  let v55 : BitVec 32 := Scalar.divsi v32 c2_i32_29
  let c1_i32_35 : BitVec 32 := 1#32
  let v70 : BitVec 32 := Scalar.subi v55 c1_i32_35
  let v71 : BitVec 32 := Scalar.select v69 v70 v55
  let c4_i32_1076 : BitVec 32 := 4#32
  let v1697 : BitVec 32 := Scalar.muli v71 c4_i32_1076
  let v1698 : BitVec 32 := Scalar.addi c0_i32_1077 v1697
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1078 : BitVec 32 := 2#32
  let v1699 : BitVec 32 := Scalar.muli v5 c2_i32_1078
  let v1700 : BitVec 32 := Scalar.addi v1698 v1699
  let v72 : BitVec 32 := Scalar.addi v71 v32
  let c2_i32_36 : BitVec 32 := 2#32
  let c0_i32_37 : BitVec 32 := 0#32
  let v73 : BitVec 1 := Scalar.cmpi .eq c2_i32_36 c0_i32_37
  let c1_i32_38 : BitVec 32 := 1#32
  let v74 : BitVec 32 := Scalar.select v73 c1_i32_38 c2_i32_36
  let v75 : BitVec 32 := Scalar.remsi v72 v74
  let c0_i32_40 : BitVec 32 := 0#32
  let v77 : BitVec 1 := Scalar.cmpi .slt v75 c0_i32_40
  let c0_i32_41 : BitVec 32 := 0#32
  let v78 : BitVec 1 := Scalar.cmpi .slt v74 c0_i32_41
  let v79 : BitVec 1 := Scalar.xori v77 v78
  let c0_i32_39 : BitVec 32 := 0#32
  let v76 : BitVec 1 := Scalar.cmpi .ne v75 c0_i32_39
  let v80 : BitVec 1 := Scalar.andi v79 v76
  let v81 : BitVec 32 := Scalar.addi v75 v74
  let v82 : BitVec 32 := Scalar.select v80 v81 v75
  let c1_i32_1079 : BitVec 32 := 1#32
  let v1701 : BitVec 32 := Scalar.muli v82 c1_i32_1079
  let v1702 : BitVec 32 := Scalar.addi v1700 v1701
  v1702.toNat
def k0_off268 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c64_i32_1100 : BitVec 32 := 64#32
  let c0_i32_1101 : BitVec 32 := 0#32
  ![v43.toNat, 64, 0]
def k0_dev17 (d0 : Dev nD) : Nat :=
  let c0_i32_1097 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_30 : BitVec 32 := 0#32
  let v56 : BitVec 1 := Scalar.cmpi .sgt v32 c0_i32_30
  let v57 : BitVec 32 := Scalar.extui v56
  let c0_i32_31 : BitVec 32 := 0#32
  let v58 : BitVec 1 := Scalar.cmpi .slt v32 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v32 c2_i32_29
  let c0_i32_34 : BitVec 32 := 0#32
  let v68 : BitVec 1 := Scalar.cmpi .ne v67 c0_i32_34
  let v69 : BitVec 1 := Scalar.andi v66 v68
  let v55 : BitVec 32 := Scalar.divsi v32 c2_i32_29
  let c1_i32_35 : BitVec 32 := 1#32
  let v70 : BitVec 32 := Scalar.subi v55 c1_i32_35
  let v71 : BitVec 32 := Scalar.select v69 v70 v55
  let c4_i32_1096 : BitVec 32 := 4#32
  let v1723 : BitVec 32 := Scalar.muli v71 c4_i32_1096
  let v1724 : BitVec 32 := Scalar.addi c0_i32_1097 v1723
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1098 : BitVec 32 := 2#32
  let v1725 : BitVec 32 := Scalar.muli v5 c2_i32_1098
  let v1726 : BitVec 32 := Scalar.addi v1724 v1725
  let v72 : BitVec 32 := Scalar.addi v71 v32
  let c2_i32_36 : BitVec 32 := 2#32
  let c0_i32_37 : BitVec 32 := 0#32
  let v73 : BitVec 1 := Scalar.cmpi .eq c2_i32_36 c0_i32_37
  let c1_i32_38 : BitVec 32 := 1#32
  let v74 : BitVec 32 := Scalar.select v73 c1_i32_38 c2_i32_36
  let v75 : BitVec 32 := Scalar.remsi v72 v74
  let c0_i32_40 : BitVec 32 := 0#32
  let v77 : BitVec 1 := Scalar.cmpi .slt v75 c0_i32_40
  let c0_i32_41 : BitVec 32 := 0#32
  let v78 : BitVec 1 := Scalar.cmpi .slt v74 c0_i32_41
  let v79 : BitVec 1 := Scalar.xori v77 v78
  let c0_i32_39 : BitVec 32 := 0#32
  let v76 : BitVec 1 := Scalar.cmpi .ne v75 c0_i32_39
  let v80 : BitVec 1 := Scalar.andi v79 v76
  let v81 : BitVec 32 := Scalar.addi v75 v74
  let v82 : BitVec 32 := Scalar.select v80 v81 v75
  let c1_i32_1099 : BitVec 32 := 1#32
  let v1727 : BitVec 32 := Scalar.muli v82 c1_i32_1099
  let v1728 : BitVec 32 := Scalar.addi v1726 v1727
  v1728.toNat
def k0_off269 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c128_i32_1120 : BitVec 32 := 128#32
  let c0_i32_1121 : BitVec 32 := 0#32
  ![v32.toNat, 128, 0]
def k0_dev18 (d0 : Dev nD) : Nat :=
  let c0_i32_1117 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_43 : BitVec 32 := 0#32
  let v84 : BitVec 1 := Scalar.cmpi .sgt v43 c0_i32_43
  let v85 : BitVec 32 := Scalar.extui v84
  let c0_i32_44 : BitVec 32 := 0#32
  let v86 : BitVec 1 := Scalar.cmpi .slt v43 c0_i32_44
  let v87 : BitVec 32 := Scalar.extui v86
  let v88 : BitVec 32 := Scalar.subi v85 v87
  let c2_i32_42 : BitVec 32 := 2#32
  let c0_i32_45 : BitVec 32 := 0#32
  let v89 : BitVec 1 := Scalar.cmpi .sgt c2_i32_42 c0_i32_45
  let v90 : BitVec 32 := Scalar.extui v89
  let c0_i32_46 : BitVec 32 := 0#32
  let v91 : BitVec 1 := Scalar.cmpi .slt c2_i32_42 c0_i32_46
  let v92 : BitVec 32 := Scalar.extui v91
  let v93 : BitVec 32 := Scalar.subi v90 v92
  let v94 : BitVec 1 := Scalar.cmpi .ne v88 v93
  let v95 : BitVec 32 := Scalar.remsi v43 c2_i32_42
  let c0_i32_47 : BitVec 32 := 0#32
  let v96 : BitVec 1 := Scalar.cmpi .ne v95 c0_i32_47
  let v97 : BitVec 1 := Scalar.andi v94 v96
  let v83 : BitVec 32 := Scalar.divsi v43 c2_i32_42
  let c1_i32_48 : BitVec 32 := 1#32
  let v98 : BitVec 32 := Scalar.subi v83 c1_i32_48
  let v99 : BitVec 32 := Scalar.select v97 v98 v83
  let c4_i32_1116 : BitVec 32 := 4#32
  let v1749 : BitVec 32 := Scalar.muli v99 c4_i32_1116
  let v1750 : BitVec 32 := Scalar.addi c0_i32_1117 v1749
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1118 : BitVec 32 := 2#32
  let v1751 : BitVec 32 := Scalar.muli v5 c2_i32_1118
  let v1752 : BitVec 32 := Scalar.addi v1750 v1751
  let v100 : BitVec 32 := Scalar.addi v99 v43
  let c2_i32_49 : BitVec 32 := 2#32
  let c0_i32_50 : BitVec 32 := 0#32
  let v101 : BitVec 1 := Scalar.cmpi .eq c2_i32_49 c0_i32_50
  let c1_i32_51 : BitVec 32 := 1#32
  let v102 : BitVec 32 := Scalar.select v101 c1_i32_51 c2_i32_49
  let v103 : BitVec 32 := Scalar.remsi v100 v102
  let c0_i32_53 : BitVec 32 := 0#32
  let v105 : BitVec 1 := Scalar.cmpi .slt v103 c0_i32_53
  let c0_i32_54 : BitVec 32 := 0#32
  let v106 : BitVec 1 := Scalar.cmpi .slt v102 c0_i32_54
  let v107 : BitVec 1 := Scalar.xori v105 v106
  let c0_i32_52 : BitVec 32 := 0#32
  let v104 : BitVec 1 := Scalar.cmpi .ne v103 c0_i32_52
  let v108 : BitVec 1 := Scalar.andi v107 v104
  let v109 : BitVec 32 := Scalar.addi v103 v102
  let v110 : BitVec 32 := Scalar.select v108 v109 v103
  let c1_i32_1119 : BitVec 32 := 1#32
  let v1753 : BitVec 32 := Scalar.muli v110 c1_i32_1119
  let v1754 : BitVec 32 := Scalar.addi v1752 v1753
  v1754.toNat
def k0_off270 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c192_i32_1140 : BitVec 32 := 192#32
  let c0_i32_1141 : BitVec 32 := 0#32
  ![v32.toNat, 192, 0]
def k0_dev19 (d0 : Dev nD) : Nat :=
  let c0_i32_1137 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_43 : BitVec 32 := 0#32
  let v84 : BitVec 1 := Scalar.cmpi .sgt v43 c0_i32_43
  let v85 : BitVec 32 := Scalar.extui v84
  let c0_i32_44 : BitVec 32 := 0#32
  let v86 : BitVec 1 := Scalar.cmpi .slt v43 c0_i32_44
  let v87 : BitVec 32 := Scalar.extui v86
  let v88 : BitVec 32 := Scalar.subi v85 v87
  let c2_i32_42 : BitVec 32 := 2#32
  let c0_i32_45 : BitVec 32 := 0#32
  let v89 : BitVec 1 := Scalar.cmpi .sgt c2_i32_42 c0_i32_45
  let v90 : BitVec 32 := Scalar.extui v89
  let c0_i32_46 : BitVec 32 := 0#32
  let v91 : BitVec 1 := Scalar.cmpi .slt c2_i32_42 c0_i32_46
  let v92 : BitVec 32 := Scalar.extui v91
  let v93 : BitVec 32 := Scalar.subi v90 v92
  let v94 : BitVec 1 := Scalar.cmpi .ne v88 v93
  let v95 : BitVec 32 := Scalar.remsi v43 c2_i32_42
  let c0_i32_47 : BitVec 32 := 0#32
  let v96 : BitVec 1 := Scalar.cmpi .ne v95 c0_i32_47
  let v97 : BitVec 1 := Scalar.andi v94 v96
  let v83 : BitVec 32 := Scalar.divsi v43 c2_i32_42
  let c1_i32_48 : BitVec 32 := 1#32
  let v98 : BitVec 32 := Scalar.subi v83 c1_i32_48
  let v99 : BitVec 32 := Scalar.select v97 v98 v83
  let c4_i32_1136 : BitVec 32 := 4#32
  let v1775 : BitVec 32 := Scalar.muli v99 c4_i32_1136
  let v1776 : BitVec 32 := Scalar.addi c0_i32_1137 v1775
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1138 : BitVec 32 := 2#32
  let v1777 : BitVec 32 := Scalar.muli v5 c2_i32_1138
  let v1778 : BitVec 32 := Scalar.addi v1776 v1777
  let v100 : BitVec 32 := Scalar.addi v99 v43
  let c2_i32_49 : BitVec 32 := 2#32
  let c0_i32_50 : BitVec 32 := 0#32
  let v101 : BitVec 1 := Scalar.cmpi .eq c2_i32_49 c0_i32_50
  let c1_i32_51 : BitVec 32 := 1#32
  let v102 : BitVec 32 := Scalar.select v101 c1_i32_51 c2_i32_49
  let v103 : BitVec 32 := Scalar.remsi v100 v102
  let c0_i32_53 : BitVec 32 := 0#32
  let v105 : BitVec 1 := Scalar.cmpi .slt v103 c0_i32_53
  let c0_i32_54 : BitVec 32 := 0#32
  let v106 : BitVec 1 := Scalar.cmpi .slt v102 c0_i32_54
  let v107 : BitVec 1 := Scalar.xori v105 v106
  let c0_i32_52 : BitVec 32 := 0#32
  let v104 : BitVec 1 := Scalar.cmpi .ne v103 c0_i32_52
  let v108 : BitVec 1 := Scalar.andi v107 v104
  let v109 : BitVec 32 := Scalar.addi v103 v102
  let v110 : BitVec 32 := Scalar.select v108 v109 v103
  let c1_i32_1139 : BitVec 32 := 1#32
  let v1779 : BitVec 32 := Scalar.muli v110 c1_i32_1139
  let v1780 : BitVec 32 := Scalar.addi v1778 v1779
  v1780.toNat
def k0_off271 (d0 : Dev nD) (c3_i32 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c256_i32_1164 : BitVec 32 := 256#32
  let v1813 : BitVec 32 := Scalar.muli v43 c256_i32_1164
  let c0_i32_1166 : BitVec 32 := 0#32
  ![v1813.toNat, 0]
def k0_off272 (d0 : Dev nD) (c3_i32 : BitVec 32) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_1167 : BitVec 32 := 0#32
  let c0_i32_1168 : BitVec 32 := 0#32
  ![v43.toNat, 0, 0]
def k0_dev20 (d0 : Dev nD) : Nat :=
  let c0_i32_1369_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1368_r0 : BitVec 32 := 4#32
  let v2012_r0 : BitVec 32 := Scalar.muli v2 c4_i32_1368_r0
  let v2013_r0 : BitVec 32 := Scalar.addi c0_i32_1369_r0 v2012_r0
  let c1_i32_55 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_55 v5
  let c2_i32_1370_r0 : BitVec 32 := 2#32
  let v2014_r0 : BitVec 32 := Scalar.muli v111 c2_i32_1370_r0
  let v2015_r0 : BitVec 32 := Scalar.addi v2013_r0 v2014_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1371_r0 : BitVec 32 := 1#32
  let v2016_r0 : BitVec 32 := Scalar.muli v8 c1_i32_1371_r0
  let v2017_r0 : BitVec 32 := Scalar.addi v2015_r0 v2016_r0
  v2017_r0.toNat
def k0_dev21 (d0 : Dev nD) : Nat :=
  let c0_i32_1374_r0 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_9 : BitVec 32 := 1#32
  let v22 : BitVec 32 := Scalar.addi v21 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_30 : BitVec 32 := 0#32
  let v56 : BitVec 1 := Scalar.cmpi .sgt v32 c0_i32_30
  let v57 : BitVec 32 := Scalar.extui v56
  let c0_i32_31 : BitVec 32 := 0#32
  let v58 : BitVec 1 := Scalar.cmpi .slt v32 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v32 c2_i32_29
  let c0_i32_34 : BitVec 32 := 0#32
  let v68 : BitVec 1 := Scalar.cmpi .ne v67 c0_i32_34
  let v69 : BitVec 1 := Scalar.andi v66 v68
  let v55 : BitVec 32 := Scalar.divsi v32 c2_i32_29
  let c1_i32_35 : BitVec 32 := 1#32
  let v70 : BitVec 32 := Scalar.subi v55 c1_i32_35
  let v71 : BitVec 32 := Scalar.select v69 v70 v55
  let c4_i32_1373_r0 : BitVec 32 := 4#32
  let v2018_r0 : BitVec 32 := Scalar.muli v71 c4_i32_1373_r0
  let v2019_r0 : BitVec 32 := Scalar.addi c0_i32_1374_r0 v2018_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1375_r0 : BitVec 32 := 2#32
  let v2020_r0 : BitVec 32 := Scalar.muli v5 c2_i32_1375_r0
  let v2021_r0 : BitVec 32 := Scalar.addi v2019_r0 v2020_r0
  let v72 : BitVec 32 := Scalar.addi v71 v32
  let c2_i32_36 : BitVec 32 := 2#32
  let c0_i32_37 : BitVec 32 := 0#32
  let v73 : BitVec 1 := Scalar.cmpi .eq c2_i32_36 c0_i32_37
  let c1_i32_38 : BitVec 32 := 1#32
  let v74 : BitVec 32 := Scalar.select v73 c1_i32_38 c2_i32_36
  let v75 : BitVec 32 := Scalar.remsi v72 v74
  let c0_i32_40 : BitVec 32 := 0#32
  let v77 : BitVec 1 := Scalar.cmpi .slt v75 c0_i32_40
  let c0_i32_41 : BitVec 32 := 0#32
  let v78 : BitVec 1 := Scalar.cmpi .slt v74 c0_i32_41
  let v79 : BitVec 1 := Scalar.xori v77 v78
  let c0_i32_39 : BitVec 32 := 0#32
  let v76 : BitVec 1 := Scalar.cmpi .ne v75 c0_i32_39
  let v80 : BitVec 1 := Scalar.andi v79 v76
  let v81 : BitVec 32 := Scalar.addi v75 v74
  let v82 : BitVec 32 := Scalar.select v80 v81 v75
  let c1_i32_1376_r0 : BitVec 32 := 1#32
  let v2022_r0 : BitVec 32 := Scalar.muli v82 c1_i32_1376_r0
  let v2023_r0 : BitVec 32 := Scalar.addi v2021_r0 v2022_r0
  v2023_r0.toNat
def k0_dev22 (d0 : Dev nD) : Nat :=
  let c0_i32_1379_r0 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v33 : BitVec 32 := Scalar.addi v21 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_43 : BitVec 32 := 0#32
  let v84 : BitVec 1 := Scalar.cmpi .sgt v43 c0_i32_43
  let v85 : BitVec 32 := Scalar.extui v84
  let c0_i32_44 : BitVec 32 := 0#32
  let v86 : BitVec 1 := Scalar.cmpi .slt v43 c0_i32_44
  let v87 : BitVec 32 := Scalar.extui v86
  let v88 : BitVec 32 := Scalar.subi v85 v87
  let c2_i32_42 : BitVec 32 := 2#32
  let c0_i32_45 : BitVec 32 := 0#32
  let v89 : BitVec 1 := Scalar.cmpi .sgt c2_i32_42 c0_i32_45
  let v90 : BitVec 32 := Scalar.extui v89
  let c0_i32_46 : BitVec 32 := 0#32
  let v91 : BitVec 1 := Scalar.cmpi .slt c2_i32_42 c0_i32_46
  let v92 : BitVec 32 := Scalar.extui v91
  let v93 : BitVec 32 := Scalar.subi v90 v92
  let v94 : BitVec 1 := Scalar.cmpi .ne v88 v93
  let v95 : BitVec 32 := Scalar.remsi v43 c2_i32_42
  let c0_i32_47 : BitVec 32 := 0#32
  let v96 : BitVec 1 := Scalar.cmpi .ne v95 c0_i32_47
  let v97 : BitVec 1 := Scalar.andi v94 v96
  let v83 : BitVec 32 := Scalar.divsi v43 c2_i32_42
  let c1_i32_48 : BitVec 32 := 1#32
  let v98 : BitVec 32 := Scalar.subi v83 c1_i32_48
  let v99 : BitVec 32 := Scalar.select v97 v98 v83
  let c4_i32_1378_r0 : BitVec 32 := 4#32
  let v2024_r0 : BitVec 32 := Scalar.muli v99 c4_i32_1378_r0
  let v2025_r0 : BitVec 32 := Scalar.addi c0_i32_1379_r0 v2024_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1380_r0 : BitVec 32 := 2#32
  let v2026_r0 : BitVec 32 := Scalar.muli v5 c2_i32_1380_r0
  let v2027_r0 : BitVec 32 := Scalar.addi v2025_r0 v2026_r0
  let v100 : BitVec 32 := Scalar.addi v99 v43
  let c2_i32_49 : BitVec 32 := 2#32
  let c0_i32_50 : BitVec 32 := 0#32
  let v101 : BitVec 1 := Scalar.cmpi .eq c2_i32_49 c0_i32_50
  let c1_i32_51 : BitVec 32 := 1#32
  let v102 : BitVec 32 := Scalar.select v101 c1_i32_51 c2_i32_49
  let v103 : BitVec 32 := Scalar.remsi v100 v102
  let c0_i32_53 : BitVec 32 := 0#32
  let v105 : BitVec 1 := Scalar.cmpi .slt v103 c0_i32_53
  let c0_i32_54 : BitVec 32 := 0#32
  let v106 : BitVec 1 := Scalar.cmpi .slt v102 c0_i32_54
  let v107 : BitVec 1 := Scalar.xori v105 v106
  let c0_i32_52 : BitVec 32 := 0#32
  let v104 : BitVec 1 := Scalar.cmpi .ne v103 c0_i32_52
  let v108 : BitVec 1 := Scalar.andi v107 v104
  let v109 : BitVec 32 := Scalar.addi v103 v102
  let v110 : BitVec 32 := Scalar.select v108 v109 v103
  let c1_i32_1381_r0 : BitVec 32 := 1#32
  let v2028_r0 : BitVec 32 := Scalar.muli v110 c1_i32_1381_r0
  let v2029_r0 : BitVec 32 := Scalar.addi v2027_r0 v2028_r0
  v2029_r0.toNat
abbrev stage0_0 : Fin 1 → Memref sig .tc .smem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.V.Same.lean ====
module

public import proofs.«01_k».proof.Kernel
public import proofs.«01_k».proof.KernelIdeal
public import proofs.«01_k».proof.Proof.Gen.Kernel
public import proofs.«01_k».proof.Proof.Gen.KernelIdeal

@[expose] public section

/-! # One text

The kernel and its idealization are the same program: the same body, the same table of bodies, the same host
code. So a run of the one is a run of the other. -/

noncomputable section

namespace Cert.Same

open Idealize.ShloMosaic Idealize.SL.Sem

variable {F : FTy → Type} [FloatOps F]

set_option maxHeartbeats 0 in
/-- The two bodies are one. -/
theorem body : Cert.Kernel.cc0_body (F := F) = Cert.KernelIdeal.cc0_body (F := F) := by exact rfl

/-- The two tables of bodies are one. -/
theorem defs₀ : Cert.Kernel.defs₀ (F := F) = Cert.KernelIdeal.defs₀ (F := F) := by
  unfold Cert.Kernel.defs₀ Cert.KernelIdeal.defs₀
  refine congrArg Defs.onTc ?_
  funext x y
  obtain ⟨n, h⟩ := x
  cases n with
  | zero =>
    obtain ⟨t, s⟩ := y
    dsimp only
    rw [body]
  | succ n => exact absurd h (Nat.not_lt.2 (Nat.le_add_left _ _))

/-- The two programs' bodies and pipelines are one. -/
theorem defs : Cert.Kernel.defs (F := F) = Cert.KernelIdeal.defs (F := F) := by
  unfold Cert.Kernel.defs Cert.KernelIdeal.defs
  rw [defs₀]
  rfl

set_option maxHeartbeats 0 in
/-- The two host programs are one. -/
theorem main : Cert.Kernel.main (F := F) = Cert.KernelIdeal.main (F := F) := by exact rfl

end Cert.Same

end
-- ==== Proof.V.Program.lean ====
module

public import proofs.«01_k».proof.Proof.Gen.KernelIdeal.Skeleton

@[expose] public section

/-! # The body as a short program

The printed body writes each of its 256 row copies out.  Here the same program is written with one
definition for each kind of step, and the row copies of a chunk as a loop. -/

noncomputable section

namespace Cert.KernelIdeal.V

open Idealize.ShloMosaic Idealize.ShloMosaic.TcCoe Idealize.SL.Sem
open Cert.KernelIdeal Cert.KernelIdeal.Facts₀

variable {F : FTy → Type} [FloatOps F]

/-- Programs of the kernel's TensorCore. -/
abbrev PR (F : FTy → Type) := Prog (TpuEff nD τ sig (Elt F) Λ₀ .tc)

theorem inb_sem : ∀ c : Fin 4, ∀ a, (![c.val] : Fin 1 → Nat) a + S1.size a ≤ S4.size a := by decide
theorem inb_word (i : Nat) (h : i < 256) : ∀ a, (![i] : Fin 1 → Nat) a + S1.size a ≤ S256.size a := by
  intro a; fin_cases a; show i + 1 ≤ 256; omega
theorem inb_row (i : Nat) (h : i < 256) :
    ∀ a, (![i, 0] : Fin 2 → Nat) a + S1x1024.size a ≤ S256x1024.size a := by
  intro a; fin_cases a
  · show i + 1 ≤ 256; omega
  · show 0 + 1024 ≤ 1024; omega
theorem inb_chunk : ∀ c : Fin 4, ∀ a,
    (![64 * c.val, 0] : Fin 2 → Nat) a + S64x1024.size a ≤ S256x1024.size a := by decide
theorem inb_maskChunk : ∀ c : Fin 4, ∀ a,
    (![64 * c.val, 0] : Fin 2 → Nat) a + S64x1.size a ≤ S256x1.size a := by decide

/-- Semaphore `c` of an array of four. -/
def sem4 (s : DmaSems sig S4) (c : Fin 4) : DmaSem sig :=
  ((s.slice (Rect.unit (s := S4) ![c.val] S1.size (inb_sem c))).squeeze S_ squeezes_S1_S_).sem

/-- Row `i` of a buffer of 256 rows. -/
def rowOf (b : Memref sig .tc .vmem S256x1024 .f32) (i : Nat) (h : i < 256) :
    Memref sig .tc .vmem S1x1024 .f32 :=
  b.slice (Rect.unit (s := S256x1024) ![i, 0] S1x1024.size (inb_row i h)) (fun _ => rfl)

/-- Rows `64 c` to `64 c + 63` of a buffer of 256 rows. -/
def chunkOf (b : Memref sig .tc .vmem S256x1024 .f32) (c : Fin 4) : Memref sig .tc .vmem S64x1024 .f32 :=
  b.slice (Rect.unit (s := S256x1024) ![64 * c.val, 0] S64x1024.size (inb_chunk c)) (fun _ => rfl)

/-- 64 rows of a slot of the buffer of four quarters, the slot and the rows named by an offset. -/
abbrev slotOf (b : Memref sig .tc .vmem S4x256x1024 .f32) (off : Fin 3 → Nat)
    (h : ∀ a, off a + S1x64x1024.size a ≤ S4x256x1024.size a) : Memref sig .tc .vmem S64x1024 .f32 :=
  (b.slice (Rect.unit (s := S4x256x1024) off S1x64x1024.size h) (fun _ => rfl)).squeeze S64x1024
    squeezes_S1x64x1024_S64x1024

/-- A whole slot of the buffer of four quarters. -/
abbrev quarterOf (b : Memref sig .tc .vmem S4x256x1024 .f32) (off : Fin 3 → Nat)
    (h : ∀ a, off a + S1x256x1024.size a ≤ S4x256x1024.size a) : Memref sig .tc .vmem S256x1024 .f32 :=
  (b.slice (Rect.unit (s := S4x256x1024) off S1x256x1024.size h) (fun _ => rfl)).squeeze S256x1024
    squeezes_S1x256x1024_S256x1024

/-- 256 rows of the result. -/
def outOf (b : Memref sig .tc .hbm S1024x1024 .f32) (off : Fin 2 → Nat)
    (h : ∀ a, off a + S256x1024.size a ≤ S1024x1024.size a) : Memref sig .tc .hbm S256x1024 .f32 :=
  b.slice (Rect.unit (s := S1024x1024) off S256x1024.size h) (fun _ => rfl)

/-- The row of the table that a word names. -/
def tableRow (b : Memref sig .tc .hbm S8192x1024 .f32) (v : BitVec 32) (h : k0_chk1 v) :
    Memref sig .tc .hbm S1x1024 .f32 :=
  b.slice (Rect.unit (s := S8192x1024) (k0_off1 v) S1x1024.size (k0_off1_inb v h)) (fun _ => rfl)

section Steps

variable (a0 : Memref sig .tc .smem S256 .i32) (a1 : Memref sig .tc .vmem S256x1 .f32)
  (a2 : Memref sig .tc .hbm S8192x1024 .f32) (a3 : Memref sig .tc .hbm S1024x1024 .f32)
  (a4 a5 : Memref sig .tc .vmem S256x1024 .f32) (a6 : Memref sig .tc .vmem S4x256x1024 .f32)
  (a7 a8 a9 a10 a11 a12 a13 a14 a15 a16 : DmaSems sig S4) (ex : Sems sig S_)

/-- Read the index word of row `i`, check it, start the copy of the table's row. -/
def rowCopy (c : Fin 4) (i : Nat) (h : i < 256) : PR F PUnit := do
  let v : Elt F .i32 ← smemLoad a0 (Rect.unit (s := S256) ![i] S1.size (inb_word i h)) numel1_S1 rfl
  have hv : k0_chk1 v := (← Prog.lift (TpuEff.assume (k0_chk1 v) (k0_chk1.dec v))).down
  Prog.lift (.enqueueDma (tableRow a2 v hv) (.here (rowOf a4 i h)) (.dma (sem4 a7 c))
    (View.wordExact_bits rfl) (View.wordExact_bits rfl) ⟨Or.inl rfl, trivial⟩)

/-- The copies of `n` rows of chunk `c`, row `j` of the chunk first. -/
def gatherFrom (c : Fin 4) : (n j : Nat) → j + n = 64 → PR F PUnit
  | 0, _, _ => pure ⟨⟩
  | n + 1, j, h => do
    rowCopy a0 a2 a4 a7 c (64 * c.val + j) (by have := c.isLt; omega)
    gatherFrom c n (j + 1) (by omega)

theorem inb_E0 : ∀ a, (![0, 0] : Fin 2 → Nat) a + S64x1024.size a ≤ S8192x1024.size a := by decide

/-- Wait for the 64 row copies of chunk `c`. -/
def waitGather (c : Fin 4) : PR F PUnit :=
  Prog.lift (.waitDma2 (sem4 a7 c)
    (a2.slice (Rect.unit (s := S8192x1024) ![0, 0] S64x1024.size inb_E0) (fun _ => rfl))
    (chunkOf a4 c) (View.wordExact_bits rfl) (View.wordExact_bits rfl))

/-- Send the gathered chunk `c` to the device `p`. -/
def sendY (p : Dev nD) (c : Fin 4) : PR F PUnit :=
  Prog.lift (.enqueueDma (chunkOf a4 c) (.remote (Dev.tc p) (chunkOf a5 c) (.dma (sem4 a9 c)))
    (.dma (sem4 a10 c)) (View.wordExact_bits rfl) (View.wordExact_bits rfl) ⟨⟨rfl, Or.inl rfl⟩, trivial⟩)

/-- Wait on semaphore `c` of `s` for a copy between the chunks `c` of `u` and `v`. -/
def waitChunk (s : DmaSems sig S4) (u v : Memref sig .tc .vmem S256x1024 .f32) (c : Fin 4) : PR F PUnit :=
  Prog.lift (.waitDma2 (sem4 s c) (chunkOf u c) (chunkOf v c) (View.wordExact_bits rfl)
    (View.wordExact_bits rfl))

/-- Send the 64 rows at `off` of the quarters' buffer to the device `p`, to the same place. -/
def sendQ (p : Dev nD) (s r : DmaSems sig S4) (c : Fin 4) (off : Fin 3 → Nat)
    (h : ∀ a, off a + S1x64x1024.size a ≤ S4x256x1024.size a) : PR F PUnit :=
  Prog.lift (.enqueueDma (slotOf a6 off h) (.remote (Dev.tc p) (slotOf a6 off h) (.dma (sem4 s c)))
    (.dma (sem4 r c)) ((View.wordExact_bits rfl).reshape _ _) ((View.wordExact_bits rfl).reshape _ _)
    ⟨⟨rfl, Or.inl rfl⟩, trivial⟩)

/-- Wait on semaphore `c` of `s` for a copy of 64 rows of the quarters' buffer. -/
def waitQ (s : DmaSems sig S4) (c : Fin 4) (off : Fin 3 → Nat)
    (h : ∀ a, off a + S1x64x1024.size a ≤ S4x256x1024.size a) : PR F PUnit :=
  Prog.lift (.waitDma2 (sem4 s c) (slotOf a6 off h) (slotOf a6 off h) ((View.wordExact_bits rfl).reshape _ _)
    ((View.wordExact_bits rfl).reshape _ _))

/-- Load chunk `c` of the mask, of the own rows and of the peer's rows, select, and store the
    selection at `off` of the quarters' buffer. -/
def combine (c : Fin 4) (off : Fin 3 → Nat)
    (h : ∀ a, off a + S1x64x1024.size a ≤ S4x256x1024.size a) : PR F PUnit := do
  let m : Vec F S64x1 .f32 ← Prog.lift (.load a1
    (Rect.unit (s := S256x1) ![64 * c.val, 0] S64x1.size (inb_maskChunk c)).toLoadRect (View.loadsAt_vmem h_S64x1))
  let g : Vec F S64x1024 .f32 ← Prog.lift (.load a4
    (Rect.unit (s := S256x1024) ![64 * c.val, 0] S64x1024.size (inb_chunk c)).toLoadRect
    (View.loadsAt_vmem h_S64x1024))
  let r : Vec F S64x1024 .f32 ← Prog.lift (.load a5
    (Rect.unit (s := S256x1024) ![64 * c.val, 0] S64x1024.size (inb_chunk c)).toLoadRect
    (View.loadsAt_vmem h_S64x1024))
  let _ : Vec F S1x64x1024 .f32 ← Prog.lift (.load a6
    (Rect.unit (s := S4x256x1024) off S1x64x1024.size h).toLoadRect (View.loadsAt_vmem h_S1x64x1024))
  Prog.lift (.store a6 (Rect.unit (s := S4x256x1024) off S1x64x1024.size h) (Gen.k0_pay1 m g r) Finset.univ
    (View.stores_vmem_bits_univ h_S1x64x1024 rfl) (.inl rfl))

/-- Start the copy of a quarter to the result. -/
def copyOut (k : Fin 4) (off : Fin 3 → Nat) (h : ∀ a, off a + S1x256x1024.size a ≤ S4x256x1024.size a)
    (off' : Fin 2 → Nat) (h' : ∀ a, off' a + S256x1024.size a ≤ S1024x1024.size a) : PR F PUnit :=
  Prog.lift (.enqueueDma (quarterOf a6 off h) (.here (outOf a3 off' h')) (.dma (sem4 a8 k))
    ((View.wordExact_bits rfl).reshape _ _) (View.wordExact_bits rfl) ⟨Or.inl rfl, trivial⟩)

/-- Wait for the copy of a quarter to the result. -/
def waitOut (k : Fin 4) (off : Fin 3 → Nat) (h : ∀ a, off a + S1x256x1024.size a ≤ S4x256x1024.size a)
    (off' : Fin 2 → Nat) (h' : ∀ a, off' a + S256x1024.size a ≤ S1024x1024.size a) : PR F PUnit :=
  Prog.lift (.waitDma2 (sem4 a8 k) (quarterOf a6 off h) (outOf a3 off' h')
    ((View.wordExact_bits rfl).reshape _ _) (View.wordExact_bits rfl))

/-- The barrier's semaphore. -/
def barSem : Sem sig := (SemArray.scalar (sig.barrier 0 rfl) : Sems sig S_).sem

/-- The gathers, the barrier, and the exchange of the gathered rows. -/
def phaseY (d : Dev nD) : PR F PUnit := do
  gatherFrom a0 a2 a4 a7 0 64 0 rfl
  semSignalWord (⟨k0_dev1 d, k0_dev1_lt d⟩ : Dev nD) barSem 1#32
  semSignalWord (⟨k0_dev2 d, k0_dev2_lt d⟩ : Dev nD) barSem 1#32
  semSignalWord (⟨k0_dev3 d, k0_dev3_lt d⟩ : Dev nD) barSem 1#32
  semWaitWord barSem 3#32
  gatherFrom a0 a2 a4 a7 1 64 0 rfl
  waitGather a2 a4 a7 0
  sendY a4 a5 a9 a10 ⟨k0_dev4 d, k0_dev4_lt d⟩ 0
  gatherFrom a0 a2 a4 a7 2 64 0 rfl
  waitGather a2 a4 a7 1
  sendY a4 a5 a9 a10 ⟨k0_dev5 d, k0_dev5_lt d⟩ 1
  gatherFrom a0 a2 a4 a7 3 64 0 rfl
  waitGather a2 a4 a7 2
  sendY a4 a5 a9 a10 ⟨k0_dev6 d, k0_dev6_lt d⟩ 2
  waitGather a2 a4 a7 3
  sendY a4 a5 a9 a10 ⟨k0_dev7 d, k0_dev7_lt d⟩ 3

/-- The selections, and the sends of the own quarter to both neighbours. -/
def phaseQ (d : Dev nD) : PR F PUnit := do
  waitChunk a10 a4 a5 0
  combine a1 a4 a5 a6 0 (k0_off257 d) (k0_off257_inb d)
  sendQ a6 ⟨k0_dev8 d, k0_dev8_lt d⟩ a11 a12 0 (k0_off258 d) (k0_off258_inb d)
  sendQ a6 ⟨k0_dev9 d, k0_dev9_lt d⟩ a13 a14 0 (k0_off258 d) (k0_off258_inb d)
  waitChunk a10 a4 a5 1
  combine a1 a4 a5 a6 1 (k0_off259 d) (k0_off259_inb d)
  sendQ a6 ⟨k0_dev10 d, k0_dev10_lt d⟩ a11 a12 1 (k0_off260 d) (k0_off260_inb d)
  sendQ a6 ⟨k0_dev11 d, k0_dev11_lt d⟩ a13 a14 1 (k0_off260 d) (k0_off260_inb d)
  waitChunk a10 a4 a5 2
  combine a1 a4 a5 a6 2 (k0_off261 d) (k0_off261_inb d)
  sendQ a6 ⟨k0_dev12 d, k0_dev12_lt d⟩ a11 a12 2 (k0_off262 d) (k0_off262_inb d)
  sendQ a6 ⟨k0_dev13 d, k0_dev13_lt d⟩ a13 a14 2 (k0_off262 d) (k0_off262_inb d)
  waitChunk a10 a4 a5 3
  combine a1 a4 a5 a6 3 (k0_off263 d) (k0_off263_inb d)
  sendQ a6 ⟨k0_dev14 d, k0_dev14_lt d⟩ a11 a12 3 (k0_off264 d) (k0_off264_inb d)
  sendQ a6 ⟨k0_dev15 d, k0_dev15_lt d⟩ a13 a14 3 (k0_off264 d) (k0_off264_inb d)

/-- The second round of the ring, and the copies of the quarters to the result. -/
def phaseR (d : Dev nD) : PR F PUnit := do
  copyOut a3 a6 a8 0 (k0_off266 d) (k0_off266_inb d) (k0_off265 d) (k0_off265_inb d)
  waitQ a6 a12 0 (k0_off258 d) (k0_off258_inb d)
  sendQ a6 ⟨k0_dev16 d, k0_dev16_lt d⟩ a15 a16 0 (k0_off267 d) (k0_off267_inb d)
  waitQ a6 a12 1 (k0_off260 d) (k0_off260_inb d)
  sendQ a6 ⟨k0_dev17 d, k0_dev17_lt d⟩ a15 a16 1 (k0_off268 d) (k0_off268_inb d)
  waitQ a6 a14 2 (k0_off262 d) (k0_off262_inb d)
  sendQ a6 ⟨k0_dev18 d, k0_dev18_lt d⟩ a15 a16 2 (k0_off269 d) (k0_off269_inb d)
  waitQ a6 a14 3 (k0_off264 d) (k0_off264_inb d)
  sendQ a6 ⟨k0_dev19 d, k0_dev19_lt d⟩ a15 a16 3 (k0_off270 d) (k0_off270_inb d)
  waitQ a6 a12 2 (k0_off262 d) (k0_off262_inb d)
  waitQ a6 a12 3 (k0_off264 d) (k0_off264_inb d)
  copyOut a3 a6 a8 1 (k0_off272 d 3#32) (k0_off272_inb d 2) (k0_off271 d 3#32) (k0_off271_inb d 2)
  waitQ a6 a14 0 (k0_off258 d) (k0_off258_inb d)
  waitQ a6 a14 1 (k0_off260 d) (k0_off260_inb d)
  copyOut a3 a6 a8 2 (k0_off272 d 1#32) (k0_off272_inb d 0) (k0_off271 d 1#32) (k0_off271_inb d 0)
  waitQ a6 a16 0 (k0_off267 d) (k0_off267_inb d)
  waitQ a6 a16 1 (k0_off268 d) (k0_off268_inb d)
  waitQ a6 a16 2 (k0_off269 d) (k0_off269_inb d)
  waitQ a6 a16 3 (k0_off270 d) (k0_off270_inb d)
  copyOut a3 a6 a8 3 (k0_off272 d 2#32) (k0_off272_inb d 1) (k0_off271 d 2#32) (k0_off271_inb d 1)

/-- The waits for what was sent and copied out, and the handshake at the end. -/
def phaseEnd (d : Dev nD) : PR F PUnit := do
  waitChunk a9 a5 a4 0
  waitQ a6 a11 0 (k0_off258 d) (k0_off258_inb d)
  waitQ a6 a13 0 (k0_off258 d) (k0_off258_inb d)
  waitQ a6 a15 0 (k0_off267 d) (k0_off267_inb d)
  waitChunk a9 a5 a4 1
  waitQ a6 a11 1 (k0_off260 d) (k0_off260_inb d)
  waitQ a6 a13 1 (k0_off260 d) (k0_off260_inb d)
  waitQ a6 a15 1 (k0_off268 d) (k0_off268_inb d)
  waitChunk a9 a5 a4 2
  waitQ a6 a11 2 (k0_off262 d) (k0_off262_inb d)
  waitQ a6 a13 2 (k0_off262 d) (k0_off262_inb d)
  waitQ a6 a15 2 (k0_off269 d) (k0_off269_inb d)
  waitChunk a9 a5 a4 3
  waitQ a6 a11 3 (k0_off264 d) (k0_off264_inb d)
  waitQ a6 a13 3 (k0_off264 d) (k0_off264_inb d)
  waitQ a6 a15 3 (k0_off270 d) (k0_off270_inb d)
  waitOut a3 a6 a8 0 (k0_off266 d) (k0_off266_inb d) (k0_off265 d) (k0_off265_inb d)
  waitOut a3 a6 a8 1 (k0_off272 d 3#32) (k0_off272_inb d 2) (k0_off271 d 3#32) (k0_off271_inb d 2)
  waitOut a3 a6 a8 2 (k0_off272 d 1#32) (k0_off272_inb d 0) (k0_off271 d 1#32) (k0_off271_inb d 0)
  waitOut a3 a6 a8 3 (k0_off272 d 2#32) (k0_off272_inb d 1) (k0_off271 d 2#32) (k0_off271_inb d 1)
  semSignalWord (⟨k0_dev20 d, k0_dev20_lt d⟩ : Dev nD) ex.sem 1#32
  semSignalWord (⟨k0_dev21 d, k0_dev21_lt d⟩ : Dev nD) ex.sem 1#32
  semSignalWord (⟨k0_dev22 d, k0_dev22_lt d⟩ : Dev nD) ex.sem 1#32
  semWaitWord ex.sem 3#32

/-- The whole body. -/
def body : PR F PUnit := do
  let d ← Prog.lift .deviceId
  phaseY a0 a2 a4 a5 a7 a9 a10 d
  phaseQ a1 a4 a5 a6 a10 a11 a12 a13 a14 d
  phaseR a3 a6 a8 a12 a14 a15 a16 d
  phaseEnd a3 a4 a5 a6 a8 a9 a11 a13 a15 ex d

end Steps

/-- A step with its continuation, in front of a rest, equals a program that begins with an equal step
    and goes on equally. -/
theorem step_eq {E : Type → Type _} {α β γ : Type} {p p' : Prog E β} {k : β → Prog E γ} {K : γ → Prog E α}
    {k' : β → Prog E α} (hp : p = p') (h : ∀ x, (k x >>= K) = k' x) : ((p >>= k) >>= K) = (p' >>= k') := by
  subst hp
  rw [Prog.bind_assoc]
  exact congrArg (fun f => p >>= f) (funext h)

/-- The same, for a step that answers nothing. -/
theorem step_eq_unit {E : Type → Type _} {α γ : Type} {p p' : Prog E Unit} {k : Unit → Prog E γ}
    {K : γ → Prog E α} {k' : Unit → Prog E α} (hp : p = p') (h : (k ⟨⟩ >>= K) = k' ⟨⟩) :
    ((p >>= k) >>= K) = (p' >>= k') :=
  step_eq hp fun _ => h

/-- A step that ends a part. -/
theorem last_eq {E : Type → Type _} {α β : Type} {p p' : Prog E β} {K k' : β → Prog E α} (hp : p = p')
    (h : ∀ x, K x = k' x) : (p >>= K) = (p' >>= k') := by
  subst hp
  exact congrArg (fun f => p >>= f) (funext h)

/-- A part that ends hands its values on. -/
theorem ret_eq {E : Type → Type _} {α β : Type} {a : β} {K : β → Prog E α} {r : Prog E α} (h : K a = r) :
    ((pure a : Prog E β) >>= K) = r := h

/-- One row copy taken out of the loop. -/
theorem gather_succ {α : Type} (a0 : Memref sig .tc .smem S256 .i32) (a2 : Memref sig .tc .hbm S8192x1024 .f32)
    (a4 : Memref sig .tc .vmem S256x1024 .f32) (a7 : DmaSems sig S4) (c : Fin 4) (n j : Nat)
    (h : j + (n + 1) = 64) (K : PUnit → PR F α) :
    (gatherFrom a0 a2 a4 a7 c (n + 1) j h >>= K)
      = (smemLoad a0 (Rect.unit (s := S256) ![64 * c.val + j] S1.size (inb_word _ (by have := c.isLt; omega)))
          numel1_S1 rfl >>= fun v : Elt F .i32 =>
        Prog.lift (TpuEff.assume (k0_chk1 v) (k0_chk1.dec v)) >>= fun hv =>
        Prog.lift (.enqueueDma (tableRow a2 v hv.down) (.here (rowOf a4 (64 * c.val + j)
          (by have := c.isLt; omega))) (.dma (sem4 a7 c))
          (View.wordExact_bits rfl) (View.wordExact_bits rfl) ⟨Or.inl rfl, trivial⟩) >>= fun _ =>
        gatherFrom a0 a2 a4 a7 c n (j + 1) (by omega) >>= K) := by
  rfl

/-- The loop over no rows. -/
theorem gather_zero {α : Type} (a0 : Memref sig .tc .smem S256 .i32) (a2 : Memref sig .tc .hbm S8192x1024 .f32)
    (a4 : Memref sig .tc .vmem S256x1024 .f32) (a7 : DmaSems sig S4) (c : Fin 4) (j : Nat)
    (h : j + 0 = 64) (K : PUnit → PR F α) : (gatherFrom a0 a2 a4 a7 c 0 j h >>= K) = K ⟨⟩ := rfl

set_option maxRecDepth 100000 in
set_option maxHeartbeats 10000000 in
/-- The printed body is this program. -/
theorem cc0_body_eq (a0 : Memref sig .tc .smem S256 .i32) (h0 : a0.IsWhole)
    (a1 : Memref sig .tc .vmem S256x1 .f32) (h1 : a1.IsWhole)
    (a2 : Memref sig .tc .hbm S8192x1024 .f32) (h2 : a2.IsWhole)
    (a3 : Memref sig .tc .hbm S1024x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S4x256x1024 .f32) (h6 : a6.IsWhole)
    (a7 a8 a9 a10 a11 a12 a13 a14 a15 a16 : DmaSems sig S4) (ex : Sems sig S_) :
    cc0_body (F := F) a0 h0 a1 h1 a2 h2 a3 h3 a4 h4 a5 h5 a6 h6 a7 a8 a9 a10 a11 a12 a13 a14 a15 a16 ex
      = body a0 a1 a2 a3 a4 a5 a6 a7 a8 a9 a10 a11 a12 a13 a14 a15 a16 ex := by
  rw [Gen.cc0_body_eq_skeleton]
  unfold Gen.cc0_body_skel
  rw [Gen.k0_part76_eq_skeleton]
  unfold Gen.k0_part76_skel body phaseY phaseQ phaseR phaseEnd combine
  simp only [bind_assoc, pure_bind]
  refine step_eq rfl (fun dd => ?_)
  iterate 2 refine ret_eq ?_
  iterate 32 (refine Eq.trans ?_ (gather_succ ..).symm; (iterate 2 ((try refine ret_eq ?_); first | refine step_eq rfl (fun _ => ?_) | refine last_eq rfl (fun _ => ?_))); (try refine ret_eq ?_); first | refine step_eq_unit rfl ?_ | refine last_eq rfl (fun _ => ?_))
  as_aux_lemma =>
    iterate 32 (refine Eq.trans ?_ (gather_succ ..).symm; (iterate 2 ((try refine ret_eq ?_); first | refine step_eq rfl (fun _ => ?_) | refine last_eq rfl (fun _ => ?_))); (try refine ret_eq ?_); first | refine step_eq_unit rfl ?_ | refine last_eq rfl (fun _ => ?_))
    as_aux_lemma =>
      refine Eq.trans ?_ (gather_zero ..).symm
      iterate 4 ((try refine ret_eq ?_); first | refine step_eq_unit rfl ?_ | refine step_eq rfl (fun _ => ?_) | refine last_eq rfl (fun _ => ?_))
      iterate 32 (refine Eq.trans ?_ (gather_succ ..).symm; (iterate 2 ((try refine ret_eq ?_); first | refine step_eq rfl (fun _ => ?_) | refine last_eq rfl (fun _ => ?_))); (try refine ret_eq ?_); first | refine step_eq_unit rfl ?_ | refine last_eq rfl (fun _ => ?_))
      as_aux_lemma =>
        iterate 32 (refine Eq.trans ?_ (gather_succ ..).symm; (iterate 2 ((try refine ret_eq ?_); first | refine step_eq rfl (fun _ => ?_) | refine last_eq rfl (fun _ => ?_))); (try refine ret_eq ?_); first | refine step_eq_unit rfl ?_ | refine last_eq rfl (fun _ => ?_))
        as_aux_lemma =>
          refine Eq.trans ?_ (gather_zero ..).symm
          iterate 2 ((try refine ret_eq ?_); first | refine step_eq_unit rfl ?_ | refine step_eq rfl (fun _ => ?_) | refine last_eq rfl (fun _ => ?_))
          iterate 32 (refine Eq.trans ?_ (gather_succ ..).symm; (iterate 2 ((try refine ret_eq ?_); first | refine step_eq rfl (fun _ => ?_) | refine last_eq rfl (fun _ => ?_))); (try refine ret_eq ?_); first | refine step_eq_unit rfl ?_ | refine last_eq rfl (fun _ => ?_))
          as_aux_lemma =>
            iterate 32 (refine Eq.trans ?_ (gather_succ ..).symm; (iterate 2 ((try refine ret_eq ?_); first | refine step_eq rfl (fun _ => ?_) | refine last_eq rfl (fun _ => ?_))); (try refine ret_eq ?_); first | refine step_eq_unit rfl ?_ | refine last_eq rfl (fun _ => ?_))
            as_aux_lemma =>
              refine Eq.trans ?_ (gather_zero ..).symm
              iterate 2 ((try refine ret_eq ?_); first | refine step_eq_unit rfl ?_ | refine step_eq rfl (fun _ => ?_) | refine last_eq rfl (fun _ => ?_))
              iterate 32 (refine Eq.trans ?_ (gather_succ ..).symm; (iterate 2 ((try refine ret_eq ?_); first | refine step_eq rfl (fun _ => ?_) | refine last_eq rfl (fun _ => ?_))); (try refine ret_eq ?_); first | refine step_eq_unit rfl ?_ | refine last_eq rfl (fun _ => ?_))
              as_aux_lemma =>
                iterate 32 (refine Eq.trans ?_ (gather_succ ..).symm; (iterate 2 ((try refine ret_eq ?_); first | refine step_eq rfl (fun _ => ?_) | refine last_eq rfl (fun _ => ?_))); (try refine ret_eq ?_); first | refine step_eq_unit rfl ?_ | refine last_eq rfl (fun _ => ?_))
                as_aux_lemma =>
                  refine Eq.trans ?_ (gather_zero ..).symm
                  iterate 4 ((try refine ret_eq ?_); first | refine step_eq_unit rfl ?_ | refine step_eq rfl (fun _ => ?_) | refine last_eq rfl (fun _ => ?_))
                  as_aux_lemma =>
                    iterate 32 ((try refine ret_eq ?_); first | refine step_eq_unit rfl ?_ | refine step_eq rfl (fun _ => ?_) | refine last_eq rfl (fun _ => ?_))
                    as_aux_lemma =>
                      repeat ((try refine ret_eq ?_); first | refine step_eq_unit rfl ?_ | refine step_eq rfl (fun _ => ?_) | refine last_eq rfl (fun _ => ?_))
                      rfl

end Cert.KernelIdeal.V

end
-- ==== Proof.V.Mesh.lean ====
module

public import proofs.«01_k».proof.Proof.V.Program
public import proofs.«01_k».proof.Proof.Gen.KernelIdeal.Launch

@[expose] public section

/-! # The mesh

The eight devices stand in two rings of four (one for each coordinate `y`); position `t` of a ring is
the device with `x = t / 2`, `z = (x + t) mod 2`.  Here are the position of a device, its neighbours, and
the printed device numbers, offsets and semaphores as functions of these. -/

noncomputable section

namespace Cert.KernelIdeal.V

open Idealize.ShloMosaic Idealize.ShloMosaic.TcCoe Idealize.SL.Sem
open Cert.KernelIdeal Cert.KernelIdeal.Facts₀

/-- The device's coordinate `y`. -/
def yOf (d : Dev nD) : Fin 2 := ⟨d.val / 2 % 2, Nat.mod_lt _ (by decide)⟩
/-- The device's position in its ring. -/
def rp (d : Dev nD) : Fin 4 :=
  ⟨(2 * (d.val / 4) + (d.val / 4 + d.val % 2) % 2) % 4, Nat.mod_lt _ (by decide)⟩
/-- The device at position `t` of the ring at `y`. -/
def devAt (t : Fin 4) (y : Fin 2) : Dev nD :=
  ⟨(4 * (t.val / 2) + 2 * y.val + (t.val / 2 + t.val) % 2) % 8, Nat.mod_lt _ (by decide)⟩

/-- The next position, the previous one, the opposite one. -/
def rt (d : Dev nD) : Fin 4 := rp d + 1
def lt (d : Dev nD) : Fin 4 := rp d + 3
def op (d : Dev nD) : Fin 4 := rp d + 2

/-- The neighbours in the ring and the peer in the other ring. -/
def right (d : Dev nD) : Dev nD := devAt (rt d) (yOf d)
def left (d : Dev nD) : Dev nD := devAt (lt d) (yOf d)
def yp (d : Dev nD) : Dev nD := devAt (rp d) (1 - yOf d)

theorem yp_yp (d : Dev nD) : yp (yp d) = d := by revert d; decide
theorem left_right (d : Dev nD) : left (right d) = d := by revert d; decide
theorem right_left (d : Dev nD) : right (left d) = d := by revert d; decide
theorem yOf_right (d : Dev nD) : yOf (right d) = yOf d := by revert d; decide
theorem yOf_left (d : Dev nD) : yOf (left d) = yOf d := by revert d; decide
theorem rp_yp (d : Dev nD) : rp (yp d) = rp d := by revert d; decide
theorem yOf_yp (d : Dev nD) : yOf (yp d) = 1 - yOf d := by revert d; decide
theorem lt_right (d : Dev nD) : lt (right d) = rp d := by revert d; decide
theorem op_right (d : Dev nD) : op (right d) = lt d := by revert d; decide
theorem rt_left (d : Dev nD) : rt (left d) = rp d := by revert d; decide
theorem op_left (d : Dev nD) : op (left d) = rt d := by revert d; decide
theorem devAt_rp (d : Dev nD) : devAt (rp d) (yOf d) = d := by revert d; decide
theorem rp_devAt (t : Fin 4) (y : Fin 2) : rp (devAt t y) = t := by revert t y; decide
theorem yOf_devAt (t : Fin 4) (y : Fin 2) : yOf (devAt t y) = y := by revert t y; decide

/-! ## Offsets -/

/-- Chunk `c` of slot `t` of the quarters' buffer; slot `t`; quarter `t` of the result. -/
def qoff (t c : Fin 4) : Fin 3 → Nat := ![t.val, 64 * c.val, 0]
def soff (t : Fin 4) : Fin 3 → Nat := ![t.val, 0, 0]
def ooff (t : Fin 4) : Fin 2 → Nat := ![256 * t.val, 0]

theorem inb_q : ∀ t c : Fin 4, ∀ a, qoff t c a + S1x64x1024.size a ≤ S4x256x1024.size a := by decide
theorem inb_s : ∀ t : Fin 4, ∀ a, soff t a + S1x256x1024.size a ≤ S4x256x1024.size a := by decide
theorem inb_o : ∀ t : Fin 4, ∀ a, ooff t a + S256x1024.size a ≤ S1024x1024.size a := by decide

theorem off257 (d : Dev nD) : k0_off257 d = qoff (rp d) 0 := by revert d; decide
theorem off258 (d : Dev nD) : k0_off258 d = qoff (rp d) 0 := by revert d; decide
theorem off259 (d : Dev nD) : k0_off259 d = qoff (rp d) 1 := by revert d; decide
theorem off260 (d : Dev nD) : k0_off260 d = qoff (rp d) 1 := by revert d; decide
theorem off261 (d : Dev nD) : k0_off261 d = qoff (rp d) 2 := by revert d; decide
theorem off262 (d : Dev nD) : k0_off262 d = qoff (rp d) 2 := by revert d; decide
theorem off263 (d : Dev nD) : k0_off263 d = qoff (rp d) 3 := by revert d; decide
theorem off264 (d : Dev nD) : k0_off264 d = qoff (rp d) 3 := by revert d; decide
theorem off265 (d : Dev nD) : k0_off265 d = ooff (rp d) := by revert d; decide
theorem off266 (d : Dev nD) : k0_off266 d = soff (rp d) := by revert d; decide
theorem off267 (d : Dev nD) : k0_off267 d = qoff (lt d) 0 := by revert d; decide
theorem off268 (d : Dev nD) : k0_off268 d = qoff (lt d) 1 := by revert d; decide
theorem off269 (d : Dev nD) : k0_off269 d = qoff (rt d) 2 := by revert d; decide
theorem off270 (d : Dev nD) : k0_off270 d = qoff (rt d) 3 := by revert d; decide
theorem off271_1 (d : Dev nD) : k0_off271 d 1#32 = ooff (rt d) := by revert d; decide
theorem off271_2 (d : Dev nD) : k0_off271 d 2#32 = ooff (op d) := by revert d; decide
theorem off271_3 (d : Dev nD) : k0_off271 d 3#32 = ooff (lt d) := by revert d; decide
theorem off272_1 (d : Dev nD) : k0_off272 d 1#32 = soff (rt d) := by revert d; decide
theorem off272_2 (d : Dev nD) : k0_off272 d 2#32 = soff (op d) := by revert d; decide
theorem off272_3 (d : Dev nD) : k0_off272 d 3#32 = soff (lt d) := by revert d; decide

/-! ## Devices -/

theorem dev1 (d : Dev nD) : (⟨k0_dev1 d, k0_dev1_lt d⟩ : Dev nD) = yp d := by revert d; decide
theorem dev2 (d : Dev nD) : (⟨k0_dev2 d, k0_dev2_lt d⟩ : Dev nD) = right d := by revert d; decide
theorem dev3 (d : Dev nD) : (⟨k0_dev3 d, k0_dev3_lt d⟩ : Dev nD) = left d := by revert d; decide
theorem dev4 (d : Dev nD) : (⟨k0_dev4 d, k0_dev4_lt d⟩ : Dev nD) = yp d := by revert d; decide
theorem dev5 (d : Dev nD) : (⟨k0_dev5 d, k0_dev5_lt d⟩ : Dev nD) = yp d := by revert d; decide
theorem dev6 (d : Dev nD) : (⟨k0_dev6 d, k0_dev6_lt d⟩ : Dev nD) = yp d := by revert d; decide
theorem dev7 (d : Dev nD) : (⟨k0_dev7 d, k0_dev7_lt d⟩ : Dev nD) = yp d := by revert d; decide
theorem dev8 (d : Dev nD) : (⟨k0_dev8 d, k0_dev8_lt d⟩ : Dev nD) = right d := by revert d; decide
theorem dev9 (d : Dev nD) : (⟨k0_dev9 d, k0_dev9_lt d⟩ : Dev nD) = left d := by revert d; decide
theorem dev10 (d : Dev nD) : (⟨k0_dev10 d, k0_dev10_lt d⟩ : Dev nD) = right d := by revert d; decide
theorem dev11 (d : Dev nD) : (⟨k0_dev11 d, k0_dev11_lt d⟩ : Dev nD) = left d := by revert d; decide
theorem dev12 (d : Dev nD) : (⟨k0_dev12 d, k0_dev12_lt d⟩ : Dev nD) = right d := by revert d; decide
theorem dev13 (d : Dev nD) : (⟨k0_dev13 d, k0_dev13_lt d⟩ : Dev nD) = left d := by revert d; decide
theorem dev14 (d : Dev nD) : (⟨k0_dev14 d, k0_dev14_lt d⟩ : Dev nD) = right d := by revert d; decide
theorem dev15 (d : Dev nD) : (⟨k0_dev15 d, k0_dev15_lt d⟩ : Dev nD) = left d := by revert d; decide
theorem dev16 (d : Dev nD) : (⟨k0_dev16 d, k0_dev16_lt d⟩ : Dev nD) = right d := by revert d; decide
theorem dev17 (d : Dev nD) : (⟨k0_dev17 d, k0_dev17_lt d⟩ : Dev nD) = right d := by revert d; decide
theorem dev18 (d : Dev nD) : (⟨k0_dev18 d, k0_dev18_lt d⟩ : Dev nD) = left d := by revert d; decide
theorem dev19 (d : Dev nD) : (⟨k0_dev19 d, k0_dev19_lt d⟩ : Dev nD) = left d := by revert d; decide
theorem dev20 (d : Dev nD) : (⟨k0_dev20 d, k0_dev20_lt d⟩ : Dev nD) = yp d := by revert d; decide
theorem dev21 (d : Dev nD) : (⟨k0_dev21 d, k0_dev21_lt d⟩ : Dev nD) = right d := by revert d; decide
theorem dev22 (d : Dev nD) : (⟨k0_dev22 d, k0_dev22_lt d⟩ : Dev nD) = left d := by revert d; decide

/-! ## Semaphores -/

/-- Semaphore `c` of the array `f` of four (the arrays numbered in the order of the body's arguments). -/
def dm (f : Fin 10) (c : Fin 4) : DmaSem sig :=
  ⟨2 + 4 * f.val + c.val, by have := f.isLt; have := c.isLt; show _ < 42; omega⟩

theorem sem_gs (c : Fin 4) : sem4 cc0_scratch3 c = dm 0 c := by fin_cases c <;> rfl
theorem sem_os (c : Fin 4) : sem4 cc0_scratch4 c = dm 1 c := by fin_cases c <;> rfl
theorem sem_ys (c : Fin 4) : sem4 cc0_scratch5 c = dm 2 c := by fin_cases c <;> rfl
theorem sem_yr (c : Fin 4) : sem4 cc0_scratch6 c = dm 3 c := by fin_cases c <;> rfl
theorem sem_rs (c : Fin 4) : sem4 cc0_scratch7 c = dm 4 c := by fin_cases c <;> rfl
theorem sem_rr (c : Fin 4) : sem4 cc0_scratch8 c = dm 5 c := by fin_cases c <;> rfl
theorem sem_ls (c : Fin 4) : sem4 cc0_scratch9 c = dm 6 c := by fin_cases c <;> rfl
theorem sem_lr (c : Fin 4) : sem4 cc0_scratch10 c = dm 7 c := by fin_cases c <;> rfl
theorem sem_2s (c : Fin 4) : sem4 cc0_scratch11 c = dm 8 c := by fin_cases c <;> rfl
theorem sem_2r (c : Fin 4) : sem4 cc0_scratch12 c = dm 9 c := by fin_cases c <;> rfl
theorem sem_ex : (cc0_scoped0 : Sems sig S_).sem = (1 : Fin 2) := rfl
theorem sem_bar : barSem = (0 : Fin 2) := rfl

/-! ## The semaphores of one device -/

/-- A device's semaphores: the barrier, the one of the last handshake, and ten arrays of four. -/
abbrev Ix : Type := Fin 2 ⊕ (Fin 10 × Fin 4)
@[reducible] def semAt : Ix → SemLoc sig
  | .inl i => .reg i
  | .inr (f, c) => .dma (dm f c)
theorem semAt_inj : Function.Injective semAt := by
  intro a b h
  rcases a with a | ⟨f, c⟩ <;> rcases b with b | ⟨f', c'⟩
  · exact congrArg Sum.inl (SemLoc.reg.inj h)
  · cases h
  · cases h
  · have h1 : 2 + 4 * f.val + c.val = 2 + 4 * f'.val + c'.val := congrArg Fin.val (SemLoc.dma.inj h)
    have := c.isLt; have := c'.isLt
    have e1 : f = f' := Fin.ext (by omega)
    have e2 : c = c' := Fin.ext (by omega)
    rw [e1, e2]

end Cert.KernelIdeal.V
-- ==== Proof.V.Sched.lean ====
module

public import proofs.«01_k».proof.Proof.V.Mesh
public import Idealize.ShloMosaic.Lib.Rounds
public import Idealize.ShloMosaic.Lib.Pipeline.Kit
public import Idealize.ShloMosaic.Lib.Tactic

@[expose] public section

/-! # The protocol

What every device's buffers hold, and, for every semaphore, who pays it how much and what each payment
hands to the device that waits.  A device sends its gathered rows to its peer in the other ring; each
device selects, row by row, its own or its peer's; the selected quarter goes to both neighbours, and
each neighbour passes half of it on.  Every semaphore is waited for once. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F]

/-- The names of a round's payments. -/
abbrev D : Type := Fin 64
/-- The protocol's ghost state, beside the pipeline's. -/
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

abbrev sM : Memref sig .tc .smem S256 .i32 := Memref.whole cc0_stg0_0
abbrev mM : Memref sig .tc .vmem S256x1 .f32 := Memref.whole cc0_stg1_0
abbrev eM : Memref sig .tc .hbm S8192x1024 .f32 := Memref.whole main_arg1
abbrev oM : Memref sig .tc .hbm S1024x1024 .f32 := Memref.whole main_v33
abbrev gM : Memref sig .tc .vmem S256x1024 .f32 := Memref.whole cc0_scratch0
abbrev rM : Memref sig .tc .vmem S256x1024 .f32 := Memref.whole cc0_scratch1
abbrev qM : Memref sig .tc .vmem S4x256x1024 .f32 := Memref.whole cc0_scratch2

/-! ## Contents -/

/-- What the devices begin with: the words that name rows, the mask, the table's half. -/
structure Inp (F : FTy → Type) [FloatOps F] where
  sv : Dev nD → S256.Idx → Elt F .i32
  mv : Dev nD → S256x1.Idx → Elt F .f32
  ev : Dev nD → S8192x1024.Idx → Elt F .f32
  hs : ∀ d i, k0_chk1 (sv d i)

variable (I : Inp F)

/-- The word of row `i`. -/
def wd (d : Dev nD) (i : ℕ) : Elt F .i32 := I.sv d (fun a => match a with | ⟨0, _⟩ => (⟨i % 256, Nat.mod_lt _ (by decide)⟩ : Fin 256))
theorem wd_ok (d : Dev nD) (i : ℕ) : k0_chk1 (wd I d i) := I.hs d _
theorem wd_lt (d : Dev nD) (i : ℕ) : (BitVec.toNat (wd I d i)) < 8192 := by
  have h := wd_ok I d i 0
  have h' : BitVec.toNat (wd I d i) + 1 ≤ 8192 := h
  omega

/-- The place of the table that a place of the gathered rows is copied from. -/
def srcIx (d : Dev nD) (i : S256x1024.Idx) : S8192x1024.Idx := fun a =>
  match a with
  | ⟨0, _⟩ => (⟨BitVec.toNat (wd I d (i 0).val), wd_lt I d _⟩ : Fin 8192)
  | ⟨1, _⟩ => (i 1 : Fin 1024)

/-- The gathered rows. -/
def gF (d : Dev nD) : S256x1024.Idx → Elt F .f32 := fun i => I.ev d (srcIx I d i)

/-- The mask at a row. -/
def mAt (d : Dev nD) (i : Fin 256) : Elt F .f32 := I.mv d (fun a => match a with | ⟨0, _⟩ => i | ⟨1, _⟩ => (0 : Fin 1))

/-- The selected rows. -/
def yF (d : Dev nD) : S256x1024.Idx → Elt F .f32 := fun i =>
  Scalar.select (FloatOps.cmpf (F := F) .one (mAt I d (i 0)) (Scalar.ofBits .f32 0x00000000#32)) (gF I d i) (gF I (yp d) i)

def ix2 (i : Fin 256) (j : Fin 1024) : S256x1024.Idx := fun a => match a with | ⟨0, _⟩ => i | ⟨1, _⟩ => j

/-- All four quarters of the ring. -/
def qF (d : Dev nD) : S4x256x1024.Idx → Elt F .f32 := fun i => yF I (devAt (i 0) (yOf d)) (ix2 (i 1) (i 2))

/-- The result. -/
def oF (d : Dev nD) : S1024x1024.Idx → Elt F .f32 := fun i =>
  yF I (devAt ⟨(i 0).val / 256 % 4, Nat.mod_lt _ (by decide)⟩ (yOf d)) (ix2 ⟨(i 0).val % 256, Nat.mod_lt _ (by decide)⟩ (i 1))

theorem qF_right (d : Dev nD) : qF I (right d) = qF I d := by unfold qF; rw [yOf_right]
theorem qF_left (d : Dev nD) : qF I (left d) = qF I d := by unfold qF; rw [yOf_left]

/-! ## Pieces of buffers -/

/-- Chunk `c` of the gathered rows, of the peer's rows. -/
def gP (d : Dev nD) (c : Fin 4) (q : PosShare TreeShare) (f : S256x1024.Idx → Elt F .f32) : sProp 𝕄 :=
  (chunkOf gM c).view.loc (d : Thread nD τ) ↦[(chunkOf gM c).view.set]{q} f
def rP (d : Dev nD) (c : Fin 4) (q : PosShare TreeShare) (f : S256x1024.Idx → Elt F .f32) : sProp 𝕄 :=
  (chunkOf rM c).view.loc (d : Thread nD τ) ↦[(chunkOf rM c).view.set]{q} f
/-- Chunk `c` of slot `t`, slot `t`, quarter `t` of the result. -/
def qP (d : Dev nD) (t c : Fin 4) (q : PosShare TreeShare) (f : S4x256x1024.Idx → Elt F .f32) : sProp 𝕄 :=
  (slotOf qM (qoff t c) (inb_q t c)).view.loc (d : Thread nD τ) ↦[(slotOf qM (qoff t c) (inb_q t c)).view.set]{q} f
def uP (d : Dev nD) (t : Fin 4) (q : PosShare TreeShare) (f : S4x256x1024.Idx → Elt F .f32) : sProp 𝕄 :=
  (quarterOf qM (soff t) (inb_s t)).view.loc (d : Thread nD τ) ↦[(quarterOf qM (soff t) (inb_s t)).view.set]{q} f
def oP (d : Dev nD) (t : Fin 4) (f : S1024x1024.Idx → Elt F .f32) : sProp 𝕄 :=
  (outOf oM (ooff t) (inb_o t)).view.loc (d : Thread nD τ) ↦[(outOf oM (ooff t) (inb_o t)).view.set]{fullShare} f

/-- Row `i` of the gathered rows. -/
def rowP (d : Dev nD) (i : ℕ) (f : S256x1024.Idx → Elt F .f32) : sProp 𝕄 :=
  gM.view.loc (d : Thread nD τ) ↦[(Finset.univ.filter fun x : S256x1024.Idx => (x 0).val = i)]{fullShare} f

/-- The share of the table that the copy of row `i` reads with: of the row read, and of the rest. -/
def eRow (d : Dev nD) (i : ℕ) : sProp 𝕄 :=
  (tableRow eM (wd I d i) (wd_ok I d i)).view.loc (d : Thread nD τ)
    ↦[(tableRow eM (wd I d i) (wd_ok I d i)).view.set]{Transfers.shareTokN fullShare i} I.ev d
def eRest (d : Dev nD) (i : ℕ) : sProp 𝕄 :=
  eM.view.loc (d : Thread nD τ)
    ↦[Finset.univ \ (tableRow eM (wd I d i) (wd_ok I d i)).view.set]{Transfers.shareTokN fullShare i} I.ev d

instance gP_st (d c q f) : BI.Storable (upEmb : UEmb _ 𝕄) (gP (F := F) d c q f) := by unfold gP; exact (inferInstance : BI.Storable (upEmb : UEmb _ 𝕄) (pointsTo _ _ _ _))
instance rP_st (d c q f) : BI.Storable (upEmb : UEmb _ 𝕄) (rP (F := F) d c q f) := by unfold rP; exact (inferInstance : BI.Storable (upEmb : UEmb _ 𝕄) (pointsTo _ _ _ _))
instance qP_st (d t c q f) : BI.Storable (upEmb : UEmb _ 𝕄) (qP (F := F) d t c q f) := by unfold qP; exact (inferInstance : BI.Storable (upEmb : UEmb _ 𝕄) (pointsTo _ _ _ _))
instance uP_st (d t q f) : BI.Storable (upEmb : UEmb _ 𝕄) (uP (F := F) d t q f) := by unfold uP; exact (inferInstance : BI.Storable (upEmb : UEmb _ 𝕄) (pointsTo _ _ _ _))
instance oP_st (d t f) : BI.Storable (upEmb : UEmb _ 𝕄) (oP (F := F) d t f) := by unfold oP; exact (inferInstance : BI.Storable (upEmb : UEmb _ 𝕄) (pointsTo _ _ _ _))
instance rowP_st (d i f) : BI.Storable (upEmb : UEmb _ 𝕄) (rowP (F := F) d i f) := by unfold rowP; exact (inferInstance : BI.Storable (upEmb : UEmb _ 𝕄) (pointsTo _ _ _ _))
instance eRow_st (d i) : BI.Storable (upEmb : UEmb _ 𝕄) (eRow I d i) := by unfold eRow; exact (inferInstance : BI.Storable (upEmb : UEmb _ 𝕄) (pointsTo _ _ _ _))

/-! ## Cells and payments -/

abbrev cell (d : Dev nD) (k : Ix) : GSem nD τ sig := ((d : Thread nD τ), semAt k)
abbrev bar : Ix := .inl 0
abbrev ext : Ix := .inl 1
abbrev at4 (f : Fin 10) (c : Fin 4) : Ix := .inr (f, c)

/-- Every semaphore of device `d` is ready to be paid. -/
def rdy (d : Dev nD) : sProp 𝕄 := bigSep (Finset.univ : Finset Ix) fun k => reached ER (cell d k) 0
instance rdy_st (d) : BI.Storable (upEmb : UEmb _ 𝕄) (rdy (F := F) d) := by unfold rdy; infer_instance
instance rdy_pers (d : Dev nD) : BI.Persistent (rdy (F := F) d) := by unfold rdy; infer_instance

/-- Half of a share, the other half, and the two halves of that. -/
abbrev shA : PosShare TreeShare := fullShare.left
abbrev shB : PosShare TreeShare := fullShare.right
abbrev shBL : PosShare TreeShare := fullShare.right.left
abbrev shBR : PosShare TreeShare := fullShare.right.right

/-- What the barrier hands device `d`: the peer's landing rows; of each neighbour's quarters the chunks that
    `d` will write. -/
def barPay (d : Dev nD) (j : ℕ) : sProp 𝕄 :=
  if j = 0 then iprop((∃ f, rP (yp d) 0 fullShare f ∗ rP (yp d) 1 fullShare f ∗ rP (yp d) 2 fullShare f ∗ rP (yp d) 3 fullShare f) ∗ rdy (yp d))
  else if j = 1 then
    iprop((∃ f, qP (left d) (rp d) 0 fullShare f ∗ qP (left d) (rp d) 1 fullShare f ∗ qP (left d) (rp d) 2 fullShare f
      ∗ qP (left d) (rp d) 3 fullShare f ∗ qP (left d) (rt d) 2 fullShare f ∗ qP (left d) (rt d) 3 fullShare f) ∗ rdy (left d))
  else
    iprop((∃ f, qP (right d) (rp d) 0 fullShare f ∗ qP (right d) (rp d) 1 fullShare f ∗ qP (right d) (rp d) 2 fullShare f
      ∗ qP (right d) (rp d) 3 fullShare f ∗ qP (right d) (lt d) 0 fullShare f ∗ qP (right d) (lt d) 1 fullShare f) ∗ rdy (right d))

/-- The slot of copy `k` to the result. -/
def kslot (d : Dev nD) (k : Fin 4) : Fin 4 := if k = 0 then rp d else if k = 1 then lt d else if k = 2 then rt d else op d
/-- The slot passed on in the second round. -/
def slot2 (d : Dev nD) (c : Fin 4) : Fin 4 := if c.val < 2 then lt d else rt d

/-- What a copy hands the device that waits for it. -/
def dmaPay (d : Dev nD) (f : ℕ) (c : Fin 4) (j : D) : sProp 𝕄 :=
  match f with
  | 0 => iprop(rowP d (64 * c.val + j.val) (gF I d) ∗ eRow I d (64 * c.val + j.val))
  | 1 => iprop(oP d (kslot d c) (oF I d) ∗ uP d (kslot d c) shA (qF I d))
  | 2 => gP d c shA (gF I d)
  | 3 => rP d c fullShare (gF I (yp d))
  | 4 => qP d (rp d) c shBL (qF I d)
  | 5 => qP d (lt d) c fullShare (qF I d)
  | 6 => qP d (rp d) c shBR (qF I d)
  | 7 => qP d (rt d) c fullShare (qF I d)
  | 8 => qP d (slot2 d c) c shB (qF I d)
  | _ => qP d (op d) c fullShare (qF I d)

def dutiesOf (s : SemLoc sig) : Finset D :=
  match s with
  | .reg _ => {0, 1, 2}
  | .dma i => if i.val < 2 then ∅ else if (i.val - 2) / 4 = 0 then Finset.univ else {0}
def amountOf (s : SemLoc sig) : ℕ :=
  match s with
  | .reg _ => 1
  | .dma i => if (i.val - 2) / 4 = 0 then 128 else if (i.val - 2) / 4 = 1 then 32768 else 8192
def payOf (d : Dev nD) (s : SemLoc sig) (j : D) : sProp 𝕄 :=
  match s with
  | .reg i => if i.val = 0 then barPay d j.val else iprop(emp)
  | .dma i => dmaPay I d ((i.val - 2) / 4) ⟨(i.val - 2) % 4, Nat.mod_lt _ (by decide)⟩ j

theorem amountOf_pos (s : SemLoc sig) : 0 < amountOf s := by
  unfold amountOf; (repeat' split) <;> decide

/-- The schedule: each semaphore has one round. -/
def Rd : Rounds.Schedule (GSem nD τ sig) D 𝕄 where
  duties g r := if r = 0 ∧ g.1.2 = .tc then dutiesOf g.2 else ∅
  unitless _ := False
  amount g _ _ := amountOf g.2
  payload g _ j := payOf I g.1.1 g.2 j
  amount_pos g _ _ _ := amountOf_pos g.2

instance barPay_st (d j) : BI.Storable (upEmb : UEmb _ 𝕄) (barPay (F := F) d j) := by
  unfold barPay; (repeat' split) <;> infer_instance
instance dmaPay_st (d f c j) : BI.Storable (upEmb : UEmb _ 𝕄) (dmaPay I d f c j) := by
  unfold dmaPay; (repeat' split) <;> infer_instance
instance Rd_payload_storable (g : GSem nD τ sig) (r : ℕ) (j : D) :
    BI.Storable (upEmb : UEmb _ 𝕄) ((Rd I).payload g r j) := by
  show BI.Storable upEmb (payOf I g.1.1 g.2 j)
  unfold payOf; (repeat' split) <;> infer_instance

section Tables
variable (d : Dev nD)

theorem duties_eq (k : Ix) : (Rd I).duties (cell d k) 0 = dutiesOf (semAt k) := by
  dsimp only [Rd]; exact if_pos ⟨rfl, rfl⟩
theorem duties_later (g : GSem nD τ sig) : ∀ r, 1 ≤ r → (Rd I).duties g r = ∅ :=
  fun r hr => by dsimp only [Rd]; exact if_neg fun h => by omega
theorem duties_reg (i : Fin 2) : (Rd I).duties (cell d (.inl i)) 0 = {0, 1, 2} := duties_eq I d _
theorem duties_gs (c : Fin 4) : (Rd I).duties (cell d (at4 0 c)) 0 = Finset.univ := by
  rw [duties_eq]; revert c; decide
theorem duties_dm (f : Fin 10) (hf : f ≠ 0) (c : Fin 4) : (Rd I).duties (cell d (at4 f c)) 0 = {0} := by
  rw [duties_eq]; revert f c; decide
theorem amount_eq (k : Ix) (r : ℕ) (j : D) : (Rd I).amount (cell d k) r j = amountOf (semAt k) := rfl
theorem payload_dm (f : Fin 10) (c : Fin 4) (j : D) : (Rd I).payload (cell d (at4 f c)) 0 j = dmaPay I d f.val c j := by
  have h1 : (2 + 4 * f.val + c.val - 2) / 4 = f.val := by have := c.isLt; omega
  have h2 : (2 + 4 * f.val + c.val - 2) % 4 = c.val := by have := c.isLt; omega
  show dmaPay I d ((2 + 4 * f.val + c.val - 2) / 4) ⟨(2 + 4 * f.val + c.val - 2) % 4, _⟩ j = _
  rw [h1]; congr 1; exact Fin.ext h2
theorem payload_bar (j : D) : (Rd I).payload (cell d bar) 0 j = barPay d j.val := rfl
theorem payload_ext (j : D) : (Rd I).payload (cell d ext) 0 j = iprop(emp) := rfl

theorem expect_reg (i : Fin 2) : (Rd I).expect (cell d (.inl i)) 0 = 3 := by
  unfold Schedule.expect Schedule.amountOf
  rw [duties_reg]; rfl
theorem expect_gs (c : Fin 4) : (Rd I).expect (cell d (at4 0 c)) 0 = 8192 := by
  unfold Schedule.expect Schedule.amountOf
  rw [duties_gs, Finset.sum_congr rfl (fun j _ => amount_eq I d (at4 0 c) 0 j), Finset.sum_const]
  revert c; decide
theorem expect_dm (f : Fin 10) (hf : f ≠ 0) (c : Fin 4) : (Rd I).expect (cell d (at4 f c)) 0 = amountOf (semAt (at4 f c)) := by
  unfold Schedule.expect Schedule.amountOf
  rw [duties_dm I d f hf, Finset.sum_singleton, amount_eq]

end Tables

/-! ## Levels, and what a device owes -/

/-- Staging, gathers, local copies and sends at 0; then the barrier, the peer's rows, the two rounds of the
    ring, the last handshake. -/
def lvl (s : SemLoc sig) : ℕ :=
  match s with
  | .reg i => if i.val = 0 then 1 else 5
  | .dma i => if (i.val - 2) / 4 = 3 then 2 else if (i.val - 2) / 4 = 5 then 3 else if (i.val - 2) / 4 = 7 then 3
    else if (i.val - 2) / 4 = 9 then 4 else 0
def lv (g : GSem nD τ sig) (_ : Unit) : ℕ := lvl g.2
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A payment still to be made: the device, its semaphore, how much. -/
abbrev Owe : Type := Dev nD × Ix × ℕ
def owedL : List Owe → CellTallies nD τ sig Unit
  | [] => 0
  | x :: l => owedL l + tallyAt (cell x.1 x.2.1) () x.2.2

/-- Device `d` has these payments left to make. -/
def ow (d : Dev nD) (l : List Owe) : sProp 𝕄 := iprop(∃ W, owes (d : Thread nD τ) (owedL l) W)

theorem owedL_pos (l : List Owe) (g : GSem nD τ sig) (u : Unit) (h : 0 < owedL l g u) :
    ∃ x ∈ l, g = cell x.1 x.2.1 := by
  induction l with
  | nil => exact absurd h (Nat.lt_irrefl 0)
  | cons x l ih =>
    have h' : 0 < owedL l g u + tallyAt (cell x.1 x.2.1) () x.2.2 g u := h
    rw [tallyAt_apply] at h'
    by_cases hg : g = cell x.1 x.2.1 ∧ u = ()
    · exact ⟨x, List.mem_cons_self .., hg.1⟩
    · rw [if_neg hg, Nat.add_zero] at h'
      obtain ⟨y, hy, e⟩ := ih h'
      exact ⟨y, List.mem_cons_of_mem _ hy, e⟩

/-- A device may wait on a semaphore below all that it still has to pay. -/
theorem mayWait (d : Dev nD) (k : Ix) (l : List Owe) (n : ℕ) (hk : lvl (semAt k) ≤ n)
    (h : (l.all fun x => decide (n < lvl (semAt x.2.1))) = true) :
    (levAts L lv : sProp 𝕄) ⊢ MayWait (d : Thread nD τ) (semAt k) () (owedL l) := by
  have h' : ∀ x ∈ l, n < lvl (semAt x.2.1) := by simpa using h
  exact MayOwe.of_cut (L := L) (lev := lv) n (fun p hp => by rw [Finset.mem_singleton.mp hp, L_tc]; exact Finset.mem_singleton_self _)
    (fun g u hg => by
      obtain ⟨x, _, rfl⟩ := owedL_pos l g u hg
      rw [L_tc]; exact Finset.mem_singleton_self _)
    (fun p hp => by rw [Finset.mem_singleton.mp hp]; exact hk)
    (fun g u hg => by
      obtain ⟨x, hx, rfl⟩ := owedL_pos l g u hg
      exact h' x hx)

end Cert.KernelIdeal.V
-- ==== Proof.V.Pieces.lean ====
module

public import proofs.«01_k».proof.Proof.V.Sched
public import Idealize.ShloMosaic.Lib.ValueIdx
public import Idealize.SL.BI.BigOpNat

@[expose] public section

/-! # Buffers in pieces

A buffer of 256 rows is its four chunks, a chunk its 64 rows, a slot of the quarters' buffer its four
chunks, the result its four quarters; and what a copy between two pieces leaves. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F]

local notation "𝕄" => MT nD τ sig Unit (Elt F) ℕ UU ℕ

variable (I : Inp F)

/-! ## Where a place lies -/

/-- The places of chunk `c`, of chunk `c` of slot `t`, of slot `t`, of quarter `t`. -/
def gS (c : Fin 4) : Finset S256x1024.Idx := Finset.univ.filter fun i => 64 * c.val ≤ (i 0).val ∧ (i 0).val < 64 * c.val + 64
def qS (t c : Fin 4) : Finset S4x256x1024.Idx :=
  Finset.univ.filter fun i => (i 0).val = t.val ∧ 64 * c.val ≤ (i 1).val ∧ (i 1).val < 64 * c.val + 64
def uS (t : Fin 4) : Finset S4x256x1024.Idx := Finset.univ.filter fun i => (i 0).val = t.val
def oS (t : Fin 4) : Finset S1024x1024.Idx :=
  Finset.univ.filter fun i => 256 * t.val ≤ (i 0).val ∧ (i 0).val < 256 * t.val + 256
def rowS (k : ℕ) : Finset S256x1024.Idx := Finset.univ.filter fun i => (i 0).val = k

theorem mem_gS {c i} : i ∈ gS c ↔ 64 * c.val ≤ (i 0).val ∧ (i 0).val < 64 * c.val + 64 := by simp [gS]
theorem mem_qS {t c i} : i ∈ qS t c ↔ (i 0).val = t.val ∧ 64 * c.val ≤ (i 1).val ∧ (i 1).val < 64 * c.val + 64 := by simp [qS]
theorem mem_uS {t i} : i ∈ uS t ↔ (i 0).val = t.val := by simp [uS]
theorem mem_oS {t i} : i ∈ oS t ↔ 256 * t.val ≤ (i 0).val ∧ (i 0).val < 256 * t.val + 256 := by simp [oS]
theorem mem_rowS {k i} : i ∈ rowS k ↔ (i 0).val = k := by simp [rowS]

theorem rect_g (c : Fin 4) : (Rect.unit (s := S256x1024) ![64 * c.val, 0] S64x1024.size (inb_chunk c)).set = gS c := by
  ext i
  rw [Rect.mem_set_unit, Fin.forall_fin_two, mem_gS]
  have h1 : (i 1).val < 1024 := (i 1).isLt
  exact ⟨fun h => h.1, fun h => ⟨h, Nat.zero_le _, by show (i 1).val < 0 + 1024; omega⟩⟩

theorem rect_row (k : ℕ) (hk : k < 256) : (Rect.unit (s := S256x1024) ![k, 0] S1x1024.size (inb_row k hk)).set = rowS k := by
  ext i
  rw [Rect.mem_set_unit, Fin.forall_fin_two, mem_rowS]
  have h1 : (i 1).val < 1024 := (i 1).isLt
  refine ⟨fun h => ?_, fun h => ⟨⟨?_, ?_⟩, Nat.zero_le _, by show (i 1).val < 0 + 1024; omega⟩⟩
  · have h0 : k ≤ (i 0).val ∧ (i 0).val < k + 1 := h.1
    omega
  · show k ≤ (i 0).val; omega
  · show (i 0).val < k + 1; omega

theorem rect_q (t c : Fin 4) : (Rect.unit (s := S4x256x1024) (qoff t c) S1x64x1024.size (inb_q t c)).set = qS t c := by
  ext i
  rw [Rect.mem_set_unit, mem_qS]
  have h2 : (i 2).val < 1024 := (i 2).isLt
  constructor
  · intro h
    have h0 : t.val ≤ (i 0).val ∧ (i 0).val < t.val + 1 := h 0
    exact ⟨by omega, h 1⟩
  · intro h a
    fin_cases a
    · exact ⟨by show t.val ≤ (i 0).val; omega, by show (i 0).val < t.val + 1; omega⟩
    · exact h.2
    · exact ⟨Nat.zero_le _, by show (i 2).val < 0 + 1024; omega⟩

theorem rect_u (t : Fin 4) : (Rect.unit (s := S4x256x1024) (soff t) S1x256x1024.size (inb_s t)).set = uS t := by
  ext i
  rw [Rect.mem_set_unit, mem_uS]
  have h2 : (i 2).val < 1024 := (i 2).isLt
  have h1 : (i 1).val < 256 := (i 1).isLt
  constructor
  · intro h
    have h0 : t.val ≤ (i 0).val ∧ (i 0).val < t.val + 1 := h 0
    omega
  · intro h a
    fin_cases a
    · exact ⟨by show t.val ≤ (i 0).val; omega, by show (i 0).val < t.val + 1; omega⟩
    · exact ⟨Nat.zero_le _, by show (i 1).val < 0 + 256; omega⟩
    · exact ⟨Nat.zero_le _, by show (i 2).val < 0 + 1024; omega⟩

theorem rect_o (t : Fin 4) : (Rect.unit (s := S1024x1024) (ooff t) S256x1024.size (inb_o t)).set = oS t := by
  ext i
  rw [Rect.mem_set_unit, Fin.forall_fin_two, mem_oS]
  have h1 : (i 1).val < 1024 := (i 1).isLt
  exact ⟨fun h => h.1, fun h => ⟨h, Nat.zero_le _, by show (i 1).val < 0 + 1024; omega⟩⟩

theorem set_g (c : Fin 4) : (chunkOf gM c).view.set = gS c :=
  (View.set_slice_whole cc0_scratch0 _).trans (rect_g c)
theorem set_r (c : Fin 4) : (chunkOf rM c).view.set = gS c :=
  (View.set_slice_whole cc0_scratch1 _).trans (rect_g c)
theorem set_row (k : ℕ) (hk : k < 256) : (rowOf gM k hk).view.set = rowS k :=
  (View.set_slice_whole cc0_scratch0 _).trans (rect_row k hk)
theorem set_q (t c : Fin 4) : (slotOf qM (qoff t c) (inb_q t c)).view.set = qS t c := by
  unfold slotOf
  exact (View.set_reshape _ _).trans ((View.set_slice_whole cc0_scratch2 _).trans (rect_q t c))
theorem set_u (t : Fin 4) : (quarterOf qM (soff t) (inb_s t)).view.set = uS t := by
  unfold quarterOf
  exact (View.set_reshape _ _).trans ((View.set_slice_whole cc0_scratch2 _).trans (rect_u t))
theorem set_o (t : Fin 4) : (outOf oM (ooff t) (inb_o t)).view.set = oS t :=
  (View.set_slice_whole main_v33 _).trans (rect_o t)

/-! ## The pieces over plain sets -/

theorem gP_eq (d c q f) : gP (F := F) d c q f = (gM.view.loc (d : Thread nD τ) ↦[gS c]{q} f) :=
  congrArg (fun S : Finset S256x1024.Idx => (gM.view.loc (d : Thread nD τ) ↦[S]{q} f : sProp 𝕄)) (set_g c)
theorem rP_eq (d c q f) : rP (F := F) d c q f = (rM.view.loc (d : Thread nD τ) ↦[gS c]{q} f) :=
  congrArg (fun S : Finset S256x1024.Idx => (rM.view.loc (d : Thread nD τ) ↦[S]{q} f : sProp 𝕄)) (set_r c)
theorem qP_eq (d t c q f) : qP (F := F) d t c q f = (qM.view.loc (d : Thread nD τ) ↦[qS t c]{q} f) :=
  congrArg (fun S : Finset S4x256x1024.Idx => (qM.view.loc (d : Thread nD τ) ↦[S]{q} f : sProp 𝕄)) (set_q t c)
theorem uP_def (d t q f) : uP (F := F) d t q f = (qM.view.loc (d : Thread nD τ) ↦[uS t]{q} f) :=
  congrArg (fun S : Finset S4x256x1024.Idx => (qM.view.loc (d : Thread nD τ) ↦[S]{q} f : sProp 𝕄)) (set_u t)
theorem oP_eq (d t f) : oP (F := F) d t f = (oM.view.loc (d : Thread nD τ) ↦[oS t]{fullShare} f) :=
  congrArg (fun S : Finset S1024x1024.Idx => (oM.view.loc (d : Thread nD τ) ↦[S]{fullShare} f : sProp 𝕄)) (set_o t)
theorem rowP_eq (d k f) : rowP (F := F) d k f = (gM.view.loc (d : Thread nD τ) ↦[rowS k]{fullShare} f) := rfl

/-! ## Whole buffers and their pieces -/

theorem four (P : Fin 4 → sProp 𝕄) : bigSep Finset.univ P = iprop(P 0 ∗ P 1 ∗ P 2 ∗ P 3) :=
  bigSep_eq_bigSepL_of_eq [0, 1, 2, 3] (by decide) (by decide) P

/-- Elements held as a union of disjoint sets, the sets given by membership. -/
theorem cut {T : Type} [Fintype T] {ℓ : Loc nD τ sig} (S : Finset (Idx ℓ)) (K : T → Finset (Idx ℓ)) (q : PosShare TreeShare)
    (f : Buf (Elt F) ℓ) (hd : ∀ t t' i, i ∈ K t → i ∈ K t' → t = t') (hS : ∀ i, i ∈ S ↔ ∃ t, i ∈ K t) :
    (ℓ ↦[S]{q} f : sProp 𝕄) = bigSep Finset.univ fun t => ℓ ↦[K t]{q} f := by
  classical
  rw [← pointsTo_biUnion Finset.univ K (fun t _ t' _ hne => Finset.disjoint_left.mpr fun i hi hi' => hne (hd t t' i hi hi'))]
  congr 1
  ext i; rw [hS]; simp

theorem gS_one : ∀ (t t' : Fin 4) i, i ∈ gS t → i ∈ gS t' → t = t' := by
  intro t t' i h h'
  have h := mem_gS.mp h; have h' := mem_gS.mp h'
  exact Fin.ext (by omega)
theorem gS_all : ∀ i, i ∈ (Finset.univ : Finset S256x1024.Idx) ↔ ∃ t, i ∈ gS t := by
  intro i
  have hi : (i 0).val < 256 := (i 0).isLt
  exact ⟨fun _ => ⟨⟨(i 0).val / 64, by omega⟩, mem_gS.mpr ⟨by dsimp only; omega, by dsimp only; omega⟩⟩, fun _ => Finset.mem_univ _⟩
theorem row_one (c : Fin 4) : ∀ (t t' : D) i, i ∈ rowS (64 * c.val + t.val) → i ∈ rowS (64 * c.val + t'.val) → t = t' := by
  intro t t' i h h'
  have h := mem_rowS.mp h; have h' := mem_rowS.mp h'
  exact Fin.ext (by omega)
theorem row_all (c : Fin 4) : ∀ i, i ∈ gS c ↔ ∃ t : D, i ∈ rowS (64 * c.val + t.val) := by
  intro i
  refine mem_gS.trans ⟨fun h => ⟨⟨(i 0).val - 64 * c.val, by omega⟩, mem_rowS.mpr (by dsimp only; omega)⟩, fun ⟨j, h⟩ => ?_⟩
  have h := mem_rowS.mp h
  have := j.isLt
  omega
theorem qS_one (t : Fin 4) : ∀ (c c' : Fin 4) i, i ∈ qS t c → i ∈ qS t c' → c = c' := by
  intro c c' i h h'
  have h := mem_qS.mp h; have h' := mem_qS.mp h'
  exact Fin.ext (by omega)
theorem qS_all (t : Fin 4) : ∀ i, i ∈ uS t ↔ ∃ c, i ∈ qS t c := by
  intro i
  have hi : (i 1).val < 256 := (i 1).isLt
  refine mem_uS.trans ⟨fun h => ⟨⟨(i 1).val / 64, by omega⟩, mem_qS.mpr ⟨h, by dsimp only; omega, by dsimp only; omega⟩⟩,
    fun ⟨c, h⟩ => (mem_qS.mp h).1⟩
theorem uS_one : ∀ (t t' : Fin 4) i, i ∈ uS t → i ∈ uS t' → t = t' :=
  fun _ _ _ h h' => Fin.ext ((mem_uS.mp h).symm.trans (mem_uS.mp h'))
theorem uS_all : ∀ i, i ∈ (Finset.univ : Finset S4x256x1024.Idx) ↔ ∃ t, i ∈ uS t :=
  fun i => ⟨fun _ => ⟨i 0, mem_uS.mpr rfl⟩, fun _ => Finset.mem_univ _⟩
theorem oS_one : ∀ (t t' : Fin 4) i, i ∈ oS t → i ∈ oS t' → t = t' := by
  intro t t' i h h'
  have h := mem_oS.mp h; have h' := mem_oS.mp h'
  exact Fin.ext (by omega)
theorem oS_all : ∀ i, i ∈ (Finset.univ : Finset S1024x1024.Idx) ↔ ∃ t, i ∈ oS t := by
  intro i
  have hi : (i 0).val < 1024 := (i 0).isLt
  exact ⟨fun _ => ⟨⟨(i 0).val / 256, by omega⟩, mem_oS.mpr ⟨by dsimp only; omega, by dsimp only; omega⟩⟩, fun _ => Finset.mem_univ _⟩

def gAll (d : Dev nD) (f : S256x1024.Idx → Elt F .f32) : sProp 𝕄 := gM.view.loc (d : Thread nD τ) ↦{fullShare} f
def rAll (d : Dev nD) (f : S256x1024.Idx → Elt F .f32) : sProp 𝕄 := rM.view.loc (d : Thread nD τ) ↦{fullShare} f
def qAll (d : Dev nD) (f : S4x256x1024.Idx → Elt F .f32) : sProp 𝕄 := qM.view.loc (d : Thread nD τ) ↦{fullShare} f
def oAll (d : Dev nD) (f : S1024x1024.Idx → Elt F .f32) : sProp 𝕄 := oM.view.loc (d : Thread nD τ) ↦{fullShare} f
def eAll (d : Dev nD) : sProp 𝕄 := eM.view.loc (d : Thread nD τ) ↦{fullShare} I.ev d

theorem gAll_eq (d : Dev nD) (f : S256x1024.Idx → Elt F .f32) : gAll d f
    = iprop(gP d 0 fullShare f ∗ gP d 1 fullShare f ∗ gP d 2 fullShare f ∗ gP d 3 fullShare f) := by
  simp only [gP_eq]
  exact (cut (ℓ := gM.view.loc (d : Thread nD τ)) Finset.univ gS fullShare f gS_one gS_all).trans (four _)

theorem rAll_eq (d : Dev nD) (f : S256x1024.Idx → Elt F .f32) : rAll d f
    = iprop(rP d 0 fullShare f ∗ rP d 1 fullShare f ∗ rP d 2 fullShare f ∗ rP d 3 fullShare f) := by
  simp only [rP_eq]
  exact (cut (ℓ := rM.view.loc (d : Thread nD τ)) Finset.univ gS fullShare f gS_one gS_all).trans (four _)

/-- A chunk is its rows. -/
theorem gP_rows (d : Dev nD) (c : Fin 4) (f : S256x1024.Idx → Elt F .f32) :
    gP d c fullShare f = bigSep (Finset.univ : Finset D) fun j => rowP d (64 * c.val + j.val) f := by
  simp only [gP_eq, rowP_eq]
  exact cut (ℓ := gM.view.loc (d : Thread nD τ)) (gS c) (fun j : D => rowS (64 * c.val + j.val)) fullShare f (row_one c) (row_all c)

/-- A slot is its chunks. -/
theorem uP_eq (d : Dev nD) (t : Fin 4) (q : PosShare TreeShare) (f : S4x256x1024.Idx → Elt F .f32) : uP d t q f
    = iprop(qP d t 0 q f ∗ qP d t 1 q f ∗ qP d t 2 q f ∗ qP d t 3 q f) := by
  simp only [qP_eq, uP_def]
  exact (cut (ℓ := qM.view.loc (d : Thread nD τ)) (uS t) (qS t) q f (qS_one t) (qS_all t)).trans (four _)

/-- The slots of the quarters' buffer, counted from position `r`. -/
theorem qAll_eq (d : Dev nD) (r : Fin 4) (f : S4x256x1024.Idx → Elt F .f32) :
    qAll d f = iprop(uP d r fullShare f ∗ uP d (r + 1) fullShare f ∗ uP d (r + 2) fullShare f ∗ uP d (r + 3) fullShare f) := by
  have h : qAll d f = bigSep Finset.univ fun t : Fin 4 => uP d t fullShare f := by
    simp only [uP_def]
    exact cut (ℓ := qM.view.loc (d : Thread nD τ)) Finset.univ uS fullShare f uS_one uS_all
  rw [h, bigSep_univ_equiv (Equiv.addLeft r), four]
  simp only [Equiv.coe_addLeft, add_zero]

/-- The quarters of the result, counted from position `r`. -/
theorem oAll_eq (d : Dev nD) (r : Fin 4) (f : S1024x1024.Idx → Elt F .f32) :
    oAll d f = iprop(oP d r f ∗ oP d (r + 1) f ∗ oP d (r + 2) f ∗ oP d (r + 3) f) := by
  have h : oAll d f = bigSep Finset.univ fun t : Fin 4 => oP d t f := by
    simp only [oP_eq]
    exact cut (ℓ := oM.view.loc (d : Thread nD τ)) Finset.univ oS fullShare f oS_one oS_all
  rw [h, bigSep_univ_equiv (Equiv.addLeft r), four]
  simp only [Equiv.coe_addLeft, add_zero]

/-! ## Shares -/

theorem gP_half (d c f) : gP (F := F) d c fullShare f ⊣⊢ iprop(gP d c shA f ∗ gP d c shB f) := by
  unfold gP; exact pointsTo_share (PosShare.mem_left_op_right _)
theorem qP_half (d t c f) : qP (F := F) d t c fullShare f ⊣⊢ iprop(qP d t c shA f ∗ qP d t c shB f) := by
  unfold qP; exact pointsTo_share (PosShare.mem_left_op_right _)
theorem qP_quart (d t c f) : qP (F := F) d t c shB f ⊣⊢ iprop(qP d t c shBL f ∗ qP d t c shBR f) := by
  unfold qP; exact pointsTo_share (PosShare.mem_left_op_right _)

/-! ## The table, a share for every row copy -/

/-- What stays of the table's share when every row copy has its own. -/
def eDrop (d : Dev nD) : sProp 𝕄 :=
  eM.view.loc (d : Thread nD τ) ↦{Transfers.shareDrop fullShare (4 * 64)} I.ev d

/-- The shares of the row copies of chunk `c`. -/
def eChunk (d : Dev nD) (c : ℕ) : sProp 𝕄 :=
  bigSep (Finset.range 64) fun j => iprop(eRow I d (64 * c + j) ∗ eRest I d (64 * c + j))

/-- Parts in another order. -/
theorem swap3 (P Q R : sProp 𝕄) : iprop(P ∗ Q ∗ R) = iprop(Q ∗ P ∗ R) := by
  have h : ∀ P Q R : sProp 𝕄, Idealize.SL.BI.Entails (BI.sep P (BI.sep Q R)) (BI.sep Q (BI.sep P R)) := fun P Q R =>
    BI.sep_assoc'.trans ((BI.sep_mono_l BI.sep_comm).trans BI.sep_assoc)
  exact Entails.antisymm (h P Q R) (h Q P R)

/-- A run in two, and in four. -/
theorem range_cut (A : ℕ → sProp 𝕄) (m : ℕ) : ∀ b : ℕ,
    bigSep (Finset.range (m + b)) A = iprop(bigSep (Finset.range m) A ∗ bigSep (Finset.range b) fun j => A (m + j))
  | 0 => by rw [Nat.add_zero, Finset.range_zero, bigSep_empty]; exact Entails.antisymm sep_emp.2 sep_emp.1
  | b + 1 => by
    rw [← Nat.add_assoc, bigSep_range_succ, bigSep_range_succ, range_cut A m b]
    exact swap3 _ _ _

theorem range_four (A : ℕ → sProp 𝕄) : bigSep (Finset.range (4 * 64)) A
    = iprop(bigSep (Finset.range 64) (fun j => A (64 * 0 + j)) ∗ bigSep (Finset.range 64) (fun j => A (64 * 1 + j))
      ∗ bigSep (Finset.range 64) (fun j => A (64 * 2 + j)) ∗ bigSep (Finset.range 64) fun j => A (64 * 3 + j)) := by
  rw [show 4 * 64 = 64 + (64 + (64 + 64)) from rfl, range_cut A 64, range_cut _ 64, range_cut _ 64]
  simp only [Nat.mul_zero, Nat.zero_add, ← Nat.add_assoc]

theorem eAll_eq (d : Dev nD) : eAll I d ⊣⊢ iprop(eDrop I d ∗ eChunk I d 0 ∗ eChunk I d 1 ∗ eChunk I d 2 ∗ eChunk I d 3) := by
  have h : eAll I d ⊣⊢ iprop(eDrop I d ∗ bigSep (Finset.range (4 * 64)) fun i => iprop(eRow I d i ∗ eRest I d i)) := by
    unfold eAll eDrop
    rw [show (bigSep (Finset.range (4 * 64)) fun i => iprop(eRow I d i ∗ eRest I d i))
      = bigSep (Finset.range (4 * 64)) fun i => (eM.view.loc (d : Thread nD τ) ↦{Transfers.shareTokN fullShare i} I.ev d : sProp 𝕄) from
        bigSep_congr fun i _ => (Entails.antisymm (pointsTo_split_subset (Finset.subset_univ _)).1 (pointsTo_split_subset (Finset.subset_univ _)).2).symm]
    exact Transfers.pointsTo_toks_range fullShare (4 * 64)
  refine h.trans (BiEntails.of_eq (congrArg (fun X => iprop(eDrop I d ∗ X)) ?_))
  unfold eChunk
  rw [range_four]

end Cert.KernelIdeal.V
-- ==== Proof.V.Landed.lean ====
module

public import proofs.«01_k».proof.Proof.V.Pieces
public import proofs.«01_k».proof.Proof.Gen.KernelIdeal.Skeleton
public import Idealize.ShloMosaic.Lib.Pipeline.Value
public import Idealize.ShloMosaic.Lib.Pipeline.ValueKit.Geometry

@[expose] public section

/-! # What a copy and a store leave

Each copy lands the contents the schedule names, and the store of a selection is the selected rows. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F]

local notation "𝕄" => MT nD τ sig Unit (Elt F) ℕ UU ℕ

variable (I : Inp F)

/-- A write of what the view would read of `g` makes the contents `g` there. -/
theorem landed {κ : Kind} {sp : Space} {s : Shape} {e : EltTy} {Val : EltTy → Type} (v : View sig κ sp s e)
    (f g : v.ty.Contents Val) (w : s.Idx → Val e) (h : ∀ x, w x = v.read Val g x) :
    ∀ i ∈ v.set, v.write Val f w Finset.univ i = g i := by
  intro i hi
  obtain ⟨x, -, rfl⟩ := Finset.mem_map.mp hi
  rw [View.write_emb_of_mem _ _ (Finset.mem_univ x), h, View.read_apply, cast_cast, cast_eq]

/-- A place of a row, of the table's row, of a quarter of the result, of a slot, as a place of its buffer. -/
def atRow (i : ℕ) (h : i < 256) (x : S1x1024.Idx) : S256x1024.Idx := (rowOf gM i h).view.emb x
def atTable (v : BitVec 32) (h : k0_chk1 v) (x : S1x1024.Idx) : S8192x1024.Idx := (tableRow eM v h).view.emb x
def atOut (t : Fin 4) (x : S256x1024.Idx) : S1024x1024.Idx := (outOf oM (ooff t) (inb_o t)).view.emb x
def atSlot (t : Fin 4) (x : S256x1024.Idx) : S4x256x1024.Idx := (quarterOf qM (soff t) (inb_s t)).view.emb x

theorem atRow_val (i : ℕ) (h : i < 256) (x : S1x1024.Idx) (a : Fin 2) :
    (atRow i h x a).val = (![i, 0] : Fin 2 → ℕ) a + (x a).val :=
  ValueKit.view_emb_slice_whole_unit_val cc0_scratch0 ![i, 0] S1x1024.size (inb_row i h) x a
theorem atTable_val (v : BitVec 32) (h : k0_chk1 v) (x : S1x1024.Idx) (a : Fin 2) :
    (atTable v h x a).val = k0_off1 v a + (x a).val :=
  ValueKit.view_emb_slice_whole_unit_val main_arg1 (k0_off1 v) S1x1024.size (k0_off1_inb v h) x a
theorem atOut_val (t : Fin 4) (x : S256x1024.Idx) (a : Fin 2) : (atOut t x a).val = ooff t a + (x a).val :=
  ValueKit.view_emb_slice_whole_unit_val main_v33 (ooff t) S256x1024.size (inb_o t) x a

/-- A row of the table lands as its row of the gathered rows. -/
theorem row_lands (d : Dev nD) (i : ℕ) (h : i < 256) (f : S256x1024.Idx → Elt F .f32) :
    (((rowOf gM i h).view.loc (d : Thread nD τ) ↦[(rowOf gM i h).view.set]{fullShare}
      (rowOf gM i h).view.write (Elt F) f ((tableRow eM (wd I d i) (wd_ok I d i)).view.read (Elt F) (I.ev d)) Finset.univ : sProp 𝕄))
      = rowP d i (gF I d) := by
  refine (pointsTo_congr (landed (Val := Elt F) (rowOf gM i h).view f (gF I d) _ ?_)).trans ?_
  rotate_left
  · exact congrArg (fun S : Finset S256x1024.Idx => (gM.view.loc (d : Thread nD τ) ↦[S]{fullShare} gF I d : sProp 𝕄)) (set_row i h)
  · intro x
    show I.ev d (atTable (wd I d i) (wd_ok I d i) x) = I.ev d (srcIx I d (atRow i h x))
    refine congrArg (I.ev d) (funext fun a => Fin.ext ?_)
    have hx : (x 0).val < 1 := (x 0).isLt
    have h0 : (atRow i h x 0).val = i + (x 0).val := atRow_val i h x 0
    have h1 : (atRow i h x 1).val = 0 + (x 1).val := atRow_val i h x 1
    refine (atTable_val _ _ x a).trans ?_
    fin_cases a
    · show (wd I d i).toNat + (x 0).val = BitVec.toNat (wd I d (atRow i h x 0).val)
      rw [h0, show (x 0).val = 0 from by omega]
      rfl
    · exact h1.symm

/-- A chunk of gathered rows lands at the peer. -/
theorem chunk_lands (d : Dev nD) (c : Fin 4) (f : S256x1024.Idx → Elt F .f32) :
    (((chunkOf rM c).view.loc ((yp d : Dev nD) : Thread nD τ) ↦[(chunkOf rM c).view.set]{fullShare}
      (chunkOf rM c).view.write (Elt F) f ((chunkOf gM c).view.read (Elt F) (gF I d)) Finset.univ : sProp 𝕄))
      = rP (yp d) c fullShare (gF I (yp (yp d))) := by
  refine (pointsTo_congr (landed (Val := Elt F) (chunkOf rM c).view f (gF I (yp (yp d))) _ ?_)).trans ?_
  rotate_left
  · rfl
  · intro x
    rw [yp_yp]
    rfl

/-- A chunk of a slot lands in the same slot. -/
theorem slot_lands (d : Dev nD) (t c : Fin 4) (f g : S4x256x1024.Idx → Elt F .f32) :
    (((slotOf qM (qoff t c) (inb_q t c)).view.loc (d : Thread nD τ) ↦[(slotOf qM (qoff t c) (inb_q t c)).view.set]{fullShare}
      (slotOf qM (qoff t c) (inb_q t c)).view.write (Elt F) f ((slotOf qM (qoff t c) (inb_q t c)).view.read (Elt F) g) Finset.univ : sProp 𝕄))
      = qP d t c fullShare g := by
  exact pointsTo_congr (landed (Val := Elt F) (slotOf qM (qoff t c) (inb_q t c)).view f g _ (fun _ => rfl))

theorem atSlot_eq (t : Fin 4) (x : S256x1024.Idx) : atSlot t x
    = fun a => match a with | ⟨0, _⟩ => (t : Fin 4) | ⟨1, _⟩ => (x 0 : Fin 256) | ⟨2, _⟩ => (x 1 : Fin 1024) := by
  have key : Shape.reshapeEquiv (s := S1x256x1024) (s' := S256x1024) (squeezes_S1x256x1024_S256x1024).numel_eq x
      = fun a => match a with | ⟨0, _⟩ => (0 : Fin 1) | ⟨1, _⟩ => (x 0 : Fin 256) | ⟨2, _⟩ => (x 1 : Fin 1024) := by
    refine Shape.reshapeEquiv_eq_of_rowMajor _ ?_
    refine (Shape.rowMajor_val_three _).trans (Eq.trans ?_ (Shape.rowMajor_val_two _).symm)
    show (0 * 256 + (x 0).val) * 1024 + (x 1).val = (x 0).val * 1024 + (x 1).val
    omega
  have h : atSlot t x = (Rect.unit (s := S4x256x1024) (soff t) S1x256x1024.size (inb_s t)).emb
        (Shape.reshapeEquiv (s := S1x256x1024) (s' := S256x1024) (squeezes_S1x256x1024_S256x1024).numel_eq x) := rfl
  rw [h, key]
  funext a
  refine Fin.ext ?_
  rw [ValueKit.rect_emb_unit_val]
  fin_cases a
  · show t.val + 0 = t.val; omega
  · show 0 + (x 0).val = (x 0).val; omega
  · show 0 + (x 1).val = (x 1).val; omega

/-- A slot lands as its quarter of the result. -/
theorem quarter_lands (d : Dev nD) (t : Fin 4) (f : S1024x1024.Idx → Elt F .f32) :
    (((outOf oM (ooff t) (inb_o t)).view.loc (d : Thread nD τ) ↦[(outOf oM (ooff t) (inb_o t)).view.set]{fullShare}
      (outOf oM (ooff t) (inb_o t)).view.write (Elt F) f ((quarterOf qM (soff t) (inb_s t)).view.read (Elt F) (qF I d)) Finset.univ : sProp 𝕄))
      = oP d t (oF I d) := by
  refine (pointsTo_congr (landed (Val := Elt F) (outOf oM (ooff t) (inb_o t)).view f (oF I d) _ ?_)).trans ?_
  rotate_left
  · rfl
  · intro x
    show qF I d (atSlot t x) = oF I d (atOut t x)
    rw [atSlot_eq]
    have h0 : (atOut t x 0).val = 256 * t.val + (x 0).val := atOut_val t x 0
    have h1 : (atOut t x 1).val = 0 + (x 1).val := atOut_val t x 1
    have hx : (x 0).val < 256 := (x 0).isLt
    have ht := t.isLt
    have e0 : (⟨(atOut t x 0).val / 256 % 4, Nat.mod_lt _ (by decide)⟩ : Fin 4) = t :=
      Fin.ext (by show (atOut t x 0).val / 256 % 4 = t.val; rw [h0]; omega)
    have e1 : (⟨(atOut t x 0).val % 256, Nat.mod_lt _ (by decide)⟩ : Fin 256) = x 0 :=
      Fin.ext (by show (atOut t x 0).val % 256 = (x 0).val; rw [h0]; omega)
    have e2 : (atOut t x 1 : Fin 1024) = x 1 := Fin.ext (by rw [h1]; omega)
    unfold oF
    rw [e0, e1, e2]
    rfl

/-- The selection of two chunks by a chunk of the mask, read at a place. -/
theorem pay_at (m : Vec F S64x1 .f32) (g r : Vec F S64x1024 .f32) (x : S1x64x1024.Idx) :
    Gen.k0_pay1 m g r x = Scalar.select (FloatOps.cmpf (F := F) .one
        (m (fun a => match a with | ⟨0, _⟩ => (x 1 : Fin 64) | ⟨1, _⟩ => (0 : Fin 1))) (Scalar.ofBits .f32 0x00000000#32))
      (g (fun a => match a with | ⟨0, _⟩ => (x 1 : Fin 64) | ⟨1, _⟩ => (x 2 : Fin 1024)))
      (r (fun a => match a with | ⟨0, _⟩ => (x 1 : Fin 64) | ⟨1, _⟩ => (x 2 : Fin 1024))) := by
  unfold Gen.k0_pay1
  dsimp only
  have hx : (x 0).val < 1 := (x 0).isLt
  rw [shapeCast_apply _ _ x (fun a => match a with | ⟨0, _⟩ => (x 1 : Fin 64) | ⟨1, _⟩ => (x 2 : Fin 1024)) (by
    rw [Shape.rowMajor_val_three, Shape.rowMajor_val_two]
    show (x 1).val * 1024 + (x 2).val = ((x 0).val * 64 + (x 1).val) * 1024 + (x 2).val
    omega)]
  refine (ValueIdx.select_apply _ _ _ _).trans ?_
  rw [broadcastTo_apply _ _ _ (fun a => match a with | ⟨0, _⟩ => (x 1 : Fin 64) | ⟨1, _⟩ => (0 : Fin 1)) (by
    intro a
    fin_cases a
    · rfl
    · rfl)]
  rw [shapeCast_self, ValueIdx.cmpf_apply, shapeCast_self]
  rfl

/-- A place of a chunk of the mask, of a chunk of rows, of a chunk of a slot. -/
def atMask (c : Fin 4) (y : S64x1.Idx) : S256x1.Idx :=
  (Rect.unit (s := S256x1) ![64 * c.val, 0] S64x1.size (inb_maskChunk c)).emb y
def atChunk (c : Fin 4) (y : S64x1024.Idx) : S256x1024.Idx :=
  (Rect.unit (s := S256x1024) ![64 * c.val, 0] S64x1024.size (inb_chunk c)).emb y
def atStore (t c : Fin 4) (x : S1x64x1024.Idx) : S4x256x1024.Idx :=
  (Rect.unit (s := S4x256x1024) (qoff t c) S1x64x1024.size (inb_q t c)).emb x

theorem atMask_val (c : Fin 4) (y : S64x1.Idx) (a : Fin 2) : (atMask c y a).val = (![64 * c.val, 0] : Fin 2 → ℕ) a + (y a).val :=
  ValueKit.rect_emb_unit_val (s := S256x1) _ _ _ y a
theorem atChunk_val (c : Fin 4) (y : S64x1024.Idx) (a : Fin 2) : (atChunk c y a).val = (![64 * c.val, 0] : Fin 2 → ℕ) a + (y a).val :=
  ValueKit.rect_emb_unit_val (s := S256x1024) _ _ _ y a
theorem atStore_val (t c : Fin 4) (x : S1x64x1024.Idx) (a : Fin 3) : (atStore t c x a).val = qoff t c a + (x a).val :=
  ValueKit.rect_emb_unit_val (s := S4x256x1024) _ _ _ x a

/-- The selection of chunk `c` is the selected rows. -/
theorem sel_at (d : Dev nD) (c : Fin 4) (x : S1x64x1024.Idx) :
    Gen.k0_pay1 (fun y => I.mv d (atMask c y)) (fun y => gF I d (atChunk c y)) (fun y => gF I (yp d) (atChunk c y)) x
      = qF I d (atStore (rp d) c x) := by
  have hx : (x 0).val < 1 := (x 0).isLt
  have v0 : (atStore (rp d) c x 0).val = (rp d).val + (x 0).val := atStore_val (rp d) c x 0
  have v1 : (atStore (rp d) c x 1).val = 64 * c.val + (x 1).val := atStore_val (rp d) c x 1
  have v2 : (atStore (rp d) c x 2).val = 0 + (x 2).val := atStore_val (rp d) c x 2
  have h0 : (atStore (rp d) c x 0 : Fin 4) = rp d := Fin.ext (by rw [v0]; omega)
  have hr : atChunk c (fun a => match a with | ⟨0, _⟩ => (x 1 : Fin 64) | ⟨1, _⟩ => (x 2 : Fin 1024))
      = ix2 (atStore (rp d) c x 1) (atStore (rp d) c x 2) := by
    refine funext fun a => Fin.ext ((atChunk_val c _ a).trans ?_)
    fin_cases a
    · exact v1.symm
    · exact v2.symm
  have hm : I.mv d (atMask c (fun a => match a with | ⟨0, _⟩ => (x 1 : Fin 64) | ⟨1, _⟩ => (0 : Fin 1)))
      = mAt I d (atStore (rp d) c x 1) := by
    refine congrArg (I.mv d) (funext fun a => Fin.ext ((atMask_val c _ a).trans ?_))
    fin_cases a
    · exact v1.symm
    · rfl
  rw [pay_at, hr, hm]
  unfold qF
  rw [h0, devAt_rp]
  rfl

/-- A selection stored at chunk `c` of the own slot makes it the selected rows. -/
theorem store_lands (d : Dev nD) (c : Fin 4) (f : S4x256x1024.Idx → Elt F .f32)
    (m : Vec F S64x1 .f32) (g r : Vec F S64x1024 .f32)
    (hm : m = fun y => I.mv d (atMask c y)) (hg : g = fun y => gF I d (atChunk c y)) (hr : r = fun y => gF I (yp d) (atChunk c y)) :
    ∀ i ∈ (qM.access (Rect.unit (s := S4x256x1024) (qoff (rp d) c) S1x64x1024.size (inb_q (rp d) c))).set,
      (qM.access (Rect.unit (s := S4x256x1024) (qoff (rp d) c) S1x64x1024.size (inb_q (rp d) c))).write (Elt F) f
        (Gen.k0_pay1 m g r) Finset.univ i = qF I d i := by
  subst hm hg hr
  exact landed (Val := Elt F) (qM.access (Rect.unit (s := S4x256x1024) (qoff (rp d) c) S1x64x1024.size (inb_q (rp d) c))) f (qF I d) _
    (fun x => sel_at I d c x)

theorem set_access (t c : Fin 4) :
    (qM.access (Rect.unit (s := S4x256x1024) (qoff t c) S1x64x1024.size (inb_q t c))).set = qS t c :=
  (View.set_slice_whole cc0_scratch2 _).trans (rect_q t c)

end Cert.KernelIdeal.V
-- ==== Proof.V.Steps.lean ====
module

public import proofs.«01_k».proof.Proof.V.Landed

@[expose] public section

/-! # The steps of the body

What each kind of step of the body takes and gives: a signal, a wait, a copy to a device, a copy of a row or
of a quarter, a selection. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F]

local notation "𝕄" => MT nD τ sig Unit (Elt F) ℕ UU ℕ

variable (I : Inp F)

abbrev 𝒱₀ : Variants := Variants.none

/-- A part of the body on device `d`, with what follows it. -/
abbrev run (d : Dev nD) (p : PR F PUnit) (Q : PUnit → sProp 𝕄) : sProp 𝕄 :=
  wp frame (wpE (defs₀ (F := F)) 𝒱₀ (d : Thread nD τ) none) Set.univ p Q

/-! ## What every step may use -/

def invsAll (K : GSem nD τ sig → ℕ) : sProp 𝕄 :=
  bigSep Finset.univ fun x : Dev nD × Ix => cellInv ER (Rd I) (K (cell x.1 x.2)) (cell x.1 x.2)
instance (K) : BI.Persistent (invsAll I K) := by unfold invsAll; infer_instance

def ctx (K : GSem nD τ sig → ℕ) : sProp 𝕄 := iprop(invsAll I K ∗ levAts L lv)
instance (K) : BI.Persistent (ctx I K) := by unfold ctx; infer_instance

theorem invsAll_at (K : GSem nD τ sig → ℕ) (d : Dev nD) (k : Ix) :
    invsAll I K ⊢ cellInv ER (Rd I) (K (cell d k)) (cell d k) := by
  unfold invsAll
  exact bigSep_elim (Φ := fun x : Dev nD × Ix => cellInv ER (Rd I) (K (cell x.1 x.2)) (cell x.1 x.2)) (Finset.mem_univ (d, k))

theorem rdy_at (d : Dev nD) (k : Ix) : (rdy d : sProp 𝕄) ⊢ reached ER (cell d k) 0 := by
  unfold rdy
  exact bigSep_elim (Φ := fun k : Ix => (reached ER (cell d k) 0 : sProp 𝕄)) (Finset.mem_univ k)

/-! ## Signals and waits -/

theorem mem_reg (d : Dev nD) (i : Fin 2) (j : D) (hj : j ∈ ({0, 1, 2} : Finset D)) : j ∈ (Rd I).duties (cell d (.inl i)) 0 := by
  rw [duties_reg]; exact hj

/-- A signal pays a duty of the semaphore signalled, with what it hands over. -/
theorem step_sig (K : GSem nD τ sig → ℕ) (d p p' : Dev nD) (i : Fin 2) (s : Sem sig) (j : D) (l : List Owe)
    (hp : p' = p) (hs : s = i) (hj : j ∈ ({0, 1, 2} : Finset D)) {kont : PUnit → PR F PUnit} {Q : PUnit → sProp 𝕄} :
    ⊢ ctx I K -∗ reached ER (cell p (.inl i)) 0 -∗ dutyTok ER (cell p (.inl i)) 0 j -∗ (Rd I).payload (cell p (.inl i)) 0 j
      -∗ ow d ((p, .inl i, 1) :: l) -∗ (ow d l -∗ run d (kont ⟨⟩) Q) -∗ run d (semSignalWord p' s 1#32 >>= kont) Q := by
  subst hp hs
  unfold ctx ow
  iintro ⟨#Hi, -⟩ #Hr Ht Hp ⟨%W, HO⟩ Hk
  iapply (Rounds.wp_signal 𝒱₀ ER (Rd I) (d : Thread nD τ) none (dst := (p' : Thread nD τ)) (sem := s) (r := 0) (d := j) (κ := K (cell p' (.inl s)))
    (mem_reg I p' s j hj) (amount_eq I p' (.inl s) 0 j) () (owedL l) rfl) $$ [HO Ht Hp]
  · isplitr; · iapply (invsAll_at I K p' (.inl s)); iexact Hi
    isplitl [HO]; · iexact HO
    isplitl [Ht]; · iexact Ht
    isplitl [Hp]; · iexact Hp
    iexact Hr
  iintro HO
  iapply Hk
  iexists W; iexact HO

/-- A wait for all of a semaphore's round: the payments come, and the semaphore is back at zero. -/
theorem step_wait (K : GSem nD τ sig → ℕ) (d : Dev nD) (k : Ix) (n v : ℕ) (l : List Owe)
    {w : TpuEff nD τ sig (Elt F) Λ₀ .tc PUnit}
    (hw : ∀ X : PUnit → sProp 𝕄, wpE (defs₀ (F := F)) 𝒱₀ (d : Thread nD τ) none Set.univ w X = waitSpec (d : Thread nD τ) Set.univ (semAt k) n X)
    (hn : n = (Rd I).expect (cell d k) 0) (hv : lvl (semAt k) ≤ v) (hl : (l.all fun x => decide (v < lvl (semAt x.2.1))) = true)
    {kont : PUnit → PR F PUnit} {Q : PUnit → sProp 𝕄} :
    ⊢ ctx I K -∗ atPos ER (cell d k) 0 ∅ 0 -∗ cred (tallyAt (cell d k) () n) -∗ ow d l
      -∗ (bigSep ((Rd I).duties (cell d k) 0) (fun j => (Rd I).payload (cell d k) 0 j) -∗ semVal (cell d k) 0 -∗ ow d l -∗ run d (kont ⟨⟩) Q)
      -∗ run d (.op w kont) Q := by
  unfold ctx ow
  iintro ⟨#Hi, #Hlev⟩ Hat Hc ⟨%W, HO⟩ Hk
  iapply (Rounds.wp_wait_rest_token 𝒱₀ ER (Rd I) (d : Thread nD τ) none (κ := K (cell d k)) hw (Set.mem_univ _) () (O := owedL l) (W := W)
    (R := 0) (m := 0) (T := ∅) ((Nat.zero_add n).trans hn)) $$ [Hat Hc HO]
  · isplitr; · iapply (invsAll_at I K d k); iexact Hi
    isplitl [Hc]; · iexact Hc
    isplitl [HO]; · iexact HO
    isplitr; · iapply (mayWait d k l v hv hl); iexact Hlev
    iexact Hat
  iintro ⟨HO, Hat, -, Hpay⟩
  iapply fupd_wp
  imod (Rounds.cell_close ER (Rd I) (Set.mem_univ (K (cell d k))) id (duties_later I (cell d k))) $$ [Hat] with Hz
  · isplitr; · iapply (invsAll_at I K d k); iexact Hi
    iexact Hat
  imodintro
  rw [Finset.sdiff_empty]
  iapply Hk $$ Hpay Hz
  iexists _; iexact HO

/-- A wait for a copy, whatever buffers it names: what the copy hands over comes. -/
theorem step_dma (K : GSem nD τ sig → ℕ) (d : Dev nD) (f : Fin 10) (c : Fin 4) (v n : ℕ) (l : List Owe) (hf : f ≠ 0)
    {sp sp' : Space} {s s' : Shape} {e e' : EltTy} {sem : DmaSem sig} {src : Memref sig .tc sp' s' e'} {dst : Memref sig .tc sp s e}
    {hsrc : src.view.WordExact} {hdst : dst.view.WordExact} (hs : sem = dm f c)
    (ha : dst.view.dmaCredit = n) (hn : n = amountOf (semAt (at4 f c)))
    (hv : lvl (semAt (at4 f c)) ≤ v) (hl : (l.all fun x => decide (v < lvl (semAt x.2.1))) = true)
    {kont : PUnit → PR F PUnit} {Q : PUnit → sProp 𝕄} :
    ⊢ ctx I K -∗ atPos ER (cell d (at4 f c)) 0 ∅ 0 -∗ cred (tallyAt (cell d (at4 f c)) () n) -∗ ow d l
      -∗ (dmaPay I d f.val c 0 -∗ semVal (cell d (at4 f c)) 0 -∗ ow d l -∗ run d (kont ⟨⟩) Q)
      -∗ run d (Prog.lift (.waitDma2 sem src dst hsrc hdst) >>= kont) Q := by
  subst hs
  iintro #Hx Hat Hc HO Hk
  iapply (step_wait I K d (at4 f c) n v l (w := .waitDma2 (dm f c) src dst hsrc hdst)
    (fun X => (wpE_waitDma2_eq (src := src) (dst := dst) 𝒱₀ (d : Thread nD τ) none Set.univ X).trans (by rw [ha]))
    (hn.trans (expect_dm I d f hf c).symm) hv hl) $$ Hx Hat Hc HO
  rw [duties_dm I d f hf c, bigSep_singleton, payload_dm]
  iexact Hk

theorem mem_dm (d : Dev nD) (f : Fin 10) (hf : f ≠ 0) (c : Fin 4) : (0 : D) ∈ (Rd I).duties (cell d (at4 f c)) 0 := by
  rw [duties_dm I d f hf c]; exact Finset.mem_singleton_self _

theorem credit_chunk (u : Memref sig .tc .vmem S256x1024 .f32) (c : Fin 4) : (chunkOf u c).view.dmaCredit = 8192 := rfl

/-- A copy to a device: it pays the own semaphore with the share it read, the other device's with what lands. -/
theorem step_send (K : GSem nD τ sig → ℕ) (d p p' : Dev nD) (f f' : Fin 10) (c : Fin 4) (l : List Owe) (hp : p' = p)
    (hf : f ≠ 0) (hf' : f' ≠ 0)
    {src dst : Memref sig .tc .vmem S64x1024 .f32} {sS sR : DmaSem sig} (hS : sS = dm f c) (hR : sR = dm f' c)
    {hsrc : src.view.WordExact} {hdst : dst.view.WordExact} {hsc : dst.view.ref.isScScratch = false}
    {ht : DmaTarget.Typed .vmem (.dma sR) (.remote (Dev.tc p' : Thread nD τ) dst (.dma sS) hsc)} {q : PosShare TreeShare}
    (fs : Buf (Elt F) (src.view.loc (d : Thread nD τ))) (fd : Buf (Elt F) (dst.view.loc (p : Thread nD τ)))
    (hN : dst.view.dmaCredit = 8192) (ha : amountOf (semAt (at4 f c)) = 8192) (ha' : amountOf (semAt (at4 f' c)) = 8192)
    (h₁ : (src.view.loc (d : Thread nD τ) ↦[src.view.set]{q} fs : sProp 𝕄) ⊢ dmaPay I d f.val c 0)
    (h₂ : (dst.view.loc (p : Thread nD τ) ↦[dst.view.set]{fullShare} (dst.view.write (Elt F) fd (src.view.read (Elt F) fs) Finset.univ) : sProp 𝕄)
      ⊢ dmaPay I p f'.val c 0)
    {kont : PUnit → PR F PUnit} {Q : PUnit → sProp 𝕄} :
    ⊢ ctx I K -∗ rdy d -∗ rdy p -∗ (src.view.loc (d : Thread nD τ) ↦[src.view.set]{q} fs)
      -∗ (dst.view.loc (p : Thread nD τ) ↦[dst.view.set]{fullShare} fd)
      -∗ dutyTok ER (cell d (at4 f c)) 0 0 -∗ dutyTok ER (cell p (at4 f' c)) 0 0 -∗ ow d ((p, at4 f' c, 8192) :: l)
      -∗ (cred (tallyAt (cell d (at4 f c)) () 8192) -∗ ow d l -∗ run d (kont ⟨⟩) Q)
      -∗ run d (Prog.lift (.enqueueDma src (.remote (Dev.tc p' : Thread nD τ) dst (.dma sS) hsc) (.dma sR) hsrc hdst ht) >>= kont) Q := by
  subst hp hS hR
  unfold ctx ow
  iintro ⟨#Hi, -⟩ #Hr #Hr' Hs Hd Ht Ht' ⟨%W, HO⟩ Hk
  iapply (Rounds.wp_send_pointsTo 𝒱₀ ER (Rd I) (d : Thread nD τ) none (c' := (p' : Thread nD τ)) (src := src) (dst := dst)
      (sS := .dma (dm f c)) (sem := .dma (dm f' c)) (q := q) (fs := fs) (κ₁ := K (cell d (at4 f c))) (κ₂ := K (cell p' (at4 f' c)))
      (r₁ := 0) (r₂ := 0) (d₁ := 0) (d₂ := 0) (fd := fd)
      (mem_dm I d f hf c) (mem_dm I p' f' hf' c)
      () () 8192 hN ha ha' (owedL l) rfl (W := W)
      (h₁.trans (Entails.of_eq (payload_dm I d f c 0).symm)) (h₂.trans (Entails.of_eq (payload_dm I p' f' c 0).symm))) $$ [Hs Hd HO Ht Ht']
  · isplitr; · iapply (invsAll_at I K d (at4 f c)); iexact Hi
    isplitr; · iapply (invsAll_at I K p' (at4 f' c)); iexact Hi
    isplitl [Hs]; · iexact Hs
    isplitl [Hd]; · iexact Hd
    isplitl [HO]; · iexact HO
    isplitl [Ht]; · iexact Ht
    isplitr; · iapply (rdy_at d (at4 f c)); iexact Hr
    isplitl [Ht']; · iexact Ht'
    iapply (rdy_at p' (at4 f' c)); iexact Hr'
  iintro ⟨Hc, HO⟩
  iapply Hk $$ [Hc]
  · iexact Hc
  iexists W; iexact HO

end Cert.KernelIdeal.V
-- ==== Proof.V.Copies.lean ====
module

public import proofs.«01_k».proof.Proof.V.Steps

@[expose] public section

/-! # The copies within a device, and the selection

The row copies of a chunk and the wait for them, the copy of a quarter to the result and its wait, the
selection of a chunk, and the sends between devices with the contents that they carry. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F]

local notation "𝕄" => MT nD τ sig Unit (Elt F) ℕ UU ℕ

variable (I : Inp F)

/-- The words, the mask: whole. -/
def sAll (d : Dev nD) : sProp 𝕄 := sM.view.loc (d : Thread nD τ) ↦{fullShare} I.sv d
def mAll (d : Dev nD) : sProp 𝕄 := mM.view.loc (d : Thread nD τ) ↦{fullShare} I.mv d

/-! ## The row copies -/

/-- The place of the word of row `i`. -/
def atWord (i : ℕ) (h : i < 256) (x : S1.Idx) : S256.Idx := (sM.access (Rect.unit (s := S256) ![i] S1.size (inb_word i h))).emb x
theorem atWord_val (i : ℕ) (h : i < 256) (x : S1.Idx) (a : Fin 1) : (atWord i h x a).val = (![i] : Fin 1 → ℕ) a + (x a).val :=
  ValueKit.view_emb_slice_whole_unit_val cc0_stg0_0 ![i] S1.size (inb_word i h) x a

theorem word_at (d : Dev nD) (i : ℕ) (h : i < 256) (x : S1.Idx) :
    ((sM.access (Rect.unit (s := S256) ![i] S1.size (inb_word i h))).read (Elt F) (I.sv d) x : Elt F .i32) = wd I d i := by
  refine (show _ = I.sv d (atWord i h x) from rfl).trans (congrArg (I.sv d) ?_)
  funext a
  match a with
  | ⟨0, _⟩ =>
    refine Fin.ext ?_
    have hx : (x 0).val < 1 := (x 0).isLt
    have e := atWord_val i h x 0
    show (atWord i h x 0).val = i % 256
    rw [e, Nat.mod_eq_of_lt h]
    show i + (x 0).val = i
    omega

def dj (j : ℕ) : D := ⟨j % 64, Nat.mod_lt _ (by decide)⟩

/-- What the copy of row `j` of chunk `c` needs: its payment's token, the row, the share of the table. -/
def rowIn (d : Dev nD) (c : Fin 4) (f : S256x1024.Idx → Elt F .f32) (j : ℕ) : sProp 𝕄 :=
  iprop(dutyTok ER (cell d (at4 0 c)) 0 (dj j) ∗ rowP d (64 * c.val + j) f ∗ eRow I d (64 * c.val + j))

theorem mem_gs (d : Dev nD) (c : Fin 4) (j : D) : j ∈ (Rd I).duties (cell d (at4 0 c)) 0 := by
  rw [duties_gs]; exact Finset.mem_univ _

theorem row_pay (d : Dev nD) (c : Fin 4) (j : ℕ) (hj : j < 64) (f : S256x1024.Idx → Elt F .f32) (h : 64 * c.val + j < 256) :
    iprop(((rowOf gM (64 * c.val + j) h).view.loc (d : Thread nD τ) ↦[(rowOf gM (64 * c.val + j) h).view.set]{fullShare}
      (rowOf gM (64 * c.val + j) h).view.write (Elt F) f
        ((tableRow eM (wd I d (64 * c.val + j)) (wd_ok I d (64 * c.val + j))).view.read (Elt F) (I.ev d)) Finset.univ : sProp 𝕄)
      ∗ eRow I d (64 * c.val + j)) ⊢ (Rd I).payload (cell d (at4 0 c)) 0 (dj j) := by
  rw [payload_dm, row_lands]
  show iprop(rowP d (64 * c.val + j) (gF I d) ∗ eRow I d (64 * c.val + j))
    ⊢ iprop(rowP d (64 * c.val + j % 64) (gF I d) ∗ eRow I d (64 * c.val + j % 64))
  rw [Nat.mod_eq_of_lt hj]

theorem amount_gs : ∀ c : Fin 4, amountOf (semAt (at4 0 c)) = 128 := by decide
theorem amount_os : ∀ c : Fin 4, amountOf (semAt (at4 1 c)) = 32768 := by decide
theorem amount_big : ∀ (f : Fin 10) (c : Fin 4), 2 ≤ f → amountOf (semAt (at4 f c)) = 8192 := by decide

/-- One row copy. -/
theorem step_row (K : GSem nD τ sig → ℕ) (d : Dev nD) (c : Fin 4) (j : ℕ) (hj : j < 64) (h : 64 * c.val + j < 256)
    (f : S256x1024.Idx → Elt F .f32) {kont : PUnit → PR F PUnit} {Q : PUnit → sProp 𝕄} :
    ⊢ ctx I K -∗ rdy d -∗ sAll I d -∗ rowIn I d c f j
      -∗ (sAll I d -∗ cred (tallyAt (cell d (at4 0 c)) () 128) -∗ run d (kont ⟨⟩) Q)
      -∗ run d (smemLoad sM (Rect.unit (s := S256) ![64 * c.val + j] S1.size (inb_word _ h)) numel1_S1 rfl >>= fun v : Elt F .i32 =>
        Prog.lift (TpuEff.assume (k0_chk1 v) (k0_chk1.dec v)) >>= fun hv =>
        Prog.lift (.enqueueDma (tableRow eM v hv.down) (.here (rowOf gM (64 * c.val + j) h)) (.dma (sem4 cc0_scratch3 c))
          (View.wordExact_bits rfl) (View.wordExact_bits rfl) ⟨Or.inl rfl, trivial⟩) >>= kont) Q := by
  have hprog : ∀ k : Elt F .i32 → PR F PUnit,
      (smemLoad sM (Rect.unit (s := S256) ![64 * c.val + j] S1.size (inb_word _ h)) numel1_S1 rfl >>= k)
        = smemLoadElt sM (Rect.unit (s := S256) ![64 * c.val + j] S1.size (inb_word _ h)) (View.loads_smem_one rfl numel1_S1)
          (Shape.Idx.first (numel1_S1.symm ▸ Nat.one_pos)) k := fun _ => rfl
  rw [hprog]
  unfold ctx sAll rowIn
  iintro ⟨#Hi, -⟩ #Hr Hs ⟨Ht, Hrow, He⟩ Hk
  iapply (wp_smemLoadElt 𝒱₀ (d : Thread nD τ) none Set.univ (m := sM) (r := Rect.unit (s := S256) ![64 * c.val + j] S1.size (inb_word _ h))
    (Finset.subset_univ _)) $$ Hs
  iintro Hs
  rw [word_at I d (64 * c.val + j) h]
  iapply (wp_assume 𝒱₀ (d : Thread nD τ) none Set.univ (wd_ok I d (64 * c.val + j)))
  rw [sem_gs]
  iapply (Rounds.wp_copy_pointsTo 𝒱₀ ER (Rd I) (d : Thread nD τ) none (src := tableRow eM (wd I d (64 * c.val + j)) (wd_ok I d _))
    (dst := rowOf gM (64 * c.val + j) h) (sem := .dma (dm 0 c)) (r := 0) (d := dj j) (κ := K (cell d (at4 0 c)))
    (fs := I.ev d) (fd := f) (mem_gs I d c (dj j)) () 128 rfl ((amount_eq I d (at4 0 c) 0 (dj j)).trans (amount_gs c)) (row_pay I d c j hj f h)) $$ [Ht Hrow He]
  · isplitr; · iapply (invsAll_at I K d (at4 0 c)); iexact Hi
    isplitl [He]; · unfold eRow; iexact He
    isplitl [Hrow]
    · ihave Hrow := (Entails.of_eq (rowP_eq d (64 * c.val + j) f)) $$ Hrow
      iapply (Entails.of_eq (congrArg (fun S : Finset S256x1024.Idx => (gM.view.loc (d : Thread nD τ) ↦[S]{fullShare} f : sProp 𝕄)) (set_row _ h).symm))
      iexact Hrow
    isplitl [Ht]; · iexact Ht
    iapply (rdy_at d (at4 0 c)); iexact Hr
  iintro Hc
  iapply Hk $$ Hs Hc

theorem cred_eq (g : GSem nD τ sig) (a b : ℕ) :
    (cred (tallyAt g () (a + b)) : sProp 𝕄) = iprop(cred (tallyAt g () a) ∗ cred (tallyAt g () b)) := by
  rw [← tallyAt_add]; exact Entails.antisymm (cred_add _ _).1 (cred_add _ _).2

/-- The row copies of a chunk from row `j` on. -/
theorem step_gatherFrom (K : GSem nD τ sig → ℕ) (d : Dev nD) (c : Fin 4)
    (f : S256x1024.Idx → Elt F .f32) {kont : PUnit → PR F PUnit} {Q : PUnit → sProp 𝕄} : ∀ (n j : ℕ) (h : j + n = 64),
    ⊢ ctx I K -∗ rdy d -∗ sAll I d -∗ bigSep (Finset.range n) (fun i => rowIn I d c f (j + i))
      -∗ cred (tallyAt (cell d (at4 0 c)) () (128 * j))
      -∗ (sAll I d -∗ cred (tallyAt (cell d (at4 0 c)) () 8192) -∗ run d (kont ⟨⟩) Q)
      -∗ run d (gatherFrom sM eM gM cc0_scratch3 c n j h >>= kont) Q
  | 0, j, h => by
    obtain rfl : j = 64 := by omega
    iintro - - Hs - Hc Hk
    iapply Hk $$ Hs Hc
  | n + 1, j, h => by
    have e : bigSep (Finset.range (n + 1)) (fun i => rowIn I d c f (j + i))
        = iprop(rowIn I d c f j ∗ bigSep (Finset.range n) fun i => rowIn I d c f (j + 1 + i)) := by
      rw [Nat.add_comm n 1, range_cut _ 1 n, Finset.range_one, bigSep_singleton]
      simp only [Nat.add_zero, Nat.add_assoc]
    rw [e, gather_succ]
    have h1 : j < 64 := by omega
    have h2 : 64 * c.val + j < 256 := by have := c.isLt; omega
    have h3 : j + 1 + n = 64 := by omega
    iintro #Hx #Hr Hs ⟨Hj, Hrest⟩ Hc Hk
    iapply (step_row I K d c j h1 h2 f) $$ Hx Hr Hs Hj
    iintro Hs Hc'
    iapply (step_gatherFrom K d c f n (j + 1) h3) $$ Hx Hr Hs Hrest [Hc Hc'] Hk
    iapply (Entails.of_eq (cred_eq (cell d (at4 0 c)) (128 * j) 128).symm)
    isplitl [Hc]; · iexact Hc
    iexact Hc'

/-- The tokens of the row copies of chunk `c`. -/
def gTok (d : Dev nD) (c : Fin 4) : sProp 𝕄 := bigSep (Finset.univ : Finset D) fun j => dutyTok ER (cell d (at4 0 c)) 0 j

theorem range_D (A : ℕ → sProp 𝕄) : bigSep (Finset.range 64) A = bigSep (Finset.univ : Finset D) fun j => A j.val := by
  rw [show Finset.range 64 = (Finset.univ : Finset D).map Fin.valEmbedding from (Fin.map_valEmbedding_univ (n := 64)).trans (Nat.Iio_eq_range 64) |>.symm, bigSep_map]
  rfl

theorem rows_in (d : Dev nD) (c : Fin 4) (f : S256x1024.Idx → Elt F .f32) :
    iprop(gTok d c ∗ gP d c fullShare f ∗ bigSep (Finset.univ : Finset D) fun j => eRow I d (64 * c.val + j.val))
      = bigSep (Finset.range 64) (fun i => rowIn I d c f (0 + i)) := by
  have hd' : ∀ j : D, dj j.val = j := fun j => Fin.ext (Nat.mod_eq_of_lt j.isLt)
  rw [gP_rows, range_D]
  unfold rowIn gTok
  simp only [Nat.zero_add, hd', bigSep_sep']

/-- What is left of a chunk's shares of the table while its rows are copied. -/
def eKeep (d : Dev nD) (c : Fin 4) : sProp 𝕄 := bigSep (Finset.univ : Finset D) fun j => eRest I d (64 * c.val + j.val)

theorem eChunk_eq (d : Dev nD) (c : Fin 4) : eChunk I d c.val
    = iprop((bigSep (Finset.univ : Finset D) fun j => eRow I d (64 * c.val + j.val))
      ∗ eKeep I d c) := by
  unfold eChunk eKeep; rw [range_D, bigSep_sep']

/-- The row copies of a chunk. -/
theorem step_gather (K : GSem nD τ sig → ℕ) (d : Dev nD) (c : Fin 4)
    (f : S256x1024.Idx → Elt F .f32) {kont : PUnit → PR F PUnit} {Q : PUnit → sProp 𝕄} :
    ⊢ ctx I K -∗ rdy d -∗ sAll I d -∗ gTok d c -∗ gP d c fullShare f -∗ eChunk I d c.val
      -∗ (sAll I d -∗ eKeep I d c -∗ cred (tallyAt (cell d (at4 0 c)) () 8192) -∗ run d (kont ⟨⟩) Q)
      -∗ run d (gatherFrom sM eM gM cc0_scratch3 c 64 0 rfl >>= kont) Q := by
  iintro #Hx #Hr Hs Ht Hg He Hk
  ihave He := (Entails.of_eq (eChunk_eq I d c)) $$ He
  icases He with ⟨He, Hkeep⟩
  iapply (step_gatherFrom I K d c f 64 0 rfl) $$ Hx Hr Hs [Ht Hg He] []
  · iapply (Entails.of_eq (rows_in I d c f))
    isplitl [Ht]; · iexact Ht
    isplitl [Hg]; · iexact Hg
    iexact He
  · rw [Nat.mul_zero, tallyAt_zero, cred_zero]
    iempintro
  iintro Hs Hc
  iapply Hk $$ Hs Hkeep Hc

theorem gs_pay (d : Dev nD) (c : Fin 4) :
    bigSep ((Rd I).duties (cell d (at4 0 c)) 0) (fun j => (Rd I).payload (cell d (at4 0 c)) 0 j)
      = iprop(gP d c fullShare (gF I d) ∗ bigSep (Finset.univ : Finset D) fun j => eRow I d (64 * c.val + j.val)) := by
  rw [duties_gs, gP_rows, ← bigSep_sep']
  exact bigSep_congr fun j _ => payload_dm I d 0 c j

/-- The wait for a chunk's row copies. -/
theorem step_gwait (K : GSem nD τ sig → ℕ) (d : Dev nD) (c : Fin 4) (l : List Owe)
    (hl : (l.all fun x => decide (0 < lvl (semAt x.2.1))) = true) {kont : PUnit → PR F PUnit} {Q : PUnit → sProp 𝕄} :
    ⊢ ctx I K -∗ atPos ER (cell d (at4 0 c)) 0 ∅ 0 -∗ cred (tallyAt (cell d (at4 0 c)) () 8192) -∗ ow d l -∗ eKeep I d c
      -∗ (gP d c shA (gF I d) -∗ gP d c shB (gF I d) -∗ eChunk I d c.val -∗ semVal (cell d (at4 0 c)) 0 -∗ ow d l -∗ run d (kont ⟨⟩) Q)
      -∗ run d (waitGather eM gM cc0_scratch3 c >>= kont) Q := by
  iintro #Hx Hat Hc HO Hkeep Hk
  unfold waitGather
  rw [sem_gs]
  iapply (step_wait I K d (at4 0 c) 8192 0 l
    (fun X => (wpE_waitDma2_eq 𝒱₀ (d : Thread nD τ) none Set.univ X).trans (by rw [credit_chunk]))
    (expect_gs I d c).symm (by revert c; decide) hl) $$ Hx Hat Hc HO
  iintro Hp Hz HO
  ihave Hp := (Entails.of_eq (gs_pay I d c)) $$ Hp
  icases Hp with ⟨Hg, He⟩
  ihave Hg := (gP_half d c (gF I d)).1 $$ Hg
  icases Hg with ⟨HgA, HgB⟩
  iapply Hk $$ HgA HgB [He Hkeep] Hz HO
  iapply (Entails.of_eq (eChunk_eq I d c).symm)
  isplitl [He]; · iexact He
  iexact Hkeep

/-! ## The copies to the result -/

theorem credit_slot (off : Fin 3 → ℕ) (h : ∀ a, off a + S1x64x1024.size a ≤ S4x256x1024.size a) :
    (slotOf qM off h).view.dmaCredit = 8192 := rfl
theorem credit_out (off : Fin 2 → ℕ) (h : ∀ a, off a + S256x1024.size a ≤ S1024x1024.size a) :
    (outOf oM off h).view.dmaCredit = 32768 := rfl

theorem out_pay (d : Dev nD) (k : Fin 4) (f : S1024x1024.Idx → Elt F .f32) :
    iprop(((outOf oM (ooff (kslot d k)) (inb_o (kslot d k))).view.loc (d : Thread nD τ) ↦[(outOf oM (ooff (kslot d k)) (inb_o (kslot d k))).view.set]{fullShare}
      (outOf oM (ooff (kslot d k)) (inb_o (kslot d k))).view.write (Elt F) f
        ((quarterOf qM (soff (kslot d k)) (inb_s (kslot d k))).view.read (Elt F) (qF I d)) Finset.univ : sProp 𝕄)
      ∗ uP d (kslot d k) shA (qF I d)) ⊢ (Rd I).payload (cell d (at4 1 k)) 0 0 := by
  rw [payload_dm, quarter_lands]
  exact Entails.of_eq rfl

/-- A copy within the device: what it read and what it wrote become the payment. -/
theorem step_copy (K : GSem nD τ sig → ℕ) (d : Dev nD) (k : Fin 4)
    {src : Memref sig .tc .vmem S256x1024 .f32} {dst : Memref sig .tc .hbm S256x1024 .f32} {sem : DmaSem sig} (hs : sem = dm 1 k)
    {hsrc : src.view.WordExact} {hdst : dst.view.WordExact} {ht : DmaTarget.Typed (nD := nD) (p := (Proc.tc : Proc τ)) .vmem (.dma sem) (.here dst)} {q : PosShare TreeShare}
    (fs : Buf (Elt F) (src.view.loc (d : Thread nD τ))) (fd : Buf (Elt F) (dst.view.loc (d : Thread nD τ)))
    (hN : dst.view.dmaCredit = 32768)
    (hp : iprop((dst.view.loc (d : Thread nD τ) ↦[dst.view.set]{fullShare} (dst.view.write (Elt F) fd (src.view.read (Elt F) fs) Finset.univ) : sProp 𝕄)
      ∗ (src.view.loc (d : Thread nD τ) ↦[src.view.set]{q} fs)) ⊢ (Rd I).payload (cell d (at4 1 k)) 0 0)
    {kont : PUnit → PR F PUnit} {Q : PUnit → sProp 𝕄} :
    ⊢ ctx I K -∗ rdy d -∗ dutyTok ER (cell d (at4 1 k)) 0 0 -∗ (src.view.loc (d : Thread nD τ) ↦[src.view.set]{q} fs)
      -∗ (dst.view.loc (d : Thread nD τ) ↦[dst.view.set]{fullShare} fd)
      -∗ (cred (tallyAt (cell d (at4 1 k)) () 32768) -∗ run d (kont ⟨⟩) Q)
      -∗ run d (Prog.lift (.enqueueDma src (.here dst) (.dma sem) hsrc hdst ht) >>= kont) Q := by
  subst hs
  unfold ctx
  iintro ⟨#Hi, -⟩ #Hr Ht Hs Hd Hk
  iapply (Rounds.wp_copy_pointsTo 𝒱₀ ER (Rd I) (d : Thread nD τ) none (src := src)
    (dst := dst) (sem := .dma (dm 1 k)) (r := 0) (d := 0) (κ := K (cell d (at4 1 k)))
    (fs := fs) (fd := fd) (mem_dm I d 1 (by decide) k) () 32768 hN ((amount_eq I d (at4 1 k) 0 0).trans (amount_os k)) hp) $$ [Ht Hs Hd]
  · isplitr; · iapply (invsAll_at I K d (at4 1 k)); iexact Hi
    isplitl [Hs]; · iexact Hs
    isplitl [Hd]; · iexact Hd
    isplitl [Ht]; · iexact Ht
    iapply (rdy_at d (at4 1 k)); iexact Hr
  iexact Hk

/-- The copy of a quarter to the result. -/
theorem step_out (K : GSem nD τ sig → ℕ) (d : Dev nD) (k t : Fin 4) (ht : kslot d k = t) (off : Fin 3 → ℕ)
    (h : ∀ a, off a + S1x256x1024.size a ≤ S4x256x1024.size a) (off' : Fin 2 → ℕ)
    (h' : ∀ a, off' a + S256x1024.size a ≤ S1024x1024.size a) (e : off = soff t) (e' : off' = ooff t)
    (f : S1024x1024.Idx → Elt F .f32) {kont : PUnit → PR F PUnit} {Q : PUnit → sProp 𝕄} :
    ⊢ ctx I K -∗ rdy d -∗ dutyTok ER (cell d (at4 1 k)) 0 0
      -∗ qP d t 0 shA (qF I d) -∗ qP d t 1 shA (qF I d) -∗ qP d t 2 shA (qF I d) -∗ qP d t 3 shA (qF I d) -∗ oP d t f
      -∗ (cred (tallyAt (cell d (at4 1 k)) () 32768) -∗ run d (kont ⟨⟩) Q)
      -∗ run d (copyOut oM qM cc0_scratch4 k off h off' h' >>= kont) Q := by
  subst ht e e'
  have e1 : ((quarterOf qM (soff (kslot d k)) h).view.loc (d : Thread nD τ) ↦[(quarterOf qM (soff (kslot d k)) h).view.set]{shA} qF I d : sProp 𝕄)
      = iprop(qP d (kslot d k) 0 shA (qF I d) ∗ qP d (kslot d k) 1 shA (qF I d) ∗ qP d (kslot d k) 2 shA (qF I d) ∗ qP d (kslot d k) 3 shA (qF I d)) :=
    uP_eq d (kslot d k) shA (qF I d)
  have e2 : ((outOf oM (ooff (kslot d k)) h').view.loc (d : Thread nD τ) ↦[(outOf oM (ooff (kslot d k)) h').view.set]{fullShare} f : sProp 𝕄)
      = oP d (kslot d k) f := rfl
  unfold copyOut
  iintro #Hx #Hr Ht H0 H1 H2 H3 Ho Hk
  iapply (step_copy I K d k (src := quarterOf qM (soff (kslot d k)) h) (dst := outOf oM (ooff (kslot d k)) h') (sem_os k) (qF I d) f
    (credit_out _ _) (out_pay I d k f)) $$ Hx Hr Ht [H0 H1 H2 H3] [Ho] Hk
  · iapply (Entails.of_eq e1.symm)
    isplitl [H0]; · iexact H0
    isplitl [H1]; · iexact H1
    isplitl [H2]; · iexact H2
    iexact H3
  · iapply (Entails.of_eq e2.symm); iexact Ho

/-- The wait for the copy of a quarter to the result. -/
theorem step_owait (K : GSem nD τ sig → ℕ) (d : Dev nD) (k t : Fin 4) (ht : kslot d k = t) (off : Fin 3 → ℕ)
    (h : ∀ a, off a + S1x256x1024.size a ≤ S4x256x1024.size a) (off' : Fin 2 → ℕ)
    (h' : ∀ a, off' a + S256x1024.size a ≤ S1024x1024.size a) (l : List Owe)
    (hl : (l.all fun x => decide (0 < lvl (semAt x.2.1))) = true)
    {kont : PUnit → PR F PUnit} {Q : PUnit → sProp 𝕄} :
    ⊢ ctx I K -∗ atPos ER (cell d (at4 1 k)) 0 ∅ 0 -∗ cred (tallyAt (cell d (at4 1 k)) () 32768) -∗ ow d l
      -∗ (oP d t (oF I d) -∗ uP d t shA (qF I d) -∗ semVal (cell d (at4 1 k)) 0 -∗ ow d l -∗ run d (kont ⟨⟩) Q)
      -∗ run d (waitOut oM qM cc0_scratch4 k off h off' h' >>= kont) Q := by
  subst ht
  unfold waitOut
  iintro #Hx Hat Hc HO Hk
  iapply (step_dma I K d 1 k 0 32768 l (by decide) (sem_os k) (credit_out off' h') (amount_os k).symm (by revert k; decide) hl) $$ Hx Hat Hc HO
  iintro Hp Hz HO
  ihave Hp := (Entails.of_eq (show dmaPay I d (1 : Fin 10).val k 0 = iprop(oP d (kslot d k) (oF I d) ∗ uP d (kslot d k) shA (qF I d)) from rfl)) $$ Hp
  icases Hp with ⟨Ho, Hu⟩
  iapply Hk $$ Ho Hu Hz HO

/-! ## The sends -/

/-- The send of a gathered chunk to the peer. -/
theorem step_sendY (K : GSem nD τ sig → ℕ) (d p : Dev nD) (hp : p = yp d) (c : Fin 4) (l : List Owe) (f : S256x1024.Idx → Elt F .f32)
    {kont : PUnit → PR F PUnit} {Q : PUnit → sProp 𝕄} :
    ⊢ ctx I K -∗ rdy d -∗ rdy (yp d) -∗ gP d c shA (gF I d) -∗ rP (yp d) c fullShare f
      -∗ dutyTok ER (cell d (at4 2 c)) 0 0 -∗ dutyTok ER (cell (yp d) (at4 3 c)) 0 0 -∗ ow d ((yp d, at4 3 c, 8192) :: l)
      -∗ (cred (tallyAt (cell d (at4 2 c)) () 8192) -∗ ow d l -∗ run d (kont ⟨⟩) Q)
      -∗ run d (sendY gM rM cc0_scratch5 cc0_scratch6 p c >>= kont) Q := by
  have h1 : gP d c shA (gF I d) = dmaPay I d (2 : Fin 10).val c 0 := rfl
  have h2 : rP (yp d) c fullShare (gF I (yp (yp d))) = dmaPay I (yp d) (3 : Fin 10).val c 0 := rfl
  have h3 := Entails.of_eq ((chunk_lands I d c f).trans h2)
  unfold sendY
  iintro #Hx #Hr #Hr' Hs Hd Ht Ht' HO Hk
  iapply (step_send I K d (yp d) p 2 3 c l (src := chunkOf gM c) (dst := chunkOf rM c) hp (by decide) (by decide) (sem_ys c) (sem_yr c) (gF I d) f
    (credit_chunk rM c) (amount_big 2 c (by decide)) (amount_big 3 c (by decide)) (Entails.of_eq h1) h3) $$ Hx Hr Hr' [Hs] [Hd] Ht Ht' HO Hk
  · unfold gP; iexact Hs
  · unfold rP; iexact Hd

/-- The send of a selected chunk to a neighbour. -/
theorem step_sendQ (K : GSem nD τ sig → ℕ) (d p p' : Dev nD) (hp : p' = p) (f f' : Fin 10) (hf : 2 ≤ f) (hf' : 2 ≤ f')
    (s r : DmaSems sig S4) (c t : Fin 4) (hs : sem4 s c = dm f c) (hr : sem4 r c = dm f' c) (off : Fin 3 → ℕ)
    (h : ∀ a, off a + S1x64x1024.size a ≤ S4x256x1024.size a) (e : off = qoff t c) (l : List Owe) (q : PosShare TreeShare)
    (g : S4x256x1024.Idx → Elt F .f32)
    (h₁ : qP d t c q (qF I d) = dmaPay I d f.val c 0) (h₂ : qP p t c fullShare (qF I d) = dmaPay I p f'.val c 0)
    {kont : PUnit → PR F PUnit} {Q : PUnit → sProp 𝕄} :
    ⊢ ctx I K -∗ rdy d -∗ rdy p -∗ qP d t c q (qF I d) -∗ qP p t c fullShare g
      -∗ dutyTok ER (cell d (at4 f c)) 0 0 -∗ dutyTok ER (cell p (at4 f' c)) 0 0 -∗ ow d ((p, at4 f' c, 8192) :: l)
      -∗ (cred (tallyAt (cell d (at4 f c)) () 8192) -∗ ow d l -∗ run d (kont ⟨⟩) Q)
      -∗ run d (sendQ qM p' s r c off h >>= kont) Q := by
  subst e
  have hne : ∀ f : Fin 10, 2 ≤ f → f ≠ 0 := by decide
  have h3 := Entails.of_eq ((slot_lands p t c g (qF I d)).trans h₂)
  unfold sendQ
  iintro #Hx #Hr #Hr' Hs Hd Ht Ht' HO Hk
  iapply (step_send I K d p p' f f' c l (src := slotOf qM (qoff t c) h) (dst := slotOf qM (qoff t c) h) hp (hne f hf) (hne f' hf') hs hr (qF I d) g
    (credit_slot _ _) (amount_big f c hf) (amount_big f' c hf') (Entails.of_eq h₁) h3) $$ Hx Hr Hr' [Hs] [Hd] Ht Ht' HO Hk
  · unfold qP; iexact Hs
  · unfold qP; iexact Hd

/-- The wait for a copy of 64 rows of the quarters' buffer. -/
theorem step_qwait (K : GSem nD τ sig → ℕ) (d : Dev nD) (f : Fin 10) (hf : 2 ≤ f) (s : DmaSems sig S4) (c : Fin 4) (hs : sem4 s c = dm f c)
    (off : Fin 3 → ℕ) (h : ∀ a, off a + S1x64x1024.size a ≤ S4x256x1024.size a) (v : ℕ) (l : List Owe)
    (hv : lvl (semAt (at4 f c)) ≤ v) (hl : (l.all fun x => decide (v < lvl (semAt x.2.1))) = true)
    {kont : PUnit → PR F PUnit} {Q : PUnit → sProp 𝕄} :
    ⊢ ctx I K -∗ atPos ER (cell d (at4 f c)) 0 ∅ 0 -∗ cred (tallyAt (cell d (at4 f c)) () 8192) -∗ ow d l
      -∗ (dmaPay I d f.val c 0 -∗ semVal (cell d (at4 f c)) 0 -∗ ow d l -∗ run d (kont ⟨⟩) Q)
      -∗ run d (waitQ qM s c off h >>= kont) Q := by
  have hne : ∀ f : Fin 10, 2 ≤ f → f ≠ 0 := by decide
  unfold waitQ
  exact step_dma I K d f c v 8192 l (hne f hf) hs (credit_slot _ _) (amount_big f c hf).symm hv hl

/-- The wait for a copy of a chunk of 64 rows. -/
theorem step_cwait (K : GSem nD τ sig → ℕ) (d : Dev nD) (f : Fin 10) (hf : 2 ≤ f) (s : DmaSems sig S4) (c : Fin 4) (hs : sem4 s c = dm f c)
    (u w : Memref sig .tc .vmem S256x1024 .f32) (v : ℕ) (l : List Owe)
    (hv : lvl (semAt (at4 f c)) ≤ v) (hl : (l.all fun x => decide (v < lvl (semAt x.2.1))) = true)
    {kont : PUnit → PR F PUnit} {Q : PUnit → sProp 𝕄} :
    ⊢ ctx I K -∗ atPos ER (cell d (at4 f c)) 0 ∅ 0 -∗ cred (tallyAt (cell d (at4 f c)) () 8192) -∗ ow d l
      -∗ (dmaPay I d f.val c 0 -∗ semVal (cell d (at4 f c)) 0 -∗ ow d l -∗ run d (kont ⟨⟩) Q)
      -∗ run d (waitChunk s u w c >>= kont) Q := by
  have hne : ∀ f : Fin 10, 2 ≤ f → f ≠ 0 := by decide
  unfold waitChunk
  exact step_dma I K d f c v 8192 l (hne f hf) hs (credit_chunk _ _) (amount_big f c hf).symm hv hl

/-- The wait on a register semaphore for its three signals. -/
theorem step_rwait (K : GSem nD τ sig → ℕ) (d : Dev nD) (i : Fin 2) (s : Sem sig) (hs : s = i) (v : ℕ) (l : List Owe)
    (hv : lvl (semAt (.inl i)) ≤ v) (hl : (l.all fun x => decide (v < lvl (semAt x.2.1))) = true)
    {kont : PUnit → PR F PUnit} {Q : PUnit → sProp 𝕄} :
    ⊢ ctx I K -∗ atPos ER (cell d (.inl i)) 0 ∅ 0 -∗ cred (tallyAt (cell d (.inl i)) () 3) -∗ ow d l
      -∗ (bigSep ((Rd I).duties (cell d (.inl i)) 0) (fun j => (Rd I).payload (cell d (.inl i)) 0 j) -∗ semVal (cell d (.inl i)) 0 -∗ ow d l
        -∗ run d (kont ⟨⟩) Q)
      -∗ run d (semWaitWord s 3#32 >>= kont) Q := by
  subst hs
  exact step_wait I K d (.inl s) 3 v l (fun X => wpE_semWait_eq 𝒱₀ (d : Thread nD τ) none Set.univ X) (expect_reg I d s).symm hv hl

theorem reg_pays (d : Dev nD) (i : Fin 2) : bigSep ((Rd I).duties (cell d (.inl i)) 0) (fun j => (Rd I).payload (cell d (.inl i)) 0 j)
    = iprop((Rd I).payload (cell d (.inl i)) 0 0 ∗ (Rd I).payload (cell d (.inl i)) 0 1 ∗ (Rd I).payload (cell d (.inl i)) 0 2) := by
  rw [duties_reg]
  exact bigSep_eq_bigSepL_of_eq [0, 1, 2] (by decide) (by decide) _

/-! ## The selection -/

/-- What the selection's store leaves. -/
theorem stored (d : Dev nD) (c : Fin 4) (f : S4x256x1024.Idx → Elt F .f32) :
    (qM.view.loc (d : Thread nD τ) ↦[qS (rp d) c]{fullShare}
      (qM.access (Rect.unit (s := S4x256x1024) (qoff (rp d) c) S1x64x1024.size (inb_q (rp d) c))).write (Elt F) f
        (Gen.k0_pay1 ((mM.access (Rect.unit (s := S256x1) ![64 * c.val, 0] S64x1.size (inb_maskChunk c))).read (Elt F) (I.mv d))
          ((gM.access (Rect.unit (s := S256x1024) ![64 * c.val, 0] S64x1024.size (inb_chunk c))).read (Elt F) (gF I d))
          ((rM.access (Rect.unit (s := S256x1024) ![64 * c.val, 0] S64x1024.size (inb_chunk c))).read (Elt F) (gF I (yp d)))) Finset.univ : sProp 𝕄)
      = (qM.view.loc (d : Thread nD τ) ↦[qS (rp d) c]{fullShare} qF I d) := by
  refine pointsTo_congr (ℓ := qM.view.loc (d : Thread nD τ)) fun i hi => ?_
  exact store_lands I d c f _ _ _ rfl rfl rfl i ((set_access (rp d) c).symm ▸ hi)

/-- The selection of a chunk. -/
theorem step_combine (d : Dev nD) (c : Fin 4) (off : Fin 3 → ℕ)
    (h : ∀ a, off a + S1x64x1024.size a ≤ S4x256x1024.size a) (e : off = qoff (rp d) c)
    (f : S4x256x1024.Idx → Elt F .f32) {kont : PUnit → PR F PUnit} {Q : PUnit → sProp 𝕄} :
    ⊢ mAll I d -∗ gP d c shB (gF I d) -∗ rP d c fullShare (gF I (yp d)) -∗ qP d (rp d) c fullShare f
      -∗ (mAll I d -∗ gP d c shB (gF I d) -∗ rP d c fullShare (gF I (yp d)) -∗ qP d (rp d) c fullShare (qF I d) -∗ run d (kont ⟨⟩) Q)
      -∗ run d (combine mM gM rM qM c off h >>= kont) Q := by
  subst e
  unfold combine mAll
  rw [gP_eq, rP_eq, qP_eq, qP_eq]
  iintro Hm Hg Hr Hq Hk
  iapply (wp_load_rect 𝒱₀ (d : Thread nD τ) none Set.univ (m := mM) (r := Rect.unit (s := S256x1) ![64 * c.val, 0] S64x1.size (inb_maskChunk c))
    (S := Finset.univ) (Finset.subset_univ _)) $$ Hm
  iintro Hm
  iapply (wp_load_rect 𝒱₀ (d : Thread nD τ) none Set.univ (m := gM) (r := Rect.unit (s := S256x1024) ![64 * c.val, 0] S64x1024.size (inb_chunk c))
    (S := gS c) (set_g c).le) $$ Hg
  iintro Hg
  iapply (wp_load_rect 𝒱₀ (d : Thread nD τ) none Set.univ (m := rM) (r := Rect.unit (s := S256x1024) ![64 * c.val, 0] S64x1024.size (inb_chunk c))
    (S := gS c) (set_r c).le) $$ Hr
  iintro Hr
  iapply (wp_load_rect 𝒱₀ (d : Thread nD τ) none Set.univ (m := qM) (r := Rect.unit (s := S4x256x1024) (qoff (rp d) c) S1x64x1024.size h)
    (S := qS (rp d) c) (set_access (rp d) c).le) $$ Hq
  iintro Hq
  iapply (wp_store 𝒱₀ (d : Thread nD τ) none Set.univ (m := qM) (r := Rect.unit (s := S4x256x1024) (qoff (rp d) c) S1x64x1024.size h)
    (Mk := Finset.univ) (S := qS (rp d) c) (set_access (rp d) c).le) $$ Hq
  iintro Hq
  iapply Hk $$ Hm Hg Hr
  iapply (Entails.of_eq (stored I d c f)) $$ Hq

end Cert.KernelIdeal.V
-- ==== Proof.V.Chunks.lean ====
module

public import proofs.«01_k».proof.Proof.V.Copies

@[expose] public section

/-! # The body, chunk by chunk

For a chunk: the wait for its rows and their send to the peer; the wait for the peer's rows, the
selection, and the sends to the neighbours; the waits at the end. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F]

local notation "𝕄" => MT nD τ sig Unit (Elt F) ℕ UU ℕ

variable (I : Inp F)

/-- The levels of the copies' semaphores. -/
theorem lvl_of : ∀ (f : Fin 10) (c : Fin 4), lvl (semAt (at4 f c)) = (![0, 0, 0, 2, 0, 3, 0, 3, 0, 4] : Fin 10 → ℕ) f := by decide

/-- The device's place on its semaphore, a payment's token, the credit for a wait, the closed semaphore. -/
abbrev ps (d : Dev nD) (k : Ix) : sProp 𝕄 := atPos ER (cell d k) 0 ∅ 0
abbrev tk (d : Dev nD) (k : Ix) (j : D) : sProp 𝕄 := dutyTok ER (cell d k) 0 j
abbrev cr (d : Dev nD) (k : Ix) (n : ℕ) : sProp 𝕄 := cred (tallyAt (cell d k) () n)
abbrev zr (d : Dev nD) (k : Ix) : sProp 𝕄 := semVal (cell d k) 0

/-- What a chunk's send to the peer needs; what it leaves. -/
def inY (d : Dev nD) (c : Fin 4) : sProp 𝕄 := iprop(ps d (at4 0 c) ∗ tk d (at4 2 c) 0 ∗ tk (yp d) (at4 3 c) 0)
def outY (d : Dev nD) (c : Fin 4) : sProp 𝕄 :=
  iprop(gP d c shB (gF I d) ∗ eChunk I d c.val ∗ zr d (at4 0 c) ∗ cr d (at4 2 c) 8192)

/-- The wait for a chunk's rows, and their send to the peer. -/
theorem chunkY (K : GSem nD τ sig → ℕ) (d p : Dev nD) (hp : p = yp d) (c : Fin 4) (l : List Owe) (f : S256x1024.Idx → Elt F .f32)
    (hl : ((((yp d, at4 3 c, 8192) : Owe) :: l).all fun x => decide (0 < lvl (semAt x.2.1))) = true)
    {kont : PUnit → PR F PUnit} {Q : PUnit → sProp 𝕄} :
    ⊢ ctx I K -∗ rdy d -∗ rdy (yp d) -∗ inY d c -∗ cr d (at4 0 c) 8192 -∗ eKeep I d c -∗ rP (yp d) c fullShare f
      -∗ ow d ((yp d, at4 3 c, 8192) :: l)
      -∗ (outY I d c -∗ ow d l -∗ run d (kont ⟨⟩) Q)
      -∗ run d (waitGather eM gM cc0_scratch3 c >>= fun _ => sendY gM rM cc0_scratch5 cc0_scratch6 p c >>= kont) Q := by
  unfold inY outY ps tk cr zr
  iintro #Hx #Hr #Hr' ⟨Hat, Ht, Ht'⟩ Hc Hkeep HrP HO Hk
  iapply (step_gwait I K d c _ hl) $$ Hx Hat Hc HO Hkeep
  iintro HA HB He Hz HO
  iapply (step_sendY I K d p hp c l f) $$ Hx Hr Hr' HA HrP Ht Ht' HO
  iintro Hc HO
  iapply Hk $$ [HB He Hz Hc] HO
  iframe

/-- What a chunk's selection needs; what it leaves. -/
def inQ (d : Dev nD) (c : Fin 4) : sProp 𝕄 :=
  iprop(ps d (at4 3 c) ∗ cr d (at4 3 c) 8192 ∗ tk d (at4 4 c) 0 ∗ tk (right d) (at4 5 c) 0 ∗ tk d (at4 6 c) 0 ∗ tk (left d) (at4 7 c) 0)
def outQ (d : Dev nD) (c : Fin 4) : sProp 𝕄 :=
  iprop(gP d c shB (gF I d) ∗ rP d c fullShare (gF I (yp d)) ∗ qP d (rp d) c shA (qF I d) ∗ zr d (at4 3 c)
    ∗ cr d (at4 4 c) 8192 ∗ cr d (at4 6 c) 8192)

/-- The wait for the peer's rows of a chunk, the selection, the sends to both neighbours. -/
theorem chunkQ (K : GSem nD τ sig → ℕ) (d p p' : Dev nD) (hp : p = right d) (hp' : p' = left d) (c : Fin 4) (l : List Owe)
    (f g g' : S4x256x1024.Idx → Elt F .f32)
    (off : Fin 3 → Nat) (h : ∀ a, off a + S1x64x1024.size a ≤ S4x256x1024.size a) (e : off = qoff (rp d) c)
    (off' : Fin 3 → Nat) (h' : ∀ a, off' a + S1x64x1024.size a ≤ S4x256x1024.size a) (e' : off' = qoff (rp d) c)
    (hl : ((((right d, at4 5 c, 8192) : Owe) :: (left d, at4 7 c, 8192) :: l).all fun x => decide (2 < lvl (semAt x.2.1))) = true)
    {kont : PUnit → PR F PUnit} {Q : PUnit → sProp 𝕄} :
    ⊢ ctx I K -∗ rdy d -∗ rdy (right d) -∗ rdy (left d) -∗ inQ d c -∗ mAll I d -∗ gP d c shB (gF I d) -∗ qP d (rp d) c fullShare f
      -∗ qP (right d) (rp d) c fullShare g -∗ qP (left d) (rp d) c fullShare g'
      -∗ ow d ((right d, at4 5 c, 8192) :: (left d, at4 7 c, 8192) :: l)
      -∗ (mAll I d -∗ outQ I d c -∗ ow d l -∗ run d (kont ⟨⟩) Q)
      -∗ run d (waitChunk cc0_scratch6 gM rM c >>= fun _ => combine mM gM rM qM c off h >>= fun _ =>
          sendQ qM p cc0_scratch7 cc0_scratch8 c off' h' >>= fun _ => sendQ qM p' cc0_scratch9 cc0_scratch10 c off' h' >>= kont) Q := by
  have h1 : qP d (rp d) c shBL (qF I d) = dmaPay I d (4 : Fin 10).val c 0 := rfl
  have h2 : qP (right d) (rp d) c fullShare (qF I d) = dmaPay I (right d) (5 : Fin 10).val c 0 := by
    rw [← qF_right I d]; exact congrArg (fun t => qP (right d) t c fullShare (qF I (right d))) (lt_right d).symm
  have h3 : qP d (rp d) c shBR (qF I d) = dmaPay I d (6 : Fin 10).val c 0 := rfl
  have h4 : qP (left d) (rp d) c fullShare (qF I d) = dmaPay I (left d) (7 : Fin 10).val c 0 := by
    rw [← qF_left I d]; exact congrArg (fun t => qP (left d) t c fullShare (qF I (left d))) (rt_left d).symm
  have h5 : dmaPay I d (3 : Fin 10).val c 0 = rP d c fullShare (gF I (yp d)) := rfl
  unfold inQ outQ ps tk cr zr
  iintro #Hx #Hr #HrR #HrL ⟨Hat, Hc, Ht, HtR, Ht', HtL⟩ Hm Hg Hq HqR HqL HO Hk
  iapply (step_cwait I K d 3 (by decide) cc0_scratch6 c (sem_yr c) gM rM 2 _ (lvl_of 3 c).le hl) $$ Hx Hat Hc HO
  iintro HrP Hz HO
  ihave HrP := (Entails.of_eq h5) $$ HrP
  iapply (step_combine I d c off h e f) $$ Hm Hg HrP Hq
  iintro Hm Hg HrP Hq
  ihave Hq := (qP_half d (rp d) c (qF I d)).1 $$ Hq
  icases Hq with ⟨HA, HB⟩
  ihave HB := (qP_quart d (rp d) c (qF I d)).1 $$ HB
  icases HB with ⟨HBL, HBR⟩
  iapply (step_sendQ I K d (right d) p hp 4 5 (by decide) (by decide) cc0_scratch7 cc0_scratch8 c (rp d) (sem_rs c) (sem_rr c) off' h' e' _
    shBL g h1 h2) $$ Hx Hr HrR HBL HqR Ht HtR HO
  iintro Hc4 HO
  iapply (step_sendQ I K d (left d) p' hp' 6 7 (by decide) (by decide) cc0_scratch9 cc0_scratch10 c (rp d) (sem_ls c) (sem_lr c) off' h' e' _
    shBR g' h3 h4) $$ Hx Hr HrL HBR HqL Ht' HtL HO
  iintro Hc6 HO
  iapply Hk $$ Hm [Hg HrP HA Hz Hc4 Hc6] HO
  iframe

/-- What a chunk's waits at the end need; what they leave. -/
def inE (d : Dev nD) (c : Fin 4) : sProp 𝕄 :=
  iprop((ps d (at4 2 c) ∗ cr d (at4 2 c) 8192) ∗ (ps d (at4 4 c) ∗ cr d (at4 4 c) 8192) ∗ (ps d (at4 6 c) ∗ cr d (at4 6 c) 8192)
    ∗ ps d (at4 8 c) ∗ cr d (at4 8 c) 8192)
def outE (d : Dev nD) (c : Fin 4) : sProp 𝕄 :=
  iprop((gP d c shA (gF I d) ∗ zr d (at4 2 c)) ∗ (qP d (rp d) c shB (qF I d) ∗ zr d (at4 4 c) ∗ zr d (at4 6 c))
    ∗ qP d (slot2 d c) c shB (qF I d) ∗ zr d (at4 8 c))

/-- The waits for a chunk's sends. -/
theorem chunkE (K : GSem nD τ sig → ℕ) (d : Dev nD) (c : Fin 4) (l : List Owe)
    (off off' : Fin 3 → Nat) (h : ∀ a, off a + S1x64x1024.size a ≤ S4x256x1024.size a)
    (h' : ∀ a, off' a + S1x64x1024.size a ≤ S4x256x1024.size a)
    (hl : (l.all fun x => decide (0 < lvl (semAt x.2.1))) = true)
    {kont : PUnit → PR F PUnit} {Q : PUnit → sProp 𝕄} :
    ⊢ ctx I K -∗ inE d c -∗ ow d l
      -∗ (outE I d c -∗ ow d l -∗ run d (kont ⟨⟩) Q)
      -∗ run d (waitChunk cc0_scratch5 rM gM c >>= fun _ => waitQ qM cc0_scratch7 c off h >>= fun _ =>
          waitQ qM cc0_scratch9 c off h >>= fun _ => waitQ qM cc0_scratch11 c off' h' >>= kont) Q := by
  have h2 : dmaPay I d (2 : Fin 10).val c 0 = gP d c shA (gF I d) := rfl
  have h4 : dmaPay I d (4 : Fin 10).val c 0 = qP d (rp d) c shBL (qF I d) := rfl
  have h6 : dmaPay I d (6 : Fin 10).val c 0 = qP d (rp d) c shBR (qF I d) := rfl
  have h8 : dmaPay I d (8 : Fin 10).val c 0 = qP d (slot2 d c) c shB (qF I d) := rfl
  unfold inE outE ps cr zr
  iintro #Hx ⟨⟨Ha2, Hc2⟩, ⟨Ha4, Hc4⟩, ⟨Ha6, Hc6⟩, Ha8, Hc8⟩ HO Hk
  iapply (step_cwait I K d 2 (by decide) cc0_scratch5 c (sem_ys c) rM gM 0 _ (lvl_of 2 c).le hl) $$ Hx Ha2 Hc2 HO
  iintro Hg Hz2 HO
  ihave Hg := (Entails.of_eq h2) $$ Hg
  iapply (step_qwait I K d 4 (by decide) cc0_scratch7 c (sem_rs c) off h 0 _ (lvl_of 4 c).le hl) $$ Hx Ha4 Hc4 HO
  iintro HL Hz4 HO
  ihave HL := (Entails.of_eq h4) $$ HL
  iapply (step_qwait I K d 6 (by decide) cc0_scratch9 c (sem_ls c) off h 0 _ (lvl_of 6 c).le hl) $$ Hx Ha6 Hc6 HO
  iintro HR Hz6 HO
  ihave HR := (Entails.of_eq h6) $$ HR
  iapply (step_qwait I K d 8 (by decide) cc0_scratch11 c (sem_2s c) off' h' 0 _ (lvl_of 8 c).le hl) $$ Hx Ha8 Hc8 HO
  iintro H8 Hz8 HO
  ihave H8 := (Entails.of_eq h8) $$ H8
  iapply Hk $$ [Hg Hz2 HL HR Hz4 Hz6 H8 Hz8] HO
  isplitl [Hg Hz2]; · iframe
  isplitl [HL HR Hz4 Hz6]
  · isplitl [HL HR]
    · iapply (qP_quart d (rp d) c (qF I d)).2
      iframe
    iframe
  iframe

end Cert.KernelIdeal.V
-- ==== Proof.V.Phases.lean ====
module

public import proofs.«01_k».proof.Proof.V.Chunks

@[expose] public section

/-! # The phases of the body

What each of the body's four parts needs and leaves. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F]

local notation "𝕄" => MT nD τ sig Unit (Elt F) ℕ UU ℕ

variable (I : Inp F)

/-! ## What is owed, from each phase on -/

abbrev oweE (d : Dev nD) : List Owe := [(yp d, ext, 1), (right d, ext, 1), (left d, ext, 1)]
abbrev oweR (d : Dev nD) : List Owe :=
  (right d, at4 9 0, 8192) :: (right d, at4 9 1, 8192) :: (left d, at4 9 2, 8192) :: (left d, at4 9 3, 8192) :: oweE d
abbrev oweQ (d : Dev nD) : List Owe :=
  (right d, at4 5 0, 8192) :: (left d, at4 7 0, 8192) :: (right d, at4 5 1, 8192) :: (left d, at4 7 1, 8192)
    :: (right d, at4 5 2, 8192) :: (left d, at4 7 2, 8192) :: (right d, at4 5 3, 8192) :: (left d, at4 7 3, 8192) :: oweR d
abbrev oweS (d : Dev nD) : List Owe :=
  (yp d, at4 3 0, 8192) :: (yp d, at4 3 1, 8192) :: (yp d, at4 3 2, 8192) :: (yp d, at4 3 3, 8192) :: oweQ d
abbrev oweY (d : Dev nD) : List Owe := (yp d, bar, 1) :: (right d, bar, 1) :: (left d, bar, 1) :: oweS d

theorem qAll_cut (d : Dev nD) (f : S4x256x1024.Idx → Elt F .f32) :
    qAll d f = iprop(uP d (rp d) fullShare f ∗ uP d (rt d) fullShare f ∗ uP d (op d) fullShare f ∗ uP d (lt d) fullShare f) := qAll_eq d (rp d) f
theorem oAll_cut (d : Dev nD) (f : S1024x1024.Idx → Elt F .f32) :
    oAll d f = iprop(oP d (rp d) f ∗ oP d (rt d) f ∗ oP d (op d) f ∗ oP d (lt d) f) := oAll_eq d (rp d) f
theorem eAll_cut (d : Dev nD) : eAll I d
    ⊣⊢ iprop(eDrop I d ∗ eChunk I d (0 : Fin 4).val ∗ eChunk I d (1 : Fin 4).val ∗ eChunk I d (2 : Fin 4).val ∗ eChunk I d (3 : Fin 4).val) := eAll_eq I d

/-! ## The barrier -/

/-- The neighbours' places that device `d` writes. -/
def nR (d : Dev nD) : sProp 𝕄 :=
  iprop(∃ f, qP (right d) (rp d) 0 fullShare f ∗ qP (right d) (rp d) 1 fullShare f ∗ qP (right d) (rp d) 2 fullShare f
      ∗ qP (right d) (rp d) 3 fullShare f ∗ qP (right d) (lt d) 0 fullShare f ∗ qP (right d) (lt d) 1 fullShare f)
def nL (d : Dev nD) : sProp 𝕄 :=
  iprop(∃ f, qP (left d) (rp d) 0 fullShare f ∗ qP (left d) (rp d) 1 fullShare f ∗ qP (left d) (rp d) 2 fullShare f
      ∗ qP (left d) (rp d) 3 fullShare f ∗ qP (left d) (rt d) 2 fullShare f ∗ qP (left d) (rt d) 3 fullShare f)
def nY (d : Dev nD) : sProp 𝕄 :=
  iprop(∃ f, rP (yp d) 0 fullShare f ∗ rP (yp d) 1 fullShare f ∗ rP (yp d) 2 fullShare f ∗ rP (yp d) 3 fullShare f)

theorem bar_gets (d : Dev nD) : bigSep ((Rd I).duties (cell d bar) 0) (fun j => (Rd I).payload (cell d bar) 0 j)
    = iprop((nY d ∗ rdy (yp d)) ∗ (nL d ∗ rdy (left d)) ∗ (nR d ∗ rdy (right d))) := reg_pays I d 0

theorem bar_yp (d : Dev nD) : (Rd I).payload (cell (yp d) bar) 0 0
    = iprop((∃ f, rP d 0 fullShare f ∗ rP d 1 fullShare f ∗ rP d 2 fullShare f ∗ rP d 3 fullShare f) ∗ rdy d) :=
  (show _ = iprop(nY (yp d) ∗ rdy (yp (yp d))) from rfl).trans (by unfold nY; rw [yp_yp])

theorem rp_right (d : Dev nD) : rp (right d) = rt d := by revert d; decide
theorem rt_right (d : Dev nD) : rt (right d) = op d := by revert d; decide
theorem rp_left (d : Dev nD) : rp (left d) = lt d := by revert d; decide
theorem lt_left (d : Dev nD) : lt (left d) = op d := by revert d; decide

theorem bar_right (d : Dev nD) : (Rd I).payload (cell (right d) bar) 0 1
    = iprop((∃ f, qP d (rt d) 0 fullShare f ∗ qP d (rt d) 1 fullShare f ∗ qP d (rt d) 2 fullShare f
      ∗ qP d (rt d) 3 fullShare f ∗ qP d (op d) 2 fullShare f ∗ qP d (op d) 3 fullShare f) ∗ rdy d) :=
  (show _ = iprop(nL (right d) ∗ rdy (left (right d))) from rfl).trans (by unfold nL; rw [left_right, rp_right, rt_right])

theorem bar_left (d : Dev nD) : (Rd I).payload (cell (left d) bar) 0 2
    = iprop((∃ f, qP d (lt d) 0 fullShare f ∗ qP d (lt d) 1 fullShare f ∗ qP d (lt d) 2 fullShare f
      ∗ qP d (lt d) 3 fullShare f ∗ qP d (op d) 0 fullShare f ∗ qP d (op d) 1 fullShare f) ∗ rdy d) :=
  (show _ = iprop(nR (left d) ∗ rdy (right (left d))) from rfl).trans (by unfold nR; rw [right_left, rp_left, lt_left])

/-- What the handshake needs of a device. -/
def inB (d : Dev nD) (k : Ix) : sProp 𝕄 := iprop(ps d k ∗ cr d k 3 ∗ tk (yp d) k 0 ∗ tk (right d) k 1 ∗ tk (left d) k 2)

theorem mem_dev (j : D) (h : j ∈ ({0, 1, 2} : Finset D)) : j ∈ ({0, 1, 2} : Finset D) := h

/-- The barrier: the device gives its landing places to those who will write them, and gets theirs. -/
theorem step_bar (K : GSem nD τ sig → ℕ) (d p₁ p₂ p₃ : Dev nD) (h₁ : p₁ = yp d) (h₂ : p₂ = right d) (h₃ : p₃ = left d)
    (fr : S256x1024.Idx → Elt F .f32) (fq : S4x256x1024.Idx → Elt F .f32)
    {kont : PUnit → PR F PUnit} {Q : PUnit → sProp 𝕄} :
    ⊢ ctx I K -∗ rdy d -∗ (reached ER (cell (yp d) bar) 0 ∗ reached ER (cell (right d) bar) 0 ∗ reached ER (cell (left d) bar) 0) -∗ rAll d fr -∗ qAll d fq -∗ inB d bar -∗ ow d (oweY d)
      -∗ ((rdy (yp d) ∗ rdy (right d) ∗ rdy (left d)) -∗ uP d (rp d) fullShare fq -∗ nY d -∗ nL d -∗ nR d -∗ zr d bar -∗ ow d (oweS d) -∗ run d (kont ⟨⟩) Q)
      -∗ run d (semSignalWord p₁ barSem 1#32 >>= fun _ => semSignalWord p₂ barSem 1#32 >>= fun _ => semSignalWord p₃ barSem 1#32 >>= fun _ =>
          semWaitWord barSem 3#32 >>= kont) Q := by
  unfold inB ps tk cr zr
  iintro #Hx #Hr ⟨#HrY, #HrR, #HrL⟩ HrA HqA ⟨Hat, Hc, Ht0, Ht1, Ht2⟩ HO Hk
  ihave HrA := (Entails.of_eq (rAll_eq d fr)) $$ HrA
  ihave HqA := (Entails.of_eq (qAll_cut d fq)) $$ HqA
  icases HqA with ⟨Hq0, Hq1, Hq2, Hq3⟩
  ihave Hq1 := (Entails.of_eq (uP_eq d (rt d) fullShare fq)) $$ Hq1
  ihave Hq2 := (Entails.of_eq (uP_eq d (op d) fullShare fq)) $$ Hq2
  ihave Hq3 := (Entails.of_eq (uP_eq d (lt d) fullShare fq)) $$ Hq3
  icases Hq1 with ⟨Ha0, Ha1, Ha2, Ha3⟩
  icases Hq2 with ⟨Hb0, Hb1, Hb2, Hb3⟩
  icases Hq3 with ⟨Hc0, Hc1, Hc2, Hc3⟩
  iapply (step_sig I K d (yp d) p₁ 0 barSem 0 _ h₁ sem_bar (by decide)) $$ Hx HrY Ht0 [HrA] HO
  · iapply (Entails.of_eq (bar_yp I d).symm)
    isplitl; · iexists fr; iexact HrA
    iexact Hr
  iintro HO
  iapply (step_sig I K d (right d) p₂ 0 barSem 1 _ h₂ sem_bar (by decide)) $$ Hx HrR Ht1 [Ha0 Ha1 Ha2 Ha3 Hb2 Hb3] HO
  · iapply (Entails.of_eq (bar_right I d).symm)
    isplitl; · iexists fq; iframe
    iexact Hr
  iintro HO
  iapply (step_sig I K d (left d) p₃ 0 barSem 2 _ h₃ sem_bar (by decide)) $$ Hx HrL Ht2 [Hc0 Hc1 Hc2 Hc3 Hb0 Hb1] HO
  · iapply (Entails.of_eq (bar_left I d).symm)
    isplitl; · iexists fq; iframe
    iexact Hr
  iintro HO
  iapply (step_rwait I K d 0 barSem sem_bar 1 _ (by decide) rfl) $$ Hx Hat Hc HO
  iintro Hp Hz HO
  ihave Hp := (Entails.of_eq (bar_gets I d)) $$ Hp
  icases Hp with ⟨⟨HY, #HrY'⟩, ⟨HL, #HrL'⟩, HR, #HrR'⟩
  iapply Hk $$ [] Hq0 HY HL HR Hz HO
  isplitr; · iexact HrY'
  isplitr; · iexact HrR'
  iexact HrL'

/-! ## The first phase -/

/-- What the first phase leaves of a chunk. -/
def midY (d : Dev nD) (c : Fin 4) : sProp 𝕄 := iprop(gP d c shB (gF I d) ∗ zr d (at4 0 c) ∗ cr d (at4 2 c) 8192)

theorem phaseY_run (K : GSem nD τ sig → ℕ) (d : Dev nD) (fg fr : S256x1024.Idx → Elt F .f32) (fq : S4x256x1024.Idx → Elt F .f32)
    {kont : PUnit → PR F PUnit} {Q : PUnit → sProp 𝕄} :
    ⊢ ctx I K -∗ rdy d -∗ (reached ER (cell (yp d) bar) 0 ∗ reached ER (cell (right d) bar) 0 ∗ reached ER (cell (left d) bar) 0) -∗ sAll I d -∗ eAll I d -∗ gAll d fg -∗ rAll d fr -∗ qAll d fq
      -∗ (gTok d 0 ∗ gTok d 1 ∗ gTok d 2 ∗ gTok d 3) -∗ (inY d 0 ∗ inY d 1 ∗ inY d 2 ∗ inY d 3) -∗ inB d bar -∗ ow d (oweY d)
      -∗ ((rdy (yp d) ∗ rdy (right d) ∗ rdy (left d)) -∗ sAll I d -∗ eAll I d -∗ (midY I d 0 ∗ midY I d 1 ∗ midY I d 2 ∗ midY I d 3)
          -∗ uP d (rp d) fullShare fq -∗ nL d -∗ nR d -∗ zr d bar -∗ ow d (oweQ d) -∗ run d (kont ⟨⟩) Q)
      -∗ run d (phaseY sM eM gM rM cc0_scratch3 cc0_scratch5 cc0_scratch6 d >>= kont) Q := by
  unfold phaseY
  simp only [bind_assoc]
  iintro #Hx #Hr #Hrs Hs He Hg HrA HqA ⟨Ht0, Ht1, Ht2, Ht3⟩ ⟨Hi0, Hi1, Hi2, Hi3⟩ HB HO Hk
  ihave He := (eAll_cut I d).1 $$ He
  icases He with ⟨HeD, He0, He1, He2, He3⟩
  ihave Hg := (Entails.of_eq (gAll_eq d fg)) $$ Hg
  icases Hg with ⟨Hg0, Hg1, Hg2, Hg3⟩
  iapply (step_gather I K d 0 fg) $$ Hx Hr Hs Ht0 Hg0 He0
  iintro Hs Hk0 Hc0
  iapply (step_bar I K d _ _ _ (dev1 d) (dev2 d) (dev3 d) fr fq) $$ Hx Hr Hrs HrA HqA HB HO
  iintro ⟨#HrY, #HrR, #HrL⟩ Hq HY HL HR Hzb HO
  unfold nY
  icases HY with ⟨%f, Hy0, Hy1, Hy2, Hy3⟩
  iapply (step_gather I K d 1 fg) $$ Hx Hr Hs Ht1 Hg1 He1
  iintro Hs Hk1 Hc1
  iapply (chunkY I K d _ (dev4 d) 0 _ f rfl) $$ Hx Hr HrY Hi0 Hc0 Hk0 Hy0 HO
  iintro Ho0 HO
  iapply (step_gather I K d 2 fg) $$ Hx Hr Hs Ht2 Hg2 He2
  iintro Hs Hk2 Hc2
  iapply (chunkY I K d _ (dev5 d) 1 _ f rfl) $$ Hx Hr HrY Hi1 Hc1 Hk1 Hy1 HO
  iintro Ho1 HO
  iapply (step_gather I K d 3 fg) $$ Hx Hr Hs Ht3 Hg3 He3
  iintro Hs Hk3 Hc3
  iapply (chunkY I K d _ (dev6 d) 2 _ f rfl) $$ Hx Hr HrY Hi2 Hc2 Hk2 Hy2 HO
  iintro Ho2 HO
  iapply (chunkY I K d _ (dev7 d) 3 _ f rfl) $$ Hx Hr HrY Hi3 Hc3 Hk3 Hy3 HO
  iintro Ho3 HO
  unfold outY midY
  icases Ho0 with ⟨Hg0, He0, Hz0, Hc0⟩
  icases Ho1 with ⟨Hg1, He1, Hz1, Hc1⟩
  icases Ho2 with ⟨Hg2, He2, Hz2, Hc2⟩
  icases Ho3 with ⟨Hg3, He3, Hz3, Hc3⟩
  iapply Hk $$ [] Hs [HeD He0 He1 He2 He3] [Hg0 Hz0 Hc0 Hg1 Hz1 Hc1 Hg2 Hz2 Hc2 Hg3 Hz3 Hc3] Hq HL HR Hzb HO
  · isplitr; · iexact HrY
    isplitr; · iexact HrR
    iexact HrL
  · iapply (eAll_cut I d).2
    isplitl [HeD]; · iexact HeD
    isplitl [He0]; · iexact He0
    isplitl [He1]; · iexact He1
    isplitl [He2]; · iexact He2
    iexact He3
  · iframe

end Cert.KernelIdeal.V
-- ==== Proof.V.Rounds2.lean ====
module

public import proofs.«01_k».proof.Proof.V.Phases

@[expose] public section

/-! # The ring's two rounds, and the end

The selections with their sends, the second round with the copies to the result, the last waits, and
the whole body. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F]

local notation "𝕄" => MT nD τ sig Unit (Elt F) ℕ UU ℕ

variable (I : Inp F)

/-! ## The selections -/

/-- The neighbours' places of the second round. -/
def nR2 (d : Dev nD) : sProp 𝕄 := iprop(∃ f, qP (right d) (lt d) 0 fullShare f ∗ qP (right d) (lt d) 1 fullShare f)
def nL2 (d : Dev nD) : sProp 𝕄 := iprop(∃ f, qP (left d) (rt d) 2 fullShare f ∗ qP (left d) (rt d) 3 fullShare f)

theorem phaseQ_run (K : GSem nD τ sig → ℕ) (d : Dev nD) (fq : S4x256x1024.Idx → Elt F .f32)
    {kont : PUnit → PR F PUnit} {Q : PUnit → sProp 𝕄} :
    ⊢ ctx I K -∗ rdy d -∗ (rdy (yp d) ∗ rdy (right d) ∗ rdy (left d)) -∗ mAll I d
      -∗ (gP d 0 shB (gF I d) ∗ gP d 1 shB (gF I d) ∗ gP d 2 shB (gF I d) ∗ gP d 3 shB (gF I d))
      -∗ uP d (rp d) fullShare fq -∗ nL d -∗ nR d -∗ (inQ d 0 ∗ inQ d 1 ∗ inQ d 2 ∗ inQ d 3) -∗ ow d (oweQ d)
      -∗ (mAll I d -∗ (outQ I d 0 ∗ outQ I d 1 ∗ outQ I d 2 ∗ outQ I d 3) -∗ nL2 d -∗ nR2 d -∗ ow d (oweR d) -∗ run d (kont ⟨⟩) Q)
      -∗ run d (phaseQ mM gM rM qM cc0_scratch6 cc0_scratch7 cc0_scratch8 cc0_scratch9 cc0_scratch10 d >>= kont) Q := by
  unfold phaseQ nL nR nL2 nR2
  simp only [bind_assoc]
  iintro #Hx #Hr ⟨-, #HrR, #HrL⟩ Hm ⟨Hg0, Hg1, Hg2, Hg3⟩ Hq ⟨%fl, Hl0, Hl1, Hl2, Hl3, Hl4, Hl5⟩ ⟨%fr, Hr0, Hr1, Hr2, Hr3, Hr4, Hr5⟩
    ⟨Hi0, Hi1, Hi2, Hi3⟩ HO Hk
  ihave Hq := (Entails.of_eq (uP_eq d (rp d) fullShare fq)) $$ Hq
  icases Hq with ⟨Hq0, Hq1, Hq2, Hq3⟩
  iapply (chunkQ I K d _ _ (dev8 d) (dev9 d) 0 _ fq fr fl _ _ (off257 d) _ _ (off258 d) rfl) $$ Hx Hr HrR HrL Hi0 Hm Hg0 Hq0 Hr0 Hl0 HO
  iintro Hm Ho0 HO
  iapply (chunkQ I K d _ _ (dev10 d) (dev11 d) 1 _ fq fr fl _ _ (off259 d) _ _ (off260 d) rfl) $$ Hx Hr HrR HrL Hi1 Hm Hg1 Hq1 Hr1 Hl1 HO
  iintro Hm Ho1 HO
  iapply (chunkQ I K d _ _ (dev12 d) (dev13 d) 2 _ fq fr fl _ _ (off261 d) _ _ (off262 d) rfl) $$ Hx Hr HrR HrL Hi2 Hm Hg2 Hq2 Hr2 Hl2 HO
  iintro Hm Ho2 HO
  iapply (chunkQ I K d _ _ (dev14 d) (dev15 d) 3 _ fq fr fl _ _ (off263 d) _ _ (off264 d) rfl) $$ Hx Hr HrR HrL Hi3 Hm Hg3 Hq3 Hr3 Hl3 HO
  iintro Hm Ho3 HO
  iapply Hk $$ Hm [Ho0 Ho1 Ho2 Ho3] [Hl4 Hl5] [Hr4 Hr5] HO
  · iframe
  · iexists fl; iframe
  · iexists fr; iframe

/-! ## The second round -/

/-- Where a chunk goes in the second round. -/
def dst2 (d : Dev nD) (c : Fin 4) : Dev nD := if c.val < 2 then right d else left d

/-- What the second round needs for a chunk; what it leaves. -/
def inR (d : Dev nD) (c : Fin 4) : sProp 𝕄 :=
  iprop((ps d (at4 5 c) ∗ cr d (at4 5 c) 8192) ∗ (ps d (at4 7 c) ∗ cr d (at4 7 c) 8192) ∗ (ps d (at4 9 c) ∗ cr d (at4 9 c) 8192)
    ∗ tk d (at4 8 c) 0 ∗ tk (dst2 d c) (at4 9 c) 0 ∗ tk d (at4 1 c) 0)
def outR (d : Dev nD) (c : Fin 4) : sProp 𝕄 :=
  iprop(zr d (at4 5 c) ∗ zr d (at4 7 c) ∗ zr d (at4 9 c) ∗ cr d (at4 8 c) 8192 ∗ cr d (at4 1 c) 32768)
/-- The halves of the neighbours' quarters that are not passed on, and of the opposite quarter. -/
def keepR (d : Dev nD) : sProp 𝕄 :=
  iprop((qP d (lt d) 2 shB (qF I d) ∗ qP d (lt d) 3 shB (qF I d)) ∗ (qP d (rt d) 0 shB (qF I d) ∗ qP d (rt d) 1 shB (qF I d))
    ∗ qP d (op d) 0 shB (qF I d) ∗ qP d (op d) 1 shB (qF I d) ∗ qP d (op d) 2 shB (qF I d) ∗ qP d (op d) 3 shB (qF I d))

/-- The wait for a chunk that a neighbour sends: it comes in two halves. -/
theorem step_rr (K : GSem nD τ sig → ℕ) (d : Dev nD) (f : Fin 10) (hf : 2 ≤ f) (s : DmaSems sig S4) (c t : Fin 4) (hs : sem4 s c = dm f c)
    (off : Fin 3 → ℕ) (h : ∀ a, off a + S1x64x1024.size a ≤ S4x256x1024.size a) (v : ℕ) (l : List Owe)
    (hv : lvl (semAt (at4 f c)) ≤ v) (hp : dmaPay I d f.val c 0 = qP d t c fullShare (qF I d))
    (hl : (l.all fun x => decide (v < lvl (semAt x.2.1))) = true)
    {kont : PUnit → PR F PUnit} {Q : PUnit → sProp 𝕄} :
    ⊢ ctx I K -∗ ps d (at4 f c) -∗ cr d (at4 f c) 8192 -∗ ow d l
      -∗ (qP d t c shA (qF I d) -∗ qP d t c shB (qF I d) -∗ zr d (at4 f c) -∗ ow d l -∗ run d (kont ⟨⟩) Q)
      -∗ run d (waitQ qM s c off h >>= kont) Q := by
  iintro #Hx Hat Hc HO Hk
  iapply (step_qwait I K d f hf s c hs off h v l hv hl) $$ Hx Hat Hc HO
  iintro Hq Hz HO
  ihave Hq := (Entails.of_eq hp) $$ Hq
  ihave Hq := (qP_half d t c (qF I d)).1 $$ Hq
  icases Hq with ⟨HA, HB⟩
  iapply Hk $$ HA HB Hz HO

theorem to_right (d : Dev nD) (c : Fin 4) : qP (right d) (lt d) c fullShare (qF I d) = dmaPay I (right d) (9 : Fin 10).val c 0 := by
  rw [← qF_right I d]; exact congrArg (fun t => qP (right d) t c fullShare (qF I (right d))) (op_right d).symm
theorem to_left (d : Dev nD) (c : Fin 4) : qP (left d) (rt d) c fullShare (qF I d) = dmaPay I (left d) (9 : Fin 10).val c 0 := by
  rw [← qF_left I d]; exact congrArg (fun t => qP (left d) t c fullShare (qF I (left d))) (op_left d).symm

set_option maxHeartbeats 1000000 in
theorem phaseR_run (K : GSem nD τ sig → ℕ) (d : Dev nD) (fo : S1024x1024.Idx → Elt F .f32)
    {kont : PUnit → PR F PUnit} {Q : PUnit → sProp 𝕄} :
    ⊢ ctx I K -∗ rdy d -∗ (rdy (yp d) ∗ rdy (right d) ∗ rdy (left d))
      -∗ (qP d (rp d) 0 shA (qF I d) ∗ qP d (rp d) 1 shA (qF I d) ∗ qP d (rp d) 2 shA (qF I d) ∗ qP d (rp d) 3 shA (qF I d))
      -∗ oAll d fo -∗ nL2 d -∗ nR2 d -∗ (inR d 0 ∗ inR d 1 ∗ inR d 2 ∗ inR d 3) -∗ ow d (oweR d)
      -∗ ((outR d 0 ∗ outR d 1 ∗ outR d 2 ∗ outR d 3) -∗ keepR I d -∗ ow d (oweE d) -∗ run d (kont ⟨⟩) Q)
      -∗ run d (phaseR oM qM cc0_scratch4 cc0_scratch8 cc0_scratch10 cc0_scratch11 cc0_scratch12 d >>= kont) Q := by
  unfold phaseR nL2 nR2 inR
  simp only [bind_assoc]
  iintro #Hx #Hr ⟨-, #HrR, #HrL⟩ ⟨Hq0, Hq1, Hq2, Hq3⟩ Ho ⟨%fl, Hl2, Hl3⟩ ⟨%fr, Hr0, Hr1⟩
    ⟨⟨⟨Hp50, Hc50⟩, ⟨Hp70, Hc70⟩, ⟨Hp90, Hc90⟩, Ht80, Ht90, Ht10⟩, ⟨⟨Hp51, Hc51⟩, ⟨Hp71, Hc71⟩, ⟨Hp91, Hc91⟩, Ht81, Ht91, Ht11⟩,
      ⟨⟨Hp52, Hc52⟩, ⟨Hp72, Hc72⟩, ⟨Hp92, Hc92⟩, Ht82, Ht92, Ht12⟩, ⟨Hp53, Hc53⟩, ⟨Hp73, Hc73⟩, ⟨Hp93, Hc93⟩, Ht83, Ht93, Ht13⟩ HO Hk
  ihave Ht90 := (Entails.of_eq (show (tk (dst2 d 0) (at4 9 0) 0 : sProp 𝕄) = tk (right d) (at4 9 0) 0 from rfl)) $$ Ht90
  ihave Ht91 := (Entails.of_eq (show (tk (dst2 d 1) (at4 9 1) 0 : sProp 𝕄) = tk (right d) (at4 9 1) 0 from rfl)) $$ Ht91
  ihave Ht92 := (Entails.of_eq (show (tk (dst2 d 2) (at4 9 2) 0 : sProp 𝕄) = tk (left d) (at4 9 2) 0 from rfl)) $$ Ht92
  ihave Ht93 := (Entails.of_eq (show (tk (dst2 d 3) (at4 9 3) 0 : sProp 𝕄) = tk (left d) (at4 9 3) 0 from rfl)) $$ Ht93
  ihave Ho := (Entails.of_eq (oAll_cut d fo)) $$ Ho
  icases Ho with ⟨Ho0, Ho1, Ho2, Ho3⟩
  iapply (step_out I K d 0 (rp d) rfl _ _ _ _ (off266 d) (off265 d) fo) $$ Hx Hr Ht10 Hq0 Hq1 Hq2 Hq3 Ho0
  iintro Hk0
  iapply (step_rr I K d 5 (by decide) cc0_scratch8 0 (lt d) (sem_rr 0) _ _ 3 _ (by decide) rfl rfl) $$ Hx Hp50 Hc50 HO
  iintro HA0 HB0 Hz50 HO
  iapply (step_sendQ I K d (right d) _ (dev16 d) 8 9 (by decide) (by decide) cc0_scratch11 cc0_scratch12 0 (lt d) (sem_2s 0) (sem_2r 0) _ _ (off267 d) _
    shB fr rfl (to_right I d 0)) $$ Hx Hr HrR HB0 Hr0 Ht80 Ht90 HO
  iintro Hc80 HO
  iapply (step_rr I K d 5 (by decide) cc0_scratch8 1 (lt d) (sem_rr 1) _ _ 3 _ (by decide) rfl rfl) $$ Hx Hp51 Hc51 HO
  iintro HA1 HB1 Hz51 HO
  iapply (step_sendQ I K d (right d) _ (dev17 d) 8 9 (by decide) (by decide) cc0_scratch11 cc0_scratch12 1 (lt d) (sem_2s 1) (sem_2r 1) _ _ (off268 d) _
    shB fr rfl (to_right I d 1)) $$ Hx Hr HrR HB1 Hr1 Ht81 Ht91 HO
  iintro Hc81 HO
  iapply (step_rr I K d 7 (by decide) cc0_scratch10 2 (rt d) (sem_lr 2) _ _ 3 _ (by decide) rfl rfl) $$ Hx Hp72 Hc72 HO
  iintro HA6 HB6 Hz72 HO
  iapply (step_sendQ I K d (left d) _ (dev18 d) 8 9 (by decide) (by decide) cc0_scratch11 cc0_scratch12 2 (rt d) (sem_2s 2) (sem_2r 2) _ _ (off269 d) _
    shB fl rfl (to_left I d 2)) $$ Hx Hr HrL HB6 Hl2 Ht82 Ht92 HO
  iintro Hc82 HO
  iapply (step_rr I K d 7 (by decide) cc0_scratch10 3 (rt d) (sem_lr 3) _ _ 3 _ (by decide) rfl rfl) $$ Hx Hp73 Hc73 HO
  iintro HA7 HB7 Hz73 HO
  iapply (step_sendQ I K d (left d) _ (dev19 d) 8 9 (by decide) (by decide) cc0_scratch11 cc0_scratch12 3 (rt d) (sem_2s 3) (sem_2r 3) _ _ (off270 d) _
    shB fl rfl (to_left I d 3)) $$ Hx Hr HrL HB7 Hl3 Ht83 Ht93 HO
  iintro Hc83 HO
  iapply (step_rr I K d 5 (by decide) cc0_scratch8 2 (lt d) (sem_rr 2) _ _ 3 _ (by decide) rfl rfl) $$ Hx Hp52 Hc52 HO
  iintro HA2 HB2 Hz52 HO
  iapply (step_rr I K d 5 (by decide) cc0_scratch8 3 (lt d) (sem_rr 3) _ _ 3 _ (by decide) rfl rfl) $$ Hx Hp53 Hc53 HO
  iintro HA3 HB3 Hz53 HO
  iapply (step_out I K d 1 (lt d) rfl _ _ _ _ (off272_3 d) (off271_3 d) fo) $$ Hx Hr Ht11 HA0 HA1 HA2 HA3 Ho3
  iintro Hk1
  iapply (step_rr I K d 7 (by decide) cc0_scratch10 0 (rt d) (sem_lr 0) _ _ 3 _ (by decide) rfl rfl) $$ Hx Hp70 Hc70 HO
  iintro HA4 HB4 Hz70 HO
  iapply (step_rr I K d 7 (by decide) cc0_scratch10 1 (rt d) (sem_lr 1) _ _ 3 _ (by decide) rfl rfl) $$ Hx Hp71 Hc71 HO
  iintro HA5 HB5 Hz71 HO
  iapply (step_out I K d 2 (rt d) rfl _ _ _ _ (off272_1 d) (off271_1 d) fo) $$ Hx Hr Ht12 HA4 HA5 HA6 HA7 Ho1
  iintro Hk2
  iapply (step_rr I K d 9 (by decide) cc0_scratch12 0 (op d) (sem_2r 0) _ _ 4 _ (by decide) rfl rfl) $$ Hx Hp90 Hc90 HO
  iintro HC0 HD0 Hz90 HO
  iapply (step_rr I K d 9 (by decide) cc0_scratch12 1 (op d) (sem_2r 1) _ _ 4 _ (by decide) rfl rfl) $$ Hx Hp91 Hc91 HO
  iintro HC1 HD1 Hz91 HO
  iapply (step_rr I K d 9 (by decide) cc0_scratch12 2 (op d) (sem_2r 2) _ _ 4 _ (by decide) rfl rfl) $$ Hx Hp92 Hc92 HO
  iintro HC2 HD2 Hz92 HO
  iapply (step_rr I K d 9 (by decide) cc0_scratch12 3 (op d) (sem_2r 3) _ _ 4 _ (by decide) rfl rfl) $$ Hx Hp93 Hc93 HO
  iintro HC3 HD3 Hz93 HO
  iapply (step_out I K d 3 (op d) rfl _ _ _ _ (off272_2 d) (off271_2 d) fo) $$ Hx Hr Ht13 HC0 HC1 HC2 HC3 Ho2
  iintro Hk3
  unfold outR keepR
  iapply Hk $$ [Hz50 Hz70 Hz90 Hc80 Hk0 Hz51 Hz71 Hz91 Hc81 Hk1 Hz52 Hz72 Hz92 Hc82 Hk2 Hz53 Hz73 Hz93 Hc83 Hk3]
    [HB2 HB3 HB4 HB5 HD0 HD1 HD2 HD3] HO
  · isplitl [Hz50 Hz70 Hz90 Hc80 Hk0]; · iframe
    isplitl [Hz51 Hz71 Hz91 Hc81 Hk1]; · iframe
    isplitl [Hz52 Hz72 Hz92 Hc82 Hk2]; · iframe
    iframe
  · iframe

/-! ## The end -/

/-- What the wait for a copy to the result needs; what it leaves. -/
def inO (d : Dev nD) (k : Fin 4) : sProp 𝕄 := iprop(ps d (at4 1 k) ∗ cr d (at4 1 k) 32768)
def outO (d : Dev nD) (k : Fin 4) : sProp 𝕄 := iprop(oP d (kslot d k) (oF I d) ∗ uP d (kslot d k) shA (qF I d) ∗ zr d (at4 1 k))

theorem step_o (K : GSem nD τ sig → ℕ) (d : Dev nD) (k : Fin 4) (off : Fin 3 → ℕ)
    (h : ∀ a, off a + S1x256x1024.size a ≤ S4x256x1024.size a) (off' : Fin 2 → ℕ)
    (h' : ∀ a, off' a + S256x1024.size a ≤ S1024x1024.size a) (l : List Owe)
    (hl : (l.all fun x => decide (0 < lvl (semAt x.2.1))) = true)
    {kont : PUnit → PR F PUnit} {Q : PUnit → sProp 𝕄} :
    ⊢ ctx I K -∗ inO d k -∗ ow d l -∗ (outO I d k -∗ ow d l -∗ run d (kont ⟨⟩) Q)
      -∗ run d (waitOut oM qM cc0_scratch4 k off h off' h' >>= kont) Q := by
  unfold inO outO
  iintro #Hx ⟨Hat, Hc⟩ HO Hk
  iapply (step_owait I K d k (kslot d k) rfl off h off' h' l hl) $$ Hx Hat Hc HO
  iintro Ho Hu Hz HO
  iapply Hk $$ [Ho Hu Hz] HO
  iframe

theorem ext_pay (p : Dev nD) (j : D) : ⊢ (Rd I).payload (cell p ext) 0 j := by
  rw [payload_ext]; iintro; iempintro

set_option maxHeartbeats 1000000 in
theorem phaseE_run (K : GSem nD τ sig → ℕ) (d : Dev nD)
    {kont : PUnit → PR F PUnit} {Q : PUnit → sProp 𝕄} :
    ⊢ ctx I K -∗ (rdy (yp d) ∗ rdy (right d) ∗ rdy (left d)) -∗ (inE d 0 ∗ inE d 1 ∗ inE d 2 ∗ inE d 3)
      -∗ (inO d 0 ∗ inO d 1 ∗ inO d 2 ∗ inO d 3) -∗ inB d ext -∗ ow d (oweE d)
      -∗ ((outE I d 0 ∗ outE I d 1 ∗ outE I d 2 ∗ outE I d 3) -∗ (outO I d 0 ∗ outO I d 1 ∗ outO I d 2 ∗ outO I d 3) -∗ zr d ext
          -∗ ow d [] -∗ run d (kont ⟨⟩) Q)
      -∗ run d (phaseEnd oM gM rM qM cc0_scratch4 cc0_scratch5 cc0_scratch7 cc0_scratch9 cc0_scratch11 cc0_scoped0 d >>= kont) Q := by
  unfold phaseEnd inB
  simp only [bind_assoc]
  iintro #Hx ⟨#HrY, #HrR, #HrL⟩ ⟨Hi0, Hi1, Hi2, Hi3⟩ ⟨Hp0, Hp1, Hp2, Hp3⟩ ⟨Hat, Hc, Ht0, Ht1, Ht2⟩ HO Hk
  iapply (chunkE I K d 0 _ _ _ _ _ rfl) $$ Hx Hi0 HO
  iintro Ho0 HO
  iapply (chunkE I K d 1 _ _ _ _ _ rfl) $$ Hx Hi1 HO
  iintro Ho1 HO
  iapply (chunkE I K d 2 _ _ _ _ _ rfl) $$ Hx Hi2 HO
  iintro Ho2 HO
  iapply (chunkE I K d 3 _ _ _ _ _ rfl) $$ Hx Hi3 HO
  iintro Ho3 HO
  iapply (step_o I K d 0 _ _ _ _ _ rfl) $$ Hx Hp0 HO
  iintro Hw0 HO
  iapply (step_o I K d 1 _ _ _ _ _ rfl) $$ Hx Hp1 HO
  iintro Hw1 HO
  iapply (step_o I K d 2 _ _ _ _ _ rfl) $$ Hx Hp2 HO
  iintro Hw2 HO
  iapply (step_o I K d 3 _ _ _ _ _ rfl) $$ Hx Hp3 HO
  iintro Hw3 HO
  iapply (step_sig I K d (yp d) _ 1 _ 0 _ (dev20 d) sem_ex (by decide)) $$ Hx [] Ht0 [] HO
  · iapply (rdy_at (yp d) ext); iexact HrY
  · iapply (ext_pay I (yp d) 0)
  iintro HO
  iapply (step_sig I K d (right d) _ 1 _ 1 _ (dev21 d) sem_ex (by decide)) $$ Hx [] Ht1 [] HO
  · iapply (rdy_at (right d) ext); iexact HrR
  · iapply (ext_pay I (right d) 1)
  iintro HO
  iapply (step_sig I K d (left d) _ 1 _ 2 _ (dev22 d) sem_ex (by decide)) $$ Hx [] Ht2 [] HO
  · iapply (rdy_at (left d) ext); iexact HrL
  · iapply (ext_pay I (left d) 2)
  iintro HO
  iapply (step_rwait I K d 1 _ sem_ex 5 _ (by decide) rfl) $$ Hx Hat Hc HO
  iintro - Hz HO
  iapply Hk $$ [Ho0 Ho1 Ho2 Ho3] [Hw0 Hw1 Hw2 Hw3] Hz HO
  · iframe
  · iframe

end Cert.KernelIdeal.V
-- ==== Proof.V.Body.lean ====
module

public import proofs.«01_k».proof.Proof.V.Rounds2

@[expose] public section

/-! # The whole body

The four phases one after another: what a device brings to the call, and what it has when the body
returns. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F]

local notation "𝕄" => MT nD τ sig Unit (Elt F) ℕ UU ℕ

variable (I : Inp F)

/-! ## What a device brings -/

/-- Over the ten arrays of four. -/
theorem ten (P : Fin 10 → sProp 𝕄) : bigSep Finset.univ P
    = iprop(P 0 ∗ P 1 ∗ P 2 ∗ P 3 ∗ P 4 ∗ P 5 ∗ P 6 ∗ P 7 ∗ P 8 ∗ P 9) :=
  bigSep_eq_bigSepL_of_eq [0, 1, 2, 3, 4, 5, 6, 7, 8, 9] (by decide) (by decide) P

/-- Over all of a device's semaphores: the two signals, and, chunk by chunk, the arrays. -/
theorem over_ix (P : Ix → sProp 𝕄) : bigSep Finset.univ P
    = iprop((P bar ∗ P ext) ∗ bigSep (Finset.univ : Finset (Fin 4)) fun c => iprop(P (at4 0 c) ∗ P (at4 1 c) ∗ P (at4 2 c)
      ∗ P (at4 3 c) ∗ P (at4 4 c) ∗ P (at4 5 c) ∗ P (at4 6 c) ∗ P (at4 7 c) ∗ P (at4 8 c) ∗ P (at4 9 c))) := by
  have h1 : bigSep Finset.univ P = iprop((P bar ∗ P ext) ∗ bigSep (Finset.univ : Finset (Fin 10 × Fin 4)) fun x => P (.inr x)) :=
    (bigSep_univ_sum P).trans (congrArg (fun X => iprop(X ∗ bigSep (Finset.univ : Finset (Fin 10 × Fin 4)) fun x => P (.inr x)))
      (BI.bigSep_fin_two (fun a : Fin 2 => P (.inl a))))
  have h2 : bigSep (Finset.univ : Finset (Fin 10 × Fin 4)) (fun x => P (.inr x))
      = bigSep (Finset.univ : Finset (Fin 4)) fun c => bigSep (Finset.univ : Finset (Fin 10)) fun f => P (at4 f c) := by
    rw [bigSep_univ_equiv (Equiv.prodComm (Fin 4) (Fin 10)), bigSep_univ_prod]
    rfl
  rw [h1, h2]
  simp only [ten]

/-- The device's places, before each semaphore's one round. -/
def psAll (d : Dev nD) : sProp 𝕄 := bigSep (Finset.univ : Finset Ix) fun k => ps d k
/-- The device's semaphores, closed. -/
def zrAll (d : Dev nD) : sProp 𝕄 := bigSep (Finset.univ : Finset Ix) fun k => zr d k
/-- The credit for what other devices pay. -/
def crAll (d : Dev nD) : sProp 𝕄 :=
  iprop((cr d bar 3 ∗ cr d ext 3) ∗ bigSep (Finset.univ : Finset (Fin 4)) fun c =>
    iprop(cr d (at4 3 c) 8192 ∗ cr d (at4 5 c) 8192 ∗ cr d (at4 7 c) 8192 ∗ cr d (at4 9 c) 8192))
/-- The tokens of the payments the device makes. -/
def tk3 (d : Dev nD) (k : Ix) : sProp 𝕄 := iprop(tk (yp d) k 0 ∗ tk (right d) k 1 ∗ tk (left d) k 2)
def tkC (d : Dev nD) (c : Fin 4) : sProp 𝕄 :=
  iprop(gTok d c ∗ tk d (at4 1 c) 0 ∗ tk d (at4 2 c) 0 ∗ tk (yp d) (at4 3 c) 0 ∗ tk d (at4 4 c) 0 ∗ tk (right d) (at4 5 c) 0
    ∗ tk d (at4 6 c) 0 ∗ tk (left d) (at4 7 c) 0 ∗ tk d (at4 8 c) 0 ∗ tk (dst2 d c) (at4 9 c) 0)
def tkAll (d : Dev nD) : sProp 𝕄 :=
  iprop((tk3 d bar ∗ tk3 d ext) ∗ bigSep (Finset.univ : Finset (Fin 4)) fun c => tkC d c)

/-- Two families together. -/
theorem pair_up {T : Type} [Fintype T] {A B : T → sProp 𝕄} :
    ⊢ bigSep Finset.univ A -∗ bigSep Finset.univ B -∗ bigSep Finset.univ fun c => iprop(A c ∗ B c) := by
  iintro HA HB
  rw [bigSep_sep']
  isplitl [HA] <;> iassumption

/-- The places for the waits at the end. -/
def psE (d : Dev nD) (c : Fin 4) : sProp 𝕄 :=
  iprop(ps d (at4 2 c) ∗ ps d (at4 4 c) ∗ ps d (at4 6 c) ∗ ps d (at4 8 c) ∗ ps d (at4 1 c))

/-- A chunk's places, credit and tokens, dealt to the phases. -/
theorem deal_chunk (d : Dev nD) (c : Fin 4) :
    iprop((ps d (at4 0 c) ∗ ps d (at4 1 c) ∗ ps d (at4 2 c) ∗ ps d (at4 3 c) ∗ ps d (at4 4 c) ∗ ps d (at4 5 c) ∗ ps d (at4 6 c)
        ∗ ps d (at4 7 c) ∗ ps d (at4 8 c) ∗ ps d (at4 9 c))
      ∗ (cr d (at4 3 c) 8192 ∗ cr d (at4 5 c) 8192 ∗ cr d (at4 7 c) 8192 ∗ cr d (at4 9 c) 8192) ∗ tkC d c)
    ⊢ (iprop(gTok d c ∗ inY d c ∗ inQ d c ∗ inR d c ∗ psE d c) : sProp 𝕄) := by
  unfold tkC inY inQ inR psE
  iintro ⟨⟨P0, P1, P2, P3, P4, P5, P6, P7, P8, P9⟩, ⟨C3, C5, C7, C9⟩, TG, T1, T2, T3, T4, T5, T6, T7, T8, T9⟩
  isplitl [TG]; · iexact TG
  isplitl [P0 T2 T3]; · iframe
  isplitl [P3 C3 T4 T5 T6 T7]; · iframe
  isplitl [P5 P7 P9 C5 C7 C9 T8 T9 T1]; · iframe
  iframe

/-- All that the device brings, dealt to the phases. -/
theorem deal (d : Dev nD) : iprop(psAll d ∗ crAll d ∗ tkAll d)
    ⊢ (iprop(inB d bar ∗ inB d ext ∗ bigSep (Finset.univ : Finset (Fin 4)) fun c =>
        iprop(gTok d c ∗ inY d c ∗ inQ d c ∗ inR d c ∗ psE d c)) : sProp 𝕄) := by
  unfold psAll crAll tkAll inB tk3
  rw [over_ix]
  iintro ⟨⟨⟨P0, P1⟩, HP⟩, ⟨⟨C0, C1⟩, HC⟩, ⟨T0, T1⟩, HT⟩
  isplitl [P0 C0 T0]; · iframe
  isplitl [P1 C1 T1]; · iframe
  have h := bigSep_mono (s := (Finset.univ : Finset (Fin 4))) fun c _ => deal_chunk (F := F) d c
  iapply (show _ ⊢ _ from h)
  iapply (pair_up (F := F)) $$ HP
  iapply (pair_up (F := F)) $$ HC HT

/-! ## What the device has at the end -/

theorem uP_half (d t f) : uP (F := F) d t fullShare f ⊣⊢ iprop(uP d t shA f ∗ uP d t shB f) := by
  unfold uP; exact pointsTo_share (PosShare.mem_left_op_right _)

/-- What a chunk's part of the phases leaves, and what that is together. -/
def endC (d : Dev nD) (c : Fin 4) : sProp 𝕄 :=
  iprop(gP d c fullShare (gF I d) ∗ rP d c fullShare (gF I (yp d)) ∗ qP d (rp d) c shB (qF I d) ∗ qP d (slot2 d c) c shB (qF I d)
    ∗ (zr d (at4 0 c) ∗ zr d (at4 1 c) ∗ zr d (at4 2 c) ∗ zr d (at4 3 c) ∗ zr d (at4 4 c) ∗ zr d (at4 5 c) ∗ zr d (at4 6 c)
        ∗ zr d (at4 7 c) ∗ zr d (at4 8 c) ∗ zr d (at4 9 c)))

theorem end_chunk (d : Dev nD) (c : Fin 4) :
    ⊢ zr d (at4 0 c) -∗ (gP d c shB (gF I d) ∗ rP d c fullShare (gF I (yp d)) ∗ zr d (at4 3 c))
      -∗ (zr d (at4 5 c) ∗ zr d (at4 7 c) ∗ zr d (at4 9 c)) -∗ outE I d c -∗ zr d (at4 1 c) -∗ (endC I d c : sProp 𝕄) := by
  unfold outE endC
  iintro Z0 ⟨HB, HR, Z3⟩ ⟨Z5, Z7, Z9⟩ ⟨⟨HA, Z2⟩, ⟨HQ, Z4, Z6⟩, HS, Z8⟩ Z1
  isplitl [HA HB]
  · iapply (gP_half d c (gF I d)).2
    isplitl [HA] <;> iassumption
  isplitl [HR]; · iexact HR
  isplitl [HQ]; · iexact HQ
  isplitl [HS]; · iexact HS
  iframe

/-- The four chunks, the halves kept and the quarters copied out: whole buffers, closed semaphores. -/
theorem ends (d : Dev nD) :
    ⊢ (endC I d 0 ∗ endC I d 1 ∗ endC I d 2 ∗ endC I d 3) -∗ keepR I d
      -∗ ((oP d (rp d) (oF I d) ∗ uP d (rp d) shA (qF I d)) ∗ (oP d (lt d) (oF I d) ∗ uP d (lt d) shA (qF I d))
        ∗ (oP d (rt d) (oF I d) ∗ uP d (rt d) shA (qF I d)) ∗ (oP d (op d) (oF I d) ∗ uP d (op d) shA (qF I d)))
      -∗ (zr d bar ∗ zr d ext)
      -∗ (iprop(gAll d (gF I d) ∗ rAll d (gF I (yp d)) ∗ qAll d (qF I d) ∗ oAll d (oF I d) ∗ zrAll d) : sProp 𝕄) := by
  unfold endC keepR
  iintro ⟨⟨G0, R0, Q0, S0, Z0⟩, ⟨G1, R1, Q1, S1, Z1⟩, ⟨G2, R2, Q2, S2, Z2⟩, G3, R3, Q3, S3, Z3⟩
    ⟨⟨L2, L3⟩, ⟨T0, T1⟩, O0, O1, O2, O3⟩ ⟨⟨OA, UA⟩, ⟨OB, UB⟩, ⟨OC, UC⟩, OD, UD⟩ Zs
  isplitl [G0 G1 G2 G3]
  · iapply (Entails.of_eq (gAll_eq d (gF I d)).symm); iframe
  isplitl [R0 R1 R2 R3]
  · iapply (Entails.of_eq (rAll_eq d (gF I (yp d))).symm); iframe
  isplitl [Q0 Q1 Q2 Q3 S0 S1 S2 S3 L2 L3 T0 T1 O0 O1 O2 O3 UA UB UC UD]
  · iapply (Entails.of_eq (qAll_cut d (qF I d)).symm)
    isplitl [UA Q0 Q1 Q2 Q3]
    · iapply (uP_half d (rp d) (qF I d)).2
      isplitl [UA]; · iexact UA
      iapply (Entails.of_eq (uP_eq d (rp d) shB (qF I d)).symm); iframe
    isplitl [UC T0 T1 S2 S3]
    · iapply (uP_half d (rt d) (qF I d)).2
      isplitl [UC]; · iexact UC
      iapply (Entails.of_eq (uP_eq d (rt d) shB (qF I d)).symm)
      isplitl [T0]; · iexact T0
      isplitl [T1]; · iexact T1
      isplitl [S2]; · iexact S2
      iexact S3
    isplitl [UD O0 O1 O2 O3]
    · iapply (uP_half d (op d) (qF I d)).2
      isplitl [UD]; · iexact UD
      iapply (Entails.of_eq (uP_eq d (op d) shB (qF I d)).symm); iframe
    · iapply (uP_half d (lt d) (qF I d)).2
      isplitl [UB]; · iexact UB
      iapply (Entails.of_eq (uP_eq d (lt d) shB (qF I d)).symm)
      isplitl [S0]; · iexact S0
      isplitl [S1]; · iexact S1
      isplitl [L2]; · iexact L2
      iexact L3
  isplitl [OA OB OC OD]
  · iapply (Entails.of_eq (oAll_cut d (oF I d)).symm); iframe
  unfold zrAll
  rw [over_ix, four]
  isplitl [Zs]; · iexact Zs
  isplitl [Z0]; · iexact Z0
  isplitl [Z1]; · iexact Z1
  isplitl [Z2]; · iexact Z2
  iexact Z3

/-! ## The body -/

theorem outs_eq (d : Dev nD) : (iprop(outO I d 0 ∗ outO I d 1 ∗ outO I d 2 ∗ outO I d 3) : sProp 𝕄)
    = iprop((oP d (rp d) (oF I d) ∗ uP d (rp d) shA (qF I d) ∗ zr d (at4 1 0)) ∗ (oP d (lt d) (oF I d) ∗ uP d (lt d) shA (qF I d) ∗ zr d (at4 1 1))
      ∗ (oP d (rt d) (oF I d) ∗ uP d (rt d) shA (qF I d) ∗ zr d (at4 1 2)) ∗ (oP d (op d) (oF I d) ∗ uP d (op d) shA (qF I d) ∗ zr d (at4 1 3))) := rfl

theorem run_done (d : Dev nD) {Q : PUnit → sProp 𝕄} : Q ⟨⟩ ⊢ run d (pure ⟨⟩ : PR F PUnit) Q := by
  show _ ⊢ wp frame (wpE (defs₀ (F := F)) 𝒱₀ (d : Thread nD τ) none) Set.univ (.ret ⟨⟩) Q
  rw [wp_ret]
  iintro H
  imodintro
  iexact H

/-- THE BODY on device `d`: from the inputs, the scratch buffers and the result at any contents, and the device's
    part of the protocol, to the result written, all semaphores closed and nothing owed. -/
theorem body_run (K : GSem nD τ sig → ℕ) (d : Dev nD) (fg fr : S256x1024.Idx → Elt F .f32) (fq : S4x256x1024.Idx → Elt F .f32)
    (fo : S1024x1024.Idx → Elt F .f32) {Q : PUnit → sProp 𝕄} :
    ⊢ ctx I K -∗ rdy d -∗ (reached ER (cell (yp d) bar) 0 ∗ reached ER (cell (right d) bar) 0 ∗ reached ER (cell (left d) bar) 0)
      -∗ (sAll I d ∗ mAll I d ∗ eAll I d) -∗ gAll d fg -∗ rAll d fr -∗ qAll d fq -∗ oAll d fo -∗ (psAll d ∗ crAll d ∗ tkAll d)
      -∗ ow d (oweY d)
      -∗ ((sAll I d ∗ mAll I d ∗ eAll I d) -∗ (gAll d (gF I d) ∗ rAll d (gF I (yp d)) ∗ qAll d (qF I d) ∗ oAll d (oF I d) ∗ zrAll d)
          -∗ ow d [] -∗ Q ⟨⟩)
      -∗ run d (body sM mM eM oM gM rM qM cc0_scratch3 cc0_scratch4 cc0_scratch5 cc0_scratch6 cc0_scratch7 cc0_scratch8 cc0_scratch9
          cc0_scratch10 cc0_scratch11 cc0_scratch12 cc0_scoped0) Q := by
  have e : (phaseEnd oM gM rM qM cc0_scratch4 cc0_scratch5 cc0_scratch7 cc0_scratch9 cc0_scratch11 cc0_scoped0 d : PR F PUnit)
      = phaseEnd oM gM rM qM cc0_scratch4 cc0_scratch5 cc0_scratch7 cc0_scratch9 cc0_scratch11 cc0_scoped0 d >>= pure := (bind_pure _).symm
  unfold body
  rw [show (Prog.lift .deviceId : PR F (Dev nD)) = .op .deviceId .ret from rfl]
  unfold run
  rw [show ∀ k : Dev nD → PR F PUnit, ((Prog.op .deviceId .ret : PR F (Dev nD)) >>= k) = .op .deviceId k from fun _ => rfl, wp_deviceId]
  iintro #Hx #Hr #Hb ⟨Hs, Hm, He⟩ Hg HrA HqA Ho Hin HO Hk
  ihave Hin := (deal (F := F) d) $$ Hin
  icases Hin with ⟨HB, HE, Hin⟩
  ihave Hin := (Entails.of_eq (four _)) $$ Hin
  icases Hin with ⟨⟨G0, Y0, Q0, R0, E0⟩, ⟨G1, Y1, Q1, R1, E1⟩, ⟨G2, Y2, Q2, R2, E2⟩, G3, Y3, Q3, R3, E3⟩
  iapply (phaseY_run I K d fg fr fq) $$ Hx Hr Hb Hs He Hg HrA HqA [G0 G1 G2 G3] [Y0 Y1 Y2 Y3] HB HO
  · iframe
  · iframe
  iintro #Hrs Hs He HM Hq HL HR Zb HO
  unfold midY
  icases HM with ⟨⟨M0, ZA0, CA0⟩, ⟨M1, ZA1, CA1⟩, ⟨M2, ZA2, CA2⟩, M3, ZA3, CA3⟩
  iapply (phaseQ_run I K d fq) $$ Hx Hr Hrs Hm [M0 M1 M2 M3] Hq HL HR [Q0 Q1 Q2 Q3] HO
  · iframe
  · iframe
  iintro Hm HQ HL HR HO
  unfold outQ
  icases HQ with ⟨⟨M0, N0, P0, ZB0, CB0, CC0⟩, ⟨M1, N1, P1, ZB1, CB1, CC1⟩, ⟨M2, N2, P2, ZB2, CB2, CC2⟩, M3, N3, P3, ZB3, CB3, CC3⟩
  iapply (phaseR_run I K d fo) $$ Hx Hr Hrs [P0 P1 P2 P3] Ho HL HR [R0 R1 R2 R3] HO
  · iframe
  · iframe
  iintro HR Hkeep HO
  unfold outR psE
  icases HR with ⟨⟨W0, X0, V0, D0, U0⟩, ⟨W1, X1, V1, D1, U1⟩, ⟨W2, X2, V2, D2, U2⟩, W3, X3, V3, D3, U3⟩
  icases E0 with ⟨A0, B0, C0, E0, F0⟩
  icases E1 with ⟨A1, B1, C1, E1, F1⟩
  icases E2 with ⟨A2, B2, C2, E2, F2⟩
  icases E3 with ⟨A3, B3, C3, E3, F3⟩
  iapply (Entails.of_eq (congrArg (fun p => run d p Q) e.symm))
  iapply (phaseE_run I K d) $$ Hx Hrs [A0 CA0 B0 CB0 C0 CC0 E0 D0 A1 CA1 B1 CB1 C1 CC1 E1 D1 A2 CA2 B2 CB2 C2 CC2 E2 D2 A3 CA3 B3 CB3 C3 CC3 E3 D3]
    [F0 U0 F1 U1 F2 U2 F3 U3] HE HO
  · unfold inE
    isplitl [A0 CA0 B0 CB0 C0 CC0 E0 D0]; · iframe
    isplitl [A1 CA1 B1 CB1 C1 CC1 E1 D1]; · iframe
    isplitl [A2 CA2 B2 CB2 C2 CC2 E2 D2]; · iframe
    iframe
  · unfold inO; iframe
  iintro ⟨E0, E1, E2, E3⟩ HOut Ze HO
  ihave HOut := (Entails.of_eq (outs_eq I d)) $$ HOut
  icases HOut with ⟨⟨OA, UA, F0⟩, ⟨OB, UB, F1⟩, ⟨OC, UC, F2⟩, OD, UD, F3⟩
  iapply (run_done d)
  iapply Hk $$ [Hs Hm He] [E0 E1 E2 E3 F0 F1 F2 F3 M0 M1 M2 M3 N0 N1 N2 N3 ZA0 ZA1 ZA2 ZA3 ZB0 ZB1 ZB2 ZB3 W0 X0 V0 W1 X1 V1 W2 X2 V2 W3 X3 V3 Hkeep OA UA OB UB OC UC OD UD Zb Ze] HO
  · iframe
  iapply (ends I d) $$ [E0 E1 E2 E3 F0 F1 F2 F3 M0 M1 M2 M3 N0 N1 N2 N3 ZA0 ZA1 ZA2 ZA3 ZB0 ZB1 ZB2 ZB3 W0 X0 V0 W1 X1 V1 W2 X2 V2 W3 X3 V3] Hkeep [OA UA OB UB OC UC OD UD] [Zb Ze]
  · isplitl [E0 F0 M0 N0 ZA0 ZB0 W0 X0 V0]
    · iapply (end_chunk I d 0) $$ ZA0 [M0 N0 ZB0] [W0 X0 V0] E0 F0 <;> iframe
    isplitl [E1 F1 M1 N1 ZA1 ZB1 W1 X1 V1]
    · iapply (end_chunk I d 1) $$ ZA1 [M1 N1 ZB1] [W1 X1 V1] E1 F1 <;> iframe
    isplitl [E2 F2 M2 N2 ZA2 ZB2 W2 X2 V2]
    · iapply (end_chunk I d 2) $$ ZA2 [M2 N2 ZB2] [W2 X2 V2] E2 F2 <;> iframe
    · iapply (end_chunk I d 3) $$ ZA3 [M3 N3 ZB3] [W3 X3 V3] E3 F3 <;> iframe
  · isplitl [OA UA]; · isplitl [OA] <;> iassumption
    isplitl [OB UB]; · isplitl [OB] <;> iassumption
    isplitl [OC UC]; · isplitl [OC] <;> iassumption
    isplitl [OD] <;> iassumption
  · isplitl [Zb] <;> iassumption

end Cert.KernelIdeal.V
-- ==== Proof.V.Host.lean ====
module

public import proofs.«01_k».proof.Proof.V.Body
public import proofs.«01_k».proof.Proof.Gen.KernelIdeal.Regions
public import Idealize.ShloMosaic.Lib.WordCmp

@[expose] public section

/-! # What the host hands the call

The words that name rows and the mask, as the host computes them from the ids: device `d` takes the
256 ids of its place in the ring, less the first row of its half of the table; a word outside the half is
replaced by zero and masked. -/

noncomputable section

namespace Cert.KernelIdeal.V

open Idealize.ShloMosaic Idealize.ShloMosaic.TcCoe
open Idealize.SL Idealize.SL.Sem
open Cert.KernelIdeal Cert.KernelIdeal.Gen

variable {F : FTy → Type} [FloatOps F]

/-! ## Each stretch of operations, from any contents -/

theorem after2_v20 (V : Valuation τ sig (Elt F)) : StableHlo.after hostOps0_2 V main_v20
    = select (cmpi .slt (muli (addi (V main_v13 : S_.Idx → BitVec 32) (V main_v15 : S_.Idx → BitVec 32)) (constantI S_ 32 256#32)) (constantI S_ 32 0#32))
      (addi (muli (addi (V main_v13 : S_.Idx → BitVec 32) (V main_v15 : S_.Idx → BitVec 32)) (constantI S_ 32 256#32)) (constantI S_ 32 1024#32))
      (muli (addi (V main_v13 : S_.Idx → BitVec 32) (V main_v15 : S_.Idx → BitVec 32)) (constantI S_ 32 256#32)) := by
  after_results

theorem after2_v24 (V : Valuation τ sig (Elt F)) : StableHlo.after hostOps0_2 V main_v24
    = subi (Host.dynamicSlice S256 (V main_arg0 : S1024.Idx → BitVec 32)
        (fun _ => ((StableHlo.after hostOps0_2 V main_v20 : S_.Idx → BitVec 32) (Shape.Idx.first h_S_)).toInt) sliceFits_S1024_S256)
      (broadcastInDim S256 ![] bcast_S_S256 (muli (V main_v8 : S_.Idx → BitVec 32) (constantI S_ 32 8192#32))) := by
  have h := after2_v20 V
  have h' : StableHlo.after (hostOps0_2.take 8) V main_v20 = StableHlo.after hostOps0_2 V main_v20 := by
    show StableHlo.after [_, _, _, _, _, _, _, _] V main_v20 = _
    after_results
  rw [h] at h' ⊢
  after_results
  refine congrArg (fun st => subi (Host.dynamicSlice S256 (V main_arg0 : S1024.Idx → BitVec 32) st sliceFits_S1024_S256) _) (funext fun k => ?_)
  obtain rfl : k = 0 := Subsingleton.elim _ _
  exact congrArg (fun f : S_.Idx → BitVec 32 => BitVec.toInt (f (Shape.Idx.first h_S_))) h'

theorem after2_v29 (V : Valuation τ sig (Elt F)) : StableHlo.after hostOps0_2 V main_v29
    = andi (cmpi .sge (StableHlo.after hostOps0_2 V main_v24 : S256.Idx → BitVec 32) (broadcastInDim S256 ![] bcast_S_S256 (constantI S_ 32 0#32)))
      (cmpi .slt (StableHlo.after hostOps0_2 V main_v24 : S256.Idx → BitVec 32) (broadcastInDim S256 ![] bcast_S_S256 (constantI S_ 32 8192#32))) := by
  after_results

theorem after2_c13 (V : Valuation τ sig (Elt F)) : StableHlo.after hostOps0_2 V main_c_13 = constantI S_ 32 0#32 := by
  after_results

theorem after3_v30 (V : Valuation τ sig (Elt F)) : StableHlo.after hostOps0_3 V main_v30
    = select (V main_v29 : S256.Idx → BitVec 1) (V main_v24 : S256.Idx → BitVec 32)
      (broadcastInDim S256 ![] bcast_S_S256 (V main_c_13 : S_.Idx → BitVec 32)) := by
  after_results
  rfl

theorem after4_v32 (V : Valuation τ sig (Elt F)) : StableHlo.after hostOps0_4 V main_v32
    = broadcastInDim S256x1 ![0] bcast_S256_S256x1_0 (uitofp .f32 (V main_v29 : S256.Idx → BitVec 1)) := by
  after_results

variable (m : (ℓ : Loc nD τ sig) → Buf (Elt F) ℓ)

/-! ## The device's place -/

/-- A coordinate of the device: its number divided, and the remainder by two. -/
def coord (d : Dev nD) (k : BitVec 32) : BitVec 32 := IntOp.remui .host (IntOp.divui .host (Dev.word d) k) 2#32

theorem coord_x : ∀ d : Dev nD, coord d 4#32 = BitVec.ofNat 32 (d.val / 4) := by decide +kernel
theorem coord_y : ∀ d : Dev nD, coord d 2#32 = BitVec.ofNat 32 (yOf d).val := by decide +kernel
theorem coord_z : ∀ d : Dev nD, coord d 1#32 = BitVec.ofNat 32 (d.val % 2) := by decide +kernel

theorem V1_v13 (d : Dev nD) : @Eq (S_.Idx → BitVec 32) (V1 m d main_v13) (fun _ => 2#32 * coord d 4#32) := by
  show StableHlo.after (hostOps0 d) _ _ = _
  after_results
  rfl
theorem V1_v14 (d : Dev nD) : @Eq (S_.Idx → BitVec 32) (V1 m d main_v14) (fun _ => coord d 4#32 + coord d 1#32) := by
  show StableHlo.after (hostOps0 d) _ _ = _
  after_results
  rfl
theorem V1_v8 (d : Dev nD) : @Eq (S_.Idx → BitVec 32) (V1 m d main_v8) (fun _ => coord d 2#32) := by
  show StableHlo.after (hostOps0 d) _ _ = _
  after_results
  rfl
theorem V1_c6 (d : Dev nD) : @Eq (S_.Idx → BitVec 32) (V1 m d main_c_6) (fun _ => 2#32) := by
  show StableHlo.after (hostOps0 d) _ _ = _
  after_results
  rfl

/-- The divisor of the remainder: one where it would be zero. -/
def divisor (x : BitVec 32) : BitVec 32 := Scalar.select (IntOp.cmpi .eq x 0#32) 1#32 x
/-- The remainder with the divisor's sign. -/
def modulo (x y : BitVec 32) : BitVec 32 :=
  Scalar.select (IntOp.andi (IntOp.cmpi .ne (IntOp.cmpi .slt (IntOp.remsi .host x (divisor y)) 0#32) (IntOp.cmpi .slt (divisor y) 0#32))
      (IntOp.cmpi .ne (IntOp.remsi .host x (divisor y)) 0#32))
    (IntOp.remsi .host x (divisor y) + divisor y) (IntOp.remsi .host x (divisor y))

theorem after1_v15 (V : Valuation τ sig (Elt F)) : @Eq (S_.Idx → BitVec 32) (StableHlo.after hostOps0_1 V main_v15)
    (fun i => modulo ((V main_v14 : S_.Idx → BitVec 32) i) ((V main_c_6 : S_.Idx → BitVec 32) i)) := by
  after_results
  simp only [StableHlo.TRef.ofBuf, StableHlo.TRef.toBuf, cast_cast, cast_eq]
  rfl

/-- The first id the device takes. -/
def startOf (x : BitVec 32) : BitVec 32 := Scalar.select (IntOp.cmpi .slt (x * 256#32) 0#32) (x * 256#32 + 1024#32) (x * 256#32)

theorem start_eq : ∀ d : Dev nD, startOf (2#32 * coord d 4#32 + modulo (coord d 4#32 + coord d 1#32) 2#32) = BitVec.ofNat 32 ((rp d).val * 256) := by
  decide +kernel

theorem V3_v20 (d : Dev nD) : @Eq (S_.Idx → BitVec 32) (V3 m d main_v20) (fun _ => BitVec.ofNat 32 ((rp d).val * 256)) := by
  have h13 : @Eq (S_.Idx → BitVec 32) (V2 m d main_v13) _ := (V2_of m d main_v13 (by decide)).trans (V1_v13 m d)
  have h15 : @Eq (S_.Idx → BitVec 32) (V2 m d main_v15) _ := after1_v15 (V1 m d)
  rw [V1_v14, V1_c6] at h15
  refine (after2_v20 (V2 m d)).trans ?_
  rw [h13, h15]
  exact funext fun _ => start_eq d

/-- The ids, as device `d` has them. -/
def ids (d : Dev nD) : S1024.Idx → BitVec 32 := m ((d : Thread nD τ).loc main_arg0)
/-- The id of row `i` of device `d`. -/
def idAt (d : Dev nD) (i : Fin 256) : BitVec 32 :=
  (ids m d)
    (fun a => match a with | ⟨0, _⟩ => (⟨(rp d).val * 256 + i.val, by have := (rp d).isLt; have := i.isLt; omega⟩ : Fin 1024))
/-- The same, less the first row of the device's half of the table. -/
def locAt (d : Dev nD) (i : Fin 256) : BitVec 32 := idAt m d i - BitVec.ofNat 32 ((yOf d).val * 8192)
/-- Whether a word names a row of the half. -/
def inHalf (w : BitVec 32) : BitVec 1 := IntOp.andi (IntOp.cmpi .sge w 0#32) (IntOp.cmpi .slt w 8192#32)

theorem V3_v24 (d : Dev nD) : @Eq (S256.Idx → BitVec 32) (V3 m d main_v24) (fun i => locAt m d (i 0)) := by
  have h0 : @Eq (S1024.Idx → BitVec 32) (V2 m d main_arg0) (ids m d) :=
    (V2_of m d main_arg0 (by decide)).trans (V1_of m d main_arg0 (by decide))
  have h8 : @Eq (S_.Idx → BitVec 32) (V2 m d main_v8) _ := (V2_of m d main_v8 (by decide)).trans (V1_v8 m d)
  have hs : ∀ d : Dev nD, S1024.Slices (fun _ => (rp d).val * 256) S256 := by decide
  have ht : ∀ d : Dev nD, (BitVec.ofNat 32 ((rp d).val * 256)).toInt = (((rp d).val * 256 : ℕ) : Int) := by decide
  have hy : ∀ d : Dev nD, BitVec.ofNat 32 (yOf d).val * 8192#32 = BitVec.ofNat 32 ((yOf d).val * 8192) := by decide
  refine (after2_v24 (V2 m d)).trans ?_
  rw [show @Eq (S_.Idx → BitVec 32) (StableHlo.after hostOps0_2 (V2 m d) main_v20) _ from V3_v20 m d, h0, h8]
  refine (congrArg (fun x : S256.Idx → BitVec 32 => subi x _) (WordCmp.dynamicSlice_eq_extract S256
    (ids m d) (fun _ => (BitVec.ofNat 32 ((rp d).val * 256)).toInt)
    sliceFits_S1024_S256 (fun _ => (rp d).val * 256) (hs d) (fun _ => ht d))).trans ?_
  funext i
  show _ - coord d 2#32 * 8192#32 = _
  rw [coord_y, hy]
  unfold locAt idAt
  refine congrArg (fun w : BitVec 32 => w - _) (congrArg (ids m d) (funext fun a => ?_))
  match a with
  | ⟨0, _⟩ => rfl

theorem V3_v29 (d : Dev nD) : @Eq (S256.Idx → BitVec 1) (V3 m d main_v29) (fun i => inHalf (locAt m d (i 0))) := by
  refine (after2_v29 (V2 m d)).trans ?_
  rw [show @Eq (S256.Idx → BitVec 32) (StableHlo.after hostOps0_2 (V2 m d) main_v24) _ from V3_v24 m d]
  rfl

/-- The words that name rows: the local row, or zero. -/
theorem V5_v30 (d : Dev nD) : @Eq (S256.Idx → BitVec 32) (V5 m d main_v30)
    (fun i => Scalar.select (inHalf (locAt m d (i 0))) (locAt m d (i 0)) 0#32) := by
  refine (V5_of m d main_v30 (by decide)).trans ((after3_v30 (V3 m d)).trans ?_)
  rw [V3_v29, V3_v24, show @Eq (S_.Idx → BitVec 32) (V3 m d main_c_13) _ from after2_c13 _]
  rfl

/-- The mask, as a number. -/
theorem V5_v32 (d : Dev nD) : @Eq (S256x1.Idx → F .f32) (V5 m d main_v32)
    (fun i => FloatOps.uitofp .f32 (inHalf (locAt m d (i 0)))) := by
  have h29 : @Eq (S256.Idx → BitVec 1) (V4 m d main_v29) _ := (V4_of m d main_v29 (by decide)).trans (V3_v29 m d)
  refine (after4_v32 (V4 m d)).trans ?_
  rw [h29]
  rfl

/-- A word that passes is the number of a row of the half. -/
theorem inHalf_iff (w : BitVec 32) : inHalf w = 1#1 ↔ w.toNat < 8192 := by
  have h0 : (0#32).toInt = 0 := by decide
  have h1 : (8192#32).toInt = 8192 := by decide
  have hc := BitVec.toInt_eq_toNat_cond w
  have hw := w.isLt
  unfold inHalf IntOp.andi IntOp.cmpi
  rw [show (BitVec.ofBool (BitVec.sle 0#32 w) &&& BitVec.ofBool (BitVec.slt w 8192#32) = 1#1)
    ↔ (BitVec.sle 0#32 w = true ∧ BitVec.slt w 8192#32 = true) from by
      cases BitVec.sle 0#32 w <;> cases BitVec.slt w 8192#32 <;> decide]
  rw [BitVec.sle_eq_decide, BitVec.slt_eq_decide, decide_eq_true_iff, decide_eq_true_iff, h0, h1]
  constructor
  · intro h; split at hc <;> omega
  · intro h; split at hc <;> omega

/-- Whatever the ids, a word names a row of the half. -/
theorem select_lt (w : BitVec 32) : (Scalar.select (inHalf w) w 0#32).toNat < 8192 := by
  rcases BitVec.eq_zero_or_eq_one (inHalf w) with h | h
  · rw [h]; exact (by decide : (0#32).toNat < 8192)
  · rw [h]; exact (inHalf_iff w).mp h

/-- What the devices begin with. -/
def inp : Inp F where
  sv d := V5 m d main_v30
  mv d := V5 m d main_v32
  ev d := m ((d : Thread nD τ).loc main_arg1)
  hs d i := by
    have h : BitVec.toNat ((V5 m d main_v30 : S256.Idx → BitVec 32) i) < 8192 := by
      rw [V5_v30]; exact select_lt _
    intro a
    match a with
    | ⟨0, _⟩ => show BitVec.toNat _ + 1 ≤ 8192; omega
    | ⟨1, _⟩ => show 0 + 1024 ≤ 1024; omega

end Cert.KernelIdeal.V
-- ==== Proof.V.Region.lean ====
module

public import proofs.«01_k».proof.Proof.V.Host
public import proofs.«01_k».proof.Proof.Gen.KernelIdeal.Launch
public import proofs.«01_k».proof.Proof.Gen.KernelIdeal.Points
public import Idealize.ShloMosaic.Lib.Pipeline.RegionTalk

@[expose] public section

/-! # The call as a region of the host's program

What the call takes from the host and gives back: the buffers, the device's part of the protocol going in,
the barrier closed coming out. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The semaphores of the call's own -/

/-- The call's own semaphores: the exit signal and the ten arrays of four. -/
abbrev Own : Type := Fin 1 ⊕ (Fin 10 × Fin 4)
def ownIx : Own → Ix
  | .inl _ => ext
  | .inr x => .inr x
abbrev osem (x : Own) : SemLoc sig := semAt (ownIx x)

theorem ownSem : Pipeline.OwnSemFacts spec0 osem := by decide

/-- All of a device's semaphores: the barrier and the call's own. -/
theorem bar_own (P : Ix → sProp 𝕄) : bigSep Finset.univ P
    = iprop(P bar ∗ bigSep (Finset.univ : Finset Own) fun x => P (ownIx x)) := by
  have h1 : bigSep Finset.univ P = iprop((P bar ∗ P ext) ∗ bigSep (Finset.univ : Finset (Fin 10 × Fin 4)) fun x => P (.inr x)) :=
    (bigSep_univ_sum P).trans (congrArg (fun X => iprop(X ∗ bigSep (Finset.univ : Finset (Fin 10 × Fin 4)) fun x => P (.inr x)))
      (BI.bigSep_fin_two (fun a : Fin 2 => P (.inl a))))
  have h2 : (bigSep (Finset.univ : Finset Own) fun x => P (ownIx x))
      = iprop(P ext ∗ bigSep (Finset.univ : Finset (Fin 10 × Fin 4)) fun x => P (.inr x)) :=
    (bigSep_univ_sum (fun x : Own => P (ownIx x))).trans
      (congrArg (fun X => iprop(X ∗ bigSep (Finset.univ : Finset (Fin 10 × Fin 4)) fun x => P (.inr x)))
        (bigSep_univ_of_subsingleton (0 : Fin 1)))
  rw [h1, h2]
  exact BI.equiv_iff.mp ⟨BI.sep_assoc, BI.sep_assoc'⟩

/-! ## What enters and leaves -/

/-- The barriers at hand: the device's own and its neighbours'. -/
def bars (d : Dev nD) : sProp 𝕄 :=
  iprop(reached ER (cell d bar) 0 ∗ reached ER (cell (yp d) bar) 0 ∗ reached ER (cell (right d) bar) 0 ∗ reached ER (cell (left d) bar) 0)
instance bars_persistent (d : Dev nD) : BI.Persistent (bars (F := F) d) := by unfold bars; infer_instance

/-- The device's part of the protocol before the call: its place at the barrier, the rights to open the call's own
    semaphores, its credit and its tokens. -/
def Tk (d : Dev nD) : sProp 𝕄 :=
  iprop((∃ K, invsAll (inp m) K) ∗ bars d ∗ ps d bar ∗ (bigSep (Finset.univ : Finset Own) fun x => openTok ER (cell d (ownIx x)))
    ∗ crAll d ∗ tkAll d)
/-- The same with the semaphores open. -/
def Xk (d : Dev nD) : sProp 𝕄 :=
  iprop((∃ K, ctx (inp m) K) ∗ rdy d ∗ bars d ∗ psAll d ∗ crAll d ∗ tkAll d)
/-- What is left after the call: the barrier, closed. -/
def Yk (d : Dev nD) : sProp 𝕄 := zr d bar

/-- Opening the call's own semaphores. -/
theorem hopen (c : Dev nD) : iprop(Tk m c ∗ Pipeline.ownSems0 osem c ∗ levAts L lv) ⊢ (|={Set.univ}=> Xk m c : sProp 𝕄) := by
  unfold Tk Xk Pipeline.ownSems0 ctx
  iintro ⟨⟨⟨%K, #HI⟩, #Hb, Hp, Ho, Hcr, Htk⟩, Hz, #Hlev⟩
  have step (x : Own) : iprop(invsAll (inp m) K ∗ (openTok ER (cell c (ownIx x)) ∗ semVal (cell c (ownIx x)) 0))
      ⊢ (|={Set.univ}=> iprop(ps c (ownIx x) ∗ reached ER (cell c (ownIx x)) 0) : sProp 𝕄) := by
    iintro ⟨#HI, Ho, Hz⟩
    iapply (Rounds.cell_open ER (Rd (inp m)) (g := cell c (ownIx x)) (Set.mem_univ (K (cell c (ownIx x)))))
    isplitr; · iapply (invsAll_at (inp m) K c (ownIx x)); iexact HI
    isplitl [Ho] <;> iassumption
  have all := bigSep_with_persistent (S := (Finset.univ : Finset Own)) (R := invsAll (inp m) K)
    (Φ := fun x => iprop(openTok ER (cell c (ownIx x)) ∗ semVal (cell c (ownIx x)) 0)) fun x _ => step x
  ihave H := (show _ ⊢ _ from all.trans (bigSep_fupd _ _)) $$ [Ho Hz]
  · isplitr; · iexact HI
    iapply (pair_up (F := F)) $$ Ho Hz
  imod H
  ihave H := (Entails.of_eq (bigSep_sep' _ _ _)) $$ H
  icases H with ⟨HP, #HR⟩
  imodintro
  isplitr
  · iexists K
    isplitr; · iexact HI
    iexact Hlev
  isplitr
  · unfold rdy
    iapply (Entails.of_eq (bar_own (F := F) fun k => reached ER (cell c k) 0).symm)
    isplitr; · unfold bars; icases Hb with ⟨Hb, -⟩; iexact Hb
    iexact HR
  isplitr; · iexact Hb
  isplitl [Hp HP]
  · unfold psAll
    iapply (Entails.of_eq (bar_own (F := F) fun k => ps c k).symm)
    isplitl [Hp] <;> iassumption
  isplitl [Hcr] <;> iassumption

/-! ## The buffers -/

/-- The buffers the call reads and writes itself: the half table and the result. -/
abbrev Hs : Finset (DevRef τ sig) := {Proc.devRef .tc main_arg1, Proc.devRef .tc main_v33}
theorem held_Hs (c : Dev nD) (W : Valuation τ sig (Elt F)) : (StableHlo.held (c : Thread nD τ) Hs W : sProp 𝕄)
    = iprop((((c : Thread nD τ).loc main_arg1) ↦{fullShare} (W main_arg1 : Buf (Elt F) ((c : Thread nD τ).loc main_arg1)))
      ∗ (((c : Thread nD τ).loc main_v33) ↦{fullShare} (W main_v33 : Buf (Elt F) ((c : Thread nD τ).loc main_v33)))) := by
  unfold StableHlo.held
  rw [bigSep_eq_bigSepL_of_eq [Proc.devRef .tc main_arg1, Proc.devRef .tc main_v33] (by decide) (by decide)]
  rfl

/-- The scratch buffers, at contents not chosen. -/
def scr (c : Dev nD) : sProp 𝕄 := iprop((∃ f, gAll c f) ∗ (∃ f, rAll c f) ∗ (∃ f, qAll c f))

/-- What device `c`'s result holds after the call. -/
def outs : Outs (F := F) := fun _ r c =>
  if h : r = main_v33 then h ▸ (oF (inp m) c : Buf (Elt F) ((c : Thread nD τ).loc main_v33)) else Classical.choice inferInstance

abbrev V6' (c : Dev nD) : Valuation τ sig (Elt F) := V6 m (outs m) c

theorem V6_v33 (c : Dev nD) : @Eq (S1024x1024.Idx → F .f32) (V6' m c main_v33) (oF (inp m) c) := by
  show Function.update (V5 m c) (Proc.devRef .tc main_v33) (outs m 6 main_v33 c) (Proc.devRef .tc main_v33) = _
  rw [Function.update_self]
  unfold outs
  rw [dif_pos rfl]

/-! ## The run of the call, point by point -/

/-- What the device has before the call's one point, and after it. -/
def phi (c : Dev nD) : ℕ → sProp 𝕄
  | 0 => iprop(Xk m c ∗ eAll (inp m) c ∗ (∃ f, oAll c f) ∗ scr c ∗ ∃ r, prngReg c r)
  | _ + 1 => iprop(zrAll c ∗ eAll (inp m) c ∗ oAll c (oF (inp m) c) ∗ scr c ∗ ∃ r, prngReg c r)
/-- What it owes there. -/
def due (c : Dev nD) : ℕ → CellTallies nD τ sig Unit
  | 0 => owedL (oweY c)
  | _ + 1 => 0

/-- The call as the pipeline runs it: one point, the words and the mask brought in, nothing written back. -/
def dat (c : Dev nD) : Dat τ (Elt F) Unit ℕ UU ℕ cfg0 c where
  A w := V5 m c (Proc.devRef .tc (Pipeline.arrRef spec0 w))
  after w _ := match w with
    | 0 => (inp m).sv c
    | 1 => (inp m).mv c
  Φ t := phi m c t.val
  q _ := fullShare
  owed t := due c t.val

abbrev pdats : (p : Fin 1) → (c : Dev nD) → Dat τ (Elt F) Unit ℕ UU ℕ (Pipeline.pin (pcfgs (F := F)) adm p) c :=
  fun _ c => dat m c

/-- A window that is the whole array brings the array. -/
theorem fetched_0 {c : Dev nD} (dt : Dat τ (Elt F) Unit ℕ UU ℕ cfg0 c) (t : Fin cfg0.N) (d) :
    @Eq (S256.Idx → BitVec 32) (dt.fetched 0 t d) (dt.A 0) := by
  funext j
  unfold Dat.fetched Pipeline.Window.fill
  rw [dif_pos (((cfg0.win 0).moved_iff _ j).mpr fun a => (j a).isLt)]
  unfold Dat.blockOf
  rw [View.read_apply]
  refine congrArg (dt.A 0) (funext fun a => Fin.ext ?_)
  exact (cfg0.win 0).rect_emb_val_of_index_zero t a rfl _
theorem fetched_1 {c : Dev nD} (dt : Dat τ (Elt F) Unit ℕ UU ℕ cfg0 c) (t : Fin cfg0.N) (d) :
    @Eq (S256x1.Idx → F .f32) (dt.fetched 1 t d) (dt.A 1) := by
  funext j
  unfold Dat.fetched Pipeline.Window.fill
  rw [dif_pos (((cfg0.win 1).moved_iff _ j).mpr fun a => (j a).isLt)]
  unfold Dat.blockOf
  rw [View.read_apply]
  refine congrArg (dt.A 1) (funext fun a => Fin.ext ?_)
  exact (cfg0.win 1).rect_emb_val_of_index_zero t a rfl _

theorem before_0 (c : Dev nD) (t : Fin cfg0.N) (d) : @Eq (S256.Idx → BitVec 32) ((dat m c).before 0 t d) ((inp m).sv c) :=
  (Dat.before_fetched _ _ _ (fetch0_0 t) d).trans (fetched_0 (dat m c) t d)
theorem before_1 (c : Dev nD) (t : Fin cfg0.N) (d) : @Eq (S256x1.Idx → F .f32) ((dat m c).before 1 t d) ((inp m).mv c) :=
  (Dat.before_fetched _ _ _ (fetch0_1 t) d).trans (fetched_1 (dat m c) t d)

theorem owed_first (c : Dev nD) : (dat m c).owed 0 = owedL (oweY c) := rfl
theorem owed_last (c : Dev nD) : (dat m c).owed (Fin.last _) = 0 := by
  show due c cfg0.N = 0
  rw [show cfg0.N = 1 from N_0]
  rfl
theorem phi_last (c : Dev nD) : (dat m c).Φ (Fin.last _) = phi m c 1 := by
  show phi m c cfg0.N = _
  rw [show cfg0.N = 1 from N_0]

theorem owesAt_intro {c : Dev nD} (dt : Dat τ (Elt F) Unit ℕ UU ℕ cfg0 c) (t : Fin (cfg0.N + 1))
    (O : CellTallies nD τ sig Unit) (h0 : dt.owed t = O) (hr : dt.recorded t = Set.univ := by first | rfl | skip) :
    (iprop(∃ W, owes (c : Thread nD τ) O W) : sProp 𝕄) ⊢ (dt.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_elim {c : Dev nD} (dt : Dat τ (Elt F) Unit ℕ UU ℕ cfg0 c) (t : Fin (cfg0.N + 1))
    (O : CellTallies nD τ sig Unit) (h0 : dt.owed t = O) :
    (dt.owesAt () t : sProp 𝕄) ⊢ iprop(∃ W, owes (c : Thread nD τ) O W) := by
  unfold Dat.owesAt Pipeline.owesWithin; rw [h0]
  iintro ⟨%W, -, HO⟩; iexists W; iexact HO

/-- A staging buffer owned through its memref is the buffer. -/
theorem stage_s (c : Dev nD) (x : S256.Idx → BitVec 32) :
    (owns (Val := Elt F) (c : Thread nD τ) (stage0_0 0) fullShare x : sProp 𝕄) = (sM.view.loc (c : Thread nD τ) ↦{fullShare} x) :=
  owns_whole (Val := Elt F) (c : Thread nD τ) cc0_stg0_0 fullShare x
theorem stage_m (c : Dev nD) (x : S256x1.Idx → F .f32) :
    (owns (Val := Elt F) (c : Thread nD τ) (stage0_1 0) fullShare x : sProp 𝕄) = (mM.view.loc (c : Thread nD τ) ↦{fullShare} x) :=
  owns_whole (Val := Elt F) (c : Thread nD τ) cc0_stg1_0 fullShare x
theorem found_s (c : Dev nD) (d) :
    (owns (Val := Elt F) (c : Thread nD τ) (stage0_0 0) fullShare ((dat m c).before 0 t0_0 d) : sProp 𝕄) = sAll (inp m) c :=
  (congrArg (fun x : S256.Idx → BitVec 32 => (owns (Val := Elt F) (c : Thread nD τ) (stage0_0 0) fullShare x : sProp 𝕄)) (before_0 m c t0_0 d)).trans
    (stage_s c _)
theorem found_m (c : Dev nD) (d) :
    (owns (Val := Elt F) (c : Thread nD τ) (stage0_1 0) fullShare ((dat m c).before 1 t0_0 d) : sProp 𝕄) = mAll (inp m) c :=
  (congrArg (fun x : S256x1.Idx → F .f32 => (owns (Val := Elt F) (c : Thread nD τ) (stage0_1 0) fullShare x : sProp 𝕄)) (before_1 m c t0_0 d)).trans
    (stage_m c _)
theorem left_s (c : Dev nD) :
    (owns (Val := Elt F) (c : Thread nD τ) (stage0_0 0) fullShare ((dat m c).after 0 t0_0) : sProp 𝕄) = sAll (inp m) c := stage_s c _
theorem left_m (c : Dev nD) :
    (owns (Val := Elt F) (c : Thread nD τ) (stage0_1 0) fullShare ((dat m c).after 1 t0_0) : sProp 𝕄) = mAll (inp m) c := stage_m c _
theorem phi_start (c : Dev nD) : (dat m c).Φ (t0_0 : Fin cfg0.N).castSucc = phi m c 0 := rfl
theorem phi_end (c : Dev nD) : (dat m c).Φ (t0_0 : Fin cfg0.N).succ = phi m c 1 := rfl

/-- The body the pipeline runs at the point. -/
theorem body_at : (defs₀ (F := F)) .tc cfg0.body (cfg0.bodyArgs t0_0 (cfg0.slots t0_0))
    = body sM mM eM oM gM rM qM cc0_scratch3 cc0_scratch4 cc0_scratch5 cc0_scratch6 cc0_scratch7 cc0_scratch8 cc0_scratch9 cc0_scratch10
        cc0_scratch11 cc0_scratch12 cc0_scoped0 :=
  (show _ = bodyAt0 t0_0 from rfl).trans (cc0_body_eq ..)

/-- THE BODY OBLIGATION: the one point of the call runs the body. -/
theorem body_ob (c : Dev nD) : BodyObligation (dat m c) defs₀ 𝒱₀ () Set.univ := fun t => by
  obtain rfl := fin_N0 t
  rw [bigSep_W0, bigSep_W0, body_at]
  dsimp only
  rw [phi_start, phi_end]
  unfold phi Xk bars scr
  iintro ⟨⟨⟨⟨%K, #Hx⟩, #Hr, #Hb, HP, HC, HT⟩, He, ⟨%fo, Ho⟩, ⟨⟨%fg, Hg⟩, ⟨%fr, Hrr⟩, ⟨%fq, Hq⟩⟩, Hp⟩, HO, ⟨%d0, Hs⟩, ⟨%d1, Hm⟩⟩
  ihave Hs := (Entails.of_eq (found_s m c d0)) $$ Hs
  ihave Hm := (Entails.of_eq (found_m m c d1)) $$ Hm
  ihave HO := (owesAt_elim (dat m c) _ (owedL (oweY c)) rfl) $$ HO
  icases Hb with ⟨-, Hb⟩
  iapply (body_run (inp m) K c fg fr fq fo) $$ Hx Hr Hb [Hs Hm He] Hg Hrr Hq Ho [HP HC HT] [HO]
  · iframe
  · iframe
  · unfold ow; iexact HO
  iintro ⟨Hs, Hm, He⟩ ⟨Hg, Hrr, Hq, Ho, Hz⟩ HO
  isplitl [Hz He Ho Hg Hrr Hq Hp]
  · isplitl [Hz]; · iexact Hz
    isplitl [He]; · iexact He
    isplitl [Ho]; · iexact Ho
    isplitl [Hg Hrr Hq]
    · isplitl [Hg]; · iexists _; iexact Hg
      isplitl [Hrr]; · iexists _; iexact Hrr
      iexists _; iexact Hq
    iexact Hp
  isplitl [HO]
  · iapply (owesAt_intro (dat m c) _ 0 rfl); unfold ow; iexact HO
  isplitl [Hs]
  · iapply (Entails.of_eq (left_s m c).symm) $$ Hs
  iapply (Entails.of_eq (left_m m c).symm) $$ Hm

/-! ## The region -/

theorem scratch_eq (c : Dev nD) : (Pipeline.scopedRest (Ix := Unit) (Name := ℕ) (U := UU) (Lvl := ℕ) (Val := Elt F) (Pipeline.pin (pcfgs (F := F)) adm 0).spec c : sProp 𝕄)
    = scr c := scopedRest0_eq c

theorem hin (c : Dev nD) : iprop(Pipeline.scopedRest (Pipeline.pin (pcfgs (F := F)) adm 0).spec c ∗ (∃ r, prngReg c r)
      ∗ StableHlo.held (c.tc : Thread nD τ) Hs (V5 m c) ∗ Xk m c) ⊢ (pdats m 0 c).Φ 0 := by
  rw [show (pdats m 0 c).Φ 0 = phi m c 0 from rfl, scratch_eq, held_Hs]
  unfold phi
  iintro ⟨HS, Hp, ⟨He, Ho⟩, HX⟩
  isplitl [HX]; · iexact HX
  isplitl [He]
  · iapply (Entails.of_eq (show ((((c : Thread nD τ).loc main_arg1) ↦{fullShare} (V5 m c main_arg1 : Buf (Elt F) ((c : Thread nD τ).loc main_arg1)) : sProp 𝕄)) = eAll (inp m) c from by
      rw [show @Eq (Buf (Elt F) ((c : Thread nD τ).loc main_arg1)) (V5 m c main_arg1) (m ((c : Thread nD τ).loc main_arg1)) from
        (V6_of m (outs m) c main_arg1 (by decide)).symm.trans (V6_main_arg1 m (outs m) c)]
      rfl)) $$ He
  isplitl [Ho]; · iexists _; iapply (Entails.of_eq (show ((((c : Thread nD τ).loc main_v33) ↦{fullShare} (V5 m c main_v33 : Buf (Elt F) ((c : Thread nD τ).loc main_v33)) : sProp 𝕄)) = oAll c (V5 m c main_v33) from rfl)) $$ Ho
  isplitl [HS] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V6' m c) ∗ Pipeline.ownSems0 osem c ∗ Yk c) := by
  rw [show (pdats m 0 c).Φ (Fin.last (Pipeline.pin (pcfgs (F := F)) adm 0).N) = phi m c 1 from phi_last m c, scratch_eq, held_Hs]
  unfold phi zrAll Yk Pipeline.ownSems0
  iintro ⟨Hz, He, Ho, HS, Hp⟩
  ihave Hz := (Entails.of_eq (bar_own (F := F) fun k => zr c k)) $$ Hz
  icases Hz with ⟨Hb, Hz⟩
  isplitl [HS]; · iexact HS
  isplitl [Hp]; · iexact Hp
  isplitl [He Ho]
  · isplitl [He]
    · iapply (Entails.of_eq (show eAll (inp m) c = ((((c : Thread nD τ).loc main_arg1) ↦{fullShare} (V6' m c main_arg1 : Buf (Elt F) ((c : Thread nD τ).loc main_arg1)) : sProp 𝕄)) from by
        rw [show @Eq (Buf (Elt F) ((c : Thread nD τ).loc main_arg1)) (V6' m c main_arg1) (m ((c : Thread nD τ).loc main_arg1)) from
          V6_main_arg1 m (outs m) c]
        rfl)) $$ He
    · iapply (Entails.of_eq (show oAll c (oF (inp m) c) = ((((c : Thread nD τ).loc main_v33) ↦{fullShare} (V6' m c main_v33 : Buf (Elt F) ((c : Thread nD τ).loc main_v33)) : sProp 𝕄)) from by
        rw [show @Eq (Buf (Elt F) ((c : Thread nD τ).loc main_v33)) (V6' m c main_v33) (oF (inp m) c) from V6_v33 m c]
        rfl)) $$ Ho
  isplitl [Hz]; · iexact Hz
  iexact Hb

/-- The buffers that stay beside the call's: all the host's but the words and the mask. -/
abbrev Sr : Finset (DevRef τ sig) := Pipeline.ucRefs τ sig \ Pipeline.arrRefs (τ := τ) (Pipeline.pin (pcfgs (F := F)) adm 0).spec

theorem arrs_sub : Pipeline.arrRefs (τ := τ) (Pipeline.pin (pcfgs (F := F)) adm 0).spec ⊆ Pipeline.ucRefs τ sig :=
  (by decide : Pipeline.arrRefs (τ := τ) spec0 ⊆ Pipeline.ucRefs τ sig)
theorem Hs_sub : Hs ⊆ Sr (F := F) := (by decide : Hs ⊆ Pipeline.ucRefs τ sig \ Pipeline.arrRefs (τ := τ) spec0)

theorem owe_above (c : Dev nD) : ((oweY c).all fun x => decide (0 < lvl (semAt x.2.1))) = true := by rfl

theorem due_above (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = due c t.val := rfl
  rw [e] at h
  generalize t.val = n at h
  cases n with
  | zero =>
    obtain ⟨x, hx, rfl⟩ := owedL_pos _ g i h
    have := owe_above c
    rw [List.all_eq_true] at this
    exact ⟨by rw [L_tc]; exact Finset.mem_singleton_self _, of_decide_eq_true (this x hx)⟩
  | succ n => exact absurd h (Nat.lt_irrefl 0)

theorem away (c : Dev nD) : ∀ b ∈ Sr (F := F) \ Hs, V6' m c b = V5 m c b := fun b hb => by
  refine Function.update_of_ne (fun e => (Finset.mem_sdiff.mp hb).2 ?_) _ _
  rw [e]
  exact Finset.mem_insert_of_mem (Finset.mem_singleton_self _)

theorem arr_in (c : Dev nD) (w : Fin 2) (t : ℕ) : (pdats m 0 c).arrAt w t = V5 m c (Proc.devRef .tc (Pipeline.arrRef spec0 w)) :=
  Dat.arrAt_in (dat m c) w (by fin_cases w <;> rfl) t
theorem arr_out (c : Dev nD) (w : Fin 2) (t : ℕ) : (pdats m 0 c).arrAt w t = V6' m c (Proc.devRef .tc (Pipeline.arrRef spec0 w)) := by
  refine (arr_in m c w t).trans ?_
  fin_cases w
  · exact (V6_of m (outs m) c main_v30 (by decide)).symm
  · exact (V6_of m (outs m) c main_v32 (by decide)).symm

theorem staging_low (w : Fin 2) (s : Fin (spec0 w).nbuf) : lvl (.dma ((spec0 w).sem s)) ≤ 0 := by
  fin_cases w
  · exact (by decide : lvl (.dma (sem0_0 0)) ≤ 0)
  · exact (by decide : lvl (.dma (sem0_1 0)) ≤ 0)

set_option backward.isDefEq.respectTransparency.types false in
/-- THE REGION. -/
def reg : Pipeline.RegionSeg (pcfgs (F := F)) adm (pdats m) () defs₀ 𝒱₀ L lv 0 :=
  Pipeline.RegionSeg.ofTalk (pcfgs (F := F)) adm (pdats m) () defs₀ 𝒱₀ L lv 0 osem ownSem
    Hs Sr Hs_sub launch0.toP rfl (fun c => (body_ob m c).loose)
    (fun _ => 0) (fun c => owedL (oweY c)) (fun c => (owed_first m c).trans (zero_add _).symm) (owed_last m) (fun _ => rfl)
    (fun c w => by unfold Dat.share; split <;> rfl)
    (V5 m) (V6' m) (away m) (Tk m) Yk (Xk m) Yk (hopen m) (hin m) (hout m)
    (fun c => by iintro H; imodintro; iexact H)
    (fun _ => 0)
    ⟨fun c w s => by rw [L_tc]; exact Finset.mem_singleton_self _, fun c w s => staging_low w s, fun c t g i h => due_above m c t g i h⟩
    (fun _ => iprop(emp))
    (fun c w => arr_in m c w 0) (fun c w => arr_out m c w _)

/-- What the host's program carries beside the buffers up to the call, and after it. -/
def E (n : ℕ) (c : Dev nD) : sProp 𝕄 := match n with
  | 0 => iprop(Tk m c ∗ (∃ r, prngReg c r) ∗ ∃ W, owes (c : Thread nD τ) (owedL (oweY c)) W)
  | _ + 1 => iprop(zr c bar ∗ ∃ W, owes (c : Thread nD τ) (0 : CellTallies nD τ sig Unit) W)

theorem reg_pre (c : Dev nD) : iprop(StableHlo.held (c : Thread nD τ) (Pipeline.ucRefs τ sig) (V5 m c) ∗ E m 0 c) ⊢ (reg m).pre c := by
  show _ ⊢ iprop(StableHlo.held (c.tc : Thread nD τ) (Pipeline.arrRefs (τ := τ) (Pipeline.pin (pcfgs (F := F)) adm 0).spec) (V5 m c) ∗ (∃ r, prngReg c r)
    ∗ (StableHlo.held (c.tc : Thread nD τ) (Sr (F := F)) (V5 m c) ∗ emp) ∗ Tk m c ∗ ∃ Wd, owes (c : Thread nD τ) (0 + owedL (oweY c)) Wd)
  rw [zero_add, StableHlo.held_sub_split (c : Thread nD τ) (arrs_sub (F := F)) (V5 m c)]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) (Pipeline.ucRefs τ sig) (V6' m c) ∗ E m 1 c) := by
  show iprop(StableHlo.held (c.tc : Thread nD τ) (Pipeline.arrRefs (τ := τ) (Pipeline.pin (pcfgs (F := F)) adm 0).spec) (V6' m c) ∗ (∃ r, prngReg c r)
    ∗ (StableHlo.held (c.tc : Thread nD τ) (Sr (F := F)) (V6' m c) ∗ emp) ∗ Yk c ∗ ∃ Wd, owes (c : Thread nD τ) (0 : CellTallies nD τ sig Unit) Wd) ⊢ _
  rw [StableHlo.held_sub_split (c : Thread nD τ) (arrs_sub (F := F)) (V6' m c)]
  unfold E Yk
  iintro ⟨Ha, -, ⟨Hr, -⟩, Hb, HO⟩
  isplitl [Ha Hr]; · isplitl [Ha] <;> iassumption
  isplitl [Hb] <;> iassumption

end Cert.KernelIdeal.V

end
-- ==== Proof.V.Launch.lean ====
module

public import proofs.«01_k».proof.Proof.V.Region

@[expose] public section

/-! # The launch

What the protocol begins with is dealt to the devices: the tokens each pays with, the credit for what each is
paid, the rights to open the call's semaphores. Then the whole program's run. -/

noncomputable section

namespace Cert.KernelIdeal.V

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

theorem cell_inj {d d' : Dev nD} {k k' : Ix} (h : cell d k = cell d' k') : d = d' ∧ k = k' :=
  ⟨congrArg (fun g : GSem nD τ sig => g.1.1) h, semAt_inj (congrArg Prod.snd h)⟩

theorem ownIx_inj : Function.Injective ownIx := by
  rintro (a | x) (b | y) h
  · exact congrArg Sum.inl (Subsingleton.elim a b)
  · exact absurd h Sum.inl_ne_inr
  · exact absurd h.symm Sum.inl_ne_inr
  · exact congrArg Sum.inr (Sum.inr_injective h)
theorem ownIx_ne_bar (x : Own) : ownIx x ≠ bar := by
  rcases x with a | x
  · exact fun h => absurd (Sum.inl_injective h) (by decide)
  · exact Sum.inr_ne_inl

def barEmb : Dev nD ↪ GSem nD τ sig := ⟨fun d => cell d bar, fun _ _ h => (cell_inj h).1⟩
def ownEmb : Dev nD × Own ↪ GSem nD τ sig :=
  ⟨fun x => cell x.1 (ownIx x.2), fun _ _ h => Prod.ext (cell_inj h).1 (ownIx_inj (cell_inj h).2)⟩

/-- The barriers' cells, open from the start; the call's own, opened when the call begins. -/
abbrev barCells : Finset (GSem nD τ sig) := Finset.univ.map barEmb
abbrev ownCells : Finset (GSem nD τ sig) := Finset.univ.map ownEmb

theorem cells_disjoint : Disjoint barCells ownCells := by
  rw [Finset.disjoint_left]
  rintro g h₁ h₂
  obtain ⟨d, -, rfl⟩ := Finset.mem_map.mp h₁
  obtain ⟨x, -, h⟩ := Finset.mem_map.mp h₂
  exact ownIx_ne_bar x.2 (cell_inj h).2

theorem cell_mem (d : Dev nD) (k : Ix) : cell d k ∈ barCells ∪ ownCells := by
  have own (x : Own) : cell d (ownIx x) ∈ barCells ∪ ownCells :=
    Finset.mem_union_right _ (Finset.mem_map_of_mem ownEmb (Finset.mem_univ (d, x)))
  rcases k with i | x
  · rcases i with ⟨i, hi⟩
    match i, hi with
    | 0, _ => exact Finset.mem_union_left _ (Finset.mem_map_of_mem barEmb (Finset.mem_univ d))
    | 1, _ => exact own (.inl 0)
  · exact own (.inr x)

/-! ## The tokens, by who pays -/

/-- The payments of a device: three of each signal; per chunk, the rows' and the nine copies'. -/
abbrev Tok : Type := (Fin 2 × Fin 3) ⊕ (Fin 4 × (D ⊕ Fin 9))
/-- Whom a payment goes to. -/
def who (d : Dev nD) : Tok → Dev nD
  | .inl (_, j) => if j.val = 0 then yp d else if j.val = 1 then right d else left d
  | .inr (_, .inl _) => d
  | .inr (c, .inr f) => if f.val = 2 then yp d else if f.val = 4 then right d else if f.val = 6 then left d
      else if f.val = 8 then dst2 d c else d
/-- Which semaphore it is made on. -/
def onIx : Tok → Ix
  | .inl (k, _) => .inl k
  | .inr (c, .inl _) => at4 0 c
  | .inr (c, .inr f) => at4 f.succ c
/-- Which of the semaphore's payments it is. -/
def duty : Tok → D
  | .inl (_, j) => ⟨j.val, by have := j.isLt; omega⟩
  | .inr (_, .inl j) => j
  | .inr (_, .inr _) => 0

theorem right_inj : Function.Injective right := fun a b h => by rw [← left_right a, h, left_right]
theorem left_inj : Function.Injective left := fun a b h => by rw [← right_left a, h, right_left]
theorem yp_inj : Function.Injective yp := fun a b h => by rw [← yp_yp a, h, yp_yp]
theorem dst2_inj (c : Fin 4) : Function.Injective fun d => dst2 d c := fun a b h => by
  dsimp only [dst2] at h
  split at h
  · exact right_inj h
  · exact left_inj h

theorem who_inj (t : Tok) : Function.Injective fun d => who d t := fun a b h => by
  rcases t with ⟨k, j⟩ | ⟨c, j | f⟩ <;> dsimp only [who] at h
  · split at h
    · exact yp_inj h
    split at h
    · exact right_inj h
    · exact left_inj h
  · exact h
  · split at h
    · exact yp_inj h
    split at h
    · exact right_inj h
    split at h
    · exact left_inj h
    split at h
    · exact dst2_inj c h
    · exact h

theorem tok_inj {t t' : Tok} (h : onIx t = onIx t') (hd : duty t = duty t') : t = t' := by
  rcases t with ⟨k, j⟩ | ⟨c, j | f⟩ <;> rcases t' with ⟨k', j'⟩ | ⟨c', j' | f'⟩
  · obtain rfl : k = k' := Sum.inl_injective h
    obtain rfl : j = j' := Fin.ext (show j.val = j'.val from congrArg (fun d : D => d.val) hd)
    rfl
  · exact absurd h Sum.inl_ne_inr
  · exact absurd h Sum.inl_ne_inr
  · exact absurd h Sum.inr_ne_inl
  · obtain rfl : c = c' := congrArg Prod.snd (Sum.inr_injective h)
    obtain rfl : j = j' := hd
    rfl
  · exact absurd (congrArg Prod.fst (Sum.inr_injective h)).symm (Fin.succ_ne_zero f')
  · exact absurd h Sum.inr_ne_inl
  · exact absurd (congrArg Prod.fst (Sum.inr_injective h)) (Fin.succ_ne_zero f)
  · obtain rfl : c = c' := congrArg Prod.snd (Sum.inr_injective h)
    obtain rfl : f = f' := Fin.succ_injective _ (congrArg Prod.fst (Sum.inr_injective h))
    rfl

def tokEmb : Dev nD × Tok ↪ GSem nD τ sig × ℕ × D :=
  ⟨fun x => (cell (who x.1 x.2) (onIx x.2), 0, duty x.2), fun x y h => by
    have h1 := cell_inj (congrArg Prod.fst h)
    have ht := tok_inj h1.2 (congrArg (fun z : GSem nD τ sig × ℕ × D => z.2.2) h)
    obtain ⟨d, t⟩ := x
    obtain ⟨d', t'⟩ := y
    obtain rfl : t = t' := ht
    exact Prod.ext (who_inj t h1.1) rfl⟩
abbrev toks : Finset (GSem nD τ sig × ℕ × D) := Finset.univ.map tokEmb

theorem three (P : Fin 3 → sProp 𝕄) : bigSep Finset.univ P = iprop(P 0 ∗ P 1 ∗ P 2) :=
  bigSep_eq_bigSepL_of_eq [0, 1, 2] (by decide) (by decide) P
theorem nine (P : Fin 9 → sProp 𝕄) : bigSep Finset.univ P
    = iprop(P 0 ∗ P 1 ∗ P 2 ∗ P 3 ∗ P 4 ∗ P 5 ∗ P 6 ∗ P 7 ∗ P 8) :=
  bigSep_eq_bigSepL_of_eq [0, 1, 2, 3, 4, 5, 6, 7, 8] (by decide) (by decide) P

/-- All tokens are, device by device, the tokens it pays with. -/
theorem toks_eq : bigSep toks (fun x => (dutyTok ER x.1 x.2.1 x.2.2 : sProp 𝕄)) = bigSep Finset.univ fun d : Dev nD => tkAll d := by
  unfold toks
  rw [bigSep_map, bigSep_univ_prod]
  refine bigSep_congr fun d _ => ?_
  refine (bigSep_univ_sum _).trans ?_
  unfold tkAll
  refine congrArg₂ (fun A B => iprop(A ∗ B)) ?_ ?_
  · rw [bigSep_univ_prod, BI.bigSep_fin_two]
    simp only [three]
    rfl
  · rw [bigSep_univ_prod]
    refine bigSep_congr fun c _ => ?_
    refine (bigSep_univ_sum _).trans ?_
    simp only [nine]
    rfl

/-! ## The credit -/

/-- The semaphores other devices pay. -/
abbrev Cr : Type := Fin 2 ⊕ (Fin 4 × Fin 4)
def crIx : Cr → Ix
  | .inl k => .inl k
  | .inr (c, a) => at4 ⟨3 + 2 * a.val, by have := a.isLt; omega⟩ c
def crAmt : Cr → ℕ
  | .inl _ => 3
  | .inr _ => 8192

theorem crIx_inj : Function.Injective crIx := by decide

/-- How much of a list of payments goes to one semaphore. -/
def share (l : List Owe) (d : Dev nD) (k : Ix) : ℕ := (l.map fun x => if x.1 = d ∧ x.2.1 = k then x.2.2 else 0).sum
theorem owedL_cell (l : List Owe) (d : Dev nD) (k : Ix) : owedL l (cell d k) () = share l d k := by
  induction l with
  | nil => rfl
  | cons x l ih =>
    show owedL l (cell d k) () + tallyAt (cell x.1 x.2.1) () x.2.2 (cell d k) () = _
    rw [ih, tallyAt_apply]
    unfold share
    rw [List.map_cons, List.sum_cons, add_comm]
    refine congrArg (· + _) ?_
    by_cases h : x.1 = d ∧ x.2.1 = k
    · rw [if_pos h, if_pos ⟨by rw [h.1, h.2], rfl⟩]
    · rw [if_neg h, if_neg fun e => h ⟨(cell_inj e.1).1.symm, (cell_inj e.1).2.symm⟩]

theorem share_all : ∀ (d : Dev nD) (x : Cr), (∑ e : Dev nD, share (oweY e) d (crIx x)) = crAmt x := by decide +kernel

theorem launch_cr (d : Dev nD) (x : Cr) :
    tallyOn (cell d (crIx x)) (launchCredit (Pipeline.owing fun e => owedL (oweY e)) 0 (cell d (crIx x)))
      = (tallyAt (cell d (crIx x)) () (crAmt x) : CellTallies nD τ sig Unit) := by
  unfold tallyAt
  refine congrArg _ (Finsupp.ext fun u => ?_)
  cases u
  rw [Pipeline.launchCredit_owing, Finsupp.single_eq_same, Finset.sum_congr rfl fun e _ => owedL_cell (oweY e) d (crIx x), share_all]

def crEmb : Cr ↪ SemLoc sig := ⟨fun x => semAt (crIx x), fun _ _ h => crIx_inj (semAt_inj h)⟩

/-- The launch's credit holds what the body waits for. -/
theorem creds (d : Dev nD) : (Pipeline.launchCred (fun e => owedL (oweY e)) d : sProp 𝕄) ⊢ crAll d := by
  unfold Pipeline.launchCred
  have h : (bigSep (Finset.univ.map crEmb) fun sm : SemLoc sig =>
      (cred (tallyOn ((d : Thread nD τ), sm) (launchCredit (Pipeline.owing fun e => owedL (oweY e)) 0 ((d : Thread nD τ), sm))) : sProp 𝕄)) = crAll d := by
    rw [bigSep_map]
    refine (bigSep_congr (Ψ := fun x : Cr => cr d (crIx x) (crAmt x)) fun x _ => congrArg cred (launch_cr d x)).trans ?_
    refine (bigSep_univ_sum _).trans ?_
    unfold crAll
    refine congrArg₂ (fun A B => iprop(A ∗ B)) ?_ ?_
    · rw [BI.bigSep_fin_two]; rfl
    · rw [bigSep_univ_prod]
      refine bigSep_congr fun c _ => ?_
      rw [four]
      rfl
  rw [← h]
  exact bigSep_subset (Finset.subset_univ _)

/-! ## The deal -/

/-- The launch element: the pipeline's part and the protocol's. -/
def u₀ : UU :=
  (initOf (Pipeline.cells cfgs cellOf_inj) (Pipeline.launchToks cfgs cellOf_inj), launchOf barCells ownCells toks)

/-- The protocol's part of the launch, kept by one device until all is dealt. -/
def G (c : Dev nD) : sProp 𝕄 := if c = 0 then BI.own (ER (launchOf barCells ownCells toks)) else iprop(emp)
theorem G_all : bigSep Finset.univ (G (F := F)) = BI.own (ER (launchOf barCells ownCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-- What every device may consult: the invariants, and that the barriers are ready. -/
def known (κ : GSem nD τ sig → ℕ) : sProp 𝕄 :=
  iprop((bigSep (barCells ∪ ownCells) fun g => cellInv ER (Rd (inp m)) (κ g) g) ∗ bigSep barCells fun g => reached ER g 0)
instance known_persistent (κ : GSem nD τ sig → ℕ) : BI.Persistent (known m κ) := by unfold known; infer_instance

theorem known_invs (κ : GSem nD τ sig → ℕ) : known m κ ⊢ invsAll (inp m) κ := by
  have h (x : Dev nD × Ix) : known m κ ⊢ cellInv ER (Rd (inp m)) (κ (cell x.1 x.2)) (cell x.1 x.2) := by
    unfold known
    have h1 := bigSep_elim (Φ := fun g => (cellInv ER (Rd (inp m)) (κ g) g : sProp 𝕄)) (cell_mem x.1 x.2)
    iintro ⟨#HI, -⟩
    iapply (show _ ⊢ _ from h1); iexact HI
  unfold invsAll
  exact bigSep_intro_persistent fun x _ => h x

theorem known_bar (κ : GSem nD τ sig → ℕ) (d : Dev nD) : known m κ ⊢ reached ER (cell d bar) 0 := by
  unfold known
  have h1 := bigSep_elim (Φ := fun g => (reached ER g 0 : sProp 𝕄)) (Finset.mem_map_of_mem barEmb (Finset.mem_univ d))
  iintro ⟨-, #HR⟩
  iapply (show _ ⊢ _ from h1); iexact HR

/-- What is dealt to one device. -/
def dealt (d : Dev nD) : sProp 𝕄 :=
  iprop(ps d bar ∗ (bigSep (Finset.univ : Finset Own) fun x => openTok ER (cell d (ownIx x))) ∗ tkAll d)
/-- What the device has beside. -/
def beside (d : Dev nD) : sProp 𝕄 :=
  iprop(StableHlo.held (d : Thread nD τ) (Pipeline.ucRefs τ sig) (V0 m d) ∗ crAll d ∗ (∃ r, prngReg d r)
    ∗ ∃ W, owes (d : Thread nD τ) (owedL (oweY d)) W)

abbrev T₀ (d : Dev nD) : sProp 𝕄 := iprop(StableHlo.held (d : Thread nD τ) (Pipeline.ucRefs τ sig) (V0 m d) ∗ E m 0 d)
abbrev Tₙ (d : Dev nD) : sProp 𝕄 := iprop(StableHlo.held (d : Thread nD τ) (Pipeline.ucRefs τ sig) (V6' m d) ∗ zr d bar)

theorem begin (κ : GSem nD τ sig → ℕ) (d : Dev nD) : iprop(known m κ ∗ (dealt d ∗ beside m d)) ⊢ T₀ m d := by
  unfold dealt beside T₀ E Tk bars
  iintro ⟨#HK, ⟨Hp, Ho, HT⟩, Hh, HC, Hr, HO⟩
  isplitl [Hh]; · iexact Hh
  isplitl [Hp Ho HT HC]
  · isplitr; · iexists κ; iapply (known_invs m κ); iexact HK
    isplitr
    · isplitr; · iapply (known_bar m κ d); iexact HK
      isplitr; · iapply (known_bar m κ (yp d)); iexact HK
      isplitr; · iapply (known_bar m κ (right d)); iexact HK
      iapply (known_bar m κ (left d)); iexact HK
    isplitl [Hp]; · iexact Hp
    isplitl [Ho]; · iexact Ho
    isplitl [HC] <;> iassumption
  isplitl [Hr] <;> iassumption

theorem barrier_eq (c : Dev nD) : (unscopedSems0 c : sProp 𝕄) = semVal (cell c bar) 0 := by
  unfold unscopedSems0
  rw [show (Finset.univ.filter fun sm : SemLoc sig => ¬ sm.isScoped .tc) = {semAt bar} from by decide, BI.bigSep_singleton]

/-- The launch: from what the machine starts with to what every device begins with. -/
theorem launch :
    iprop((bigSep Finset.univ fun c : Dev nD => iprop(unscopedBufs c (fun b => m ((c : Thread nD τ).loc b)) ∗ unscopedSems0 c
          ∗ owes (c : Thread nD τ) (owedL (oweY c)) ∅ ∗ Pipeline.launchCred (fun e => owedL (oweY e)) c ∗ prngReg c (ρ c) ∗ G c)) ∗ levAts L lv)
      ⊢ (|={Set.univ}=> bigSep Finset.univ (T₀ m) : sProp 𝕄) := by
  have core (c : Dev nD) : iprop(unscopedBufs c (fun b => m ((c : Thread nD τ).loc b)) ∗ unscopedSems0 c
        ∗ owes (c : Thread nD τ) (owedL (oweY c)) ∅ ∗ Pipeline.launchCred (fun e => owedL (oweY e)) c ∗ prngReg c (ρ c) ∗ G c)
      ⊢ (iprop(beside m c ∗ (semVal (cell c bar) 0 ∗ G c)) : sProp 𝕄) := by
    rw [show unscopedBufs c (fun b => m ((c : Thread nD τ).loc b)) = StableHlo.held (c : Thread nD τ) (Pipeline.ucRefs τ sig) (V0 m c) from
      Pipeline.unscopedBufs_held c (V0 m c), barrier_eq]
    unfold beside
    iintro ⟨Hh, Hs, HO, HC, Hp, HG⟩
    isplitl [Hh HC Hp HO]
    · isplitl [Hh]; · iexact Hh
      isplitl [HC]; · iapply (creds (F := F) c) $$ HC
      isplitl [Hp]; · iexists (ρ c); iexact Hp
      iexists ∅; iexact HO
    isplitl [Hs] <;> iassumption
  have all := bigSep_mono (s := (Finset.univ : Finset (Dev nD))) fun c _ => core c
  have hv : bigSep Finset.univ (fun c : Dev nD => (semVal (cell c bar) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => ps c bar) :=
    bigSep_map (s := Finset.univ) barEmb (Φ := fun g : GSem nD τ sig => (atPos ER g 0 ∅ 0 : sProp 𝕄))
  have hop : bigSep ownCells (fun g => (openTok ER g : sProp 𝕄))
      = bigSep Finset.univ (fun c : Dev nD => bigSep (Finset.univ : Finset Own) fun x => openTok ER (cell c (ownIx x))) := by
    rw [bigSep_map, bigSep_univ_prod]
    rfl
  iintro ⟨H, -⟩
  ihave H := (show _ ⊢ _ from all) $$ H
  ihave H := (Entails.of_eq (bigSep_sep' _ _ _)) $$ H
  icases H with ⟨HB, H⟩
  ihave H := (Entails.of_eq (bigSep_sep' _ _ _)) $$ H
  icases H with ⟨Hv, HG⟩
  ihave Hu := (Entails.of_eq (G_all (F := F))) $$ HG
  imod (Rounds.fund_launch ER (Rd (inp m)) cells_disjoint (fun g _ h => h) toks) $$ [Hv Hu] with ⟨%κ, -, #Hinv, #Hr, Hat, Hop, Htok⟩
  · isplitl [Hv]
    · iapply (Entails.of_eq hv) $$ Hv
    · iexact Hu
  imodintro
  have fin := bigSep_with_persistent (S := (Finset.univ : Finset (Dev nD))) (R := known m κ) (Φ := fun c => iprop(dealt c ∗ beside m c)) fun c _ => begin m κ c
  iapply (show _ ⊢ _ from fin)
  isplitr
  · unfold known
    isplitr; · iexact Hinv
    iexact Hr
  iapply (pair_up (F := F)) $$ [Hat Hop Htok] HB
  unfold dealt
  ihave Hat := (Entails.of_eq hat) $$ Hat
  ihave Hop := (Entails.of_eq hop) $$ Hop
  ihave Htok := (Entails.of_eq (toks_eq (F := F))) $$ Htok
  iapply (pair_up (F := F)) $$ Hat
  iapply (pair_up (F := F)) $$ Hop Htok

theorem unscoped_bar : ∀ sm : SemLoc sig, sm.isScoped .tc = false → sm = semAt bar := by decide

set_option backward.isDefEq.respectTransparency.types false in
/-- THE RUN: from any memory with zero counters, every weakly fair execution of the program ends, and at the end the
    arguments are as they were, the result is `oF`, and every semaphore counter is zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v33) = V6' m c main_v33) ∧ r.2.sem = fun _ => 0) := by
  refine Pipeline.θ_run_regions_kit_dev_sems (pcfgs (F := F)) adm (pdats m) () cellOf_inj EP defs₀ 𝒱₀ L lv m ρ main
    (segs m 𝒱₀ L lv (fun i => E m i.val) () (pdats m) (reg m))
    (fun c Q => by
      rewrite [main_chain c, Seg.run_eq_chain,
        show (segs m 𝒱₀ L lv (fun i => E m i.val) () (pdats m) (reg m) c).map Seg.prog = [
          StableHlo.seq (hostOps0 c), StableHlo.seq hostOps0_1, StableHlo.seq hostOps0_2, StableHlo.seq hostOps0_3, StableHlo.seq hostOps0_4,
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := fun c => owedL (oweY c)) (hL := L_of_ne) (G := G) (u₀ := u₀)
    (hu₀ := ?_) (T₀ := T₀ m) (Tₙ := Tₙ m)
    (hch := fun c => ⟨.rfl, .rfl, .rfl, .rfl, .rfl, reg_pre m c, (reg_post m c).trans ?_⟩)
    (hinit := launch m ρ)
    (QY := fun c s => (s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v33) = V6' m c main_v33) ∧ s.sem (cell c bar) = 0)
    (hfin := fun c s' => ?_)
    (hQ := fun s h hs => ⟨fun c => (h c).1, sem_eq_zero hs fun c sm hsm => by
      obtain rfl := unscoped_bar sm hsm
      exact (h c).2⟩)
  · unfold u₀
    rw [G_all]
    iintro Hu
    ihave H := (ownU_pair _ _) $$ Hu
    icases H with ⟨HP, HX⟩
    imodintro
    isplitl [HP]; · iexact HP
    iexact HX
  · unfold E Tₙ
    iintro ⟨Hh, Hb, HO⟩
    isplitr [HO]
    · isplitl [Hh] <;> iassumption
    iexact HO
  · dsimp only [Tₙ]
    unfold StableHlo.held
    iintro ⟨⟨Hh, Hb⟩, HSI⟩
    ihave Hr := (pointsTo_read_all (Pipeline.ucRefs τ sig) (fun b => ((c : Thread nD τ).1, b)) (V6' m c) s') $$ [Hh HSI]
    · isplitl [Hh] <;> iassumption
    icases Hr with ⟨%h, HSI⟩
    icombine HSI Hb gives %hb
    imodintro
    isplitr
    · ipureintro
      exact ⟨⟨(h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        h (Proc.devRef .tc main_v33) (Finset.mem_filter.mpr ⟨StableHlo.devRef_mem_tcRefs main_v33, by decide⟩)⟩, by simpa using hb⟩
    iexact HSI

end Cert.KernelIdeal.V

end
-- ==== Proof.V.Ref.lean ====
module

public import proofs.«01_k».proof.Proof.Gen.ReferenceIdeal
public import Idealize.ShloMosaic.Lib.StableHlo.Run
public import Idealize.ShloMosaic.Lib.Routing.Ops
public import Idealize.ShloMosaic.Lib.Quiescent

@[expose] public section

/-! # The reference

The run of the plain lookup, and what it looks up: where every id names a row of the table, row `i` of the
result is the row of the table that id `i` names. -/

noncomputable section

namespace Cert.ReferenceIdeal.V

open Idealize.ShloMosaic Idealize.ShloMosaic.TcCoe Idealize.ShloMosaic.StableHlo Idealize.SL.Sem
open Cert.ReferenceIdeal Cert.ReferenceIdeal.Gen

variable {F : FTy → Type} [FloatOps F]

/-- The row numbers: an id below zero counts from the end. -/
abbrev rows (w : S1024.Idx → BitVec 32) : S1024.Idx → BitVec 32 :=
  select (cmpi .slt w (broadcastInDim S1024 ![] bcast_S_S1024 (constantI S_ 32 0#32)))
    (addi w (broadcastInDim S1024 ![] bcast_S_S1024 (constantI S_ 32 16384#32))) w
/-- The result. -/
abbrev found (w : S1024.Idx → BitVec 32) (X : S16384x1024.Idx → F .f32) : S1024x1024.Idx → F .f32 :=
  Host.gather gather_S16384x1024_S1024x1_S1024x1024_1_0_n_n_0_1_11024 X (broadcastInDim S1024x1 ![0] bcast_S1024_S1024x1_0 (rows w))

/-- The program's operations. -/
abbrev ops : List (HloOp τ sig (Elt F)) :=
  [ nullary main_c (constantI S_ 32 0#32),
    unary main_c main_v0 (broadcastInDim S1024 ![] bcast_S_S1024),
    binary main_arg0 main_v0 main_v1 (cmpi .slt),
    nullary main_c_0 (constantI S_ 32 16384#32),
    unary main_c_0 main_v2 (broadcastInDim S1024 ![] bcast_S_S1024),
    binary main_arg0 main_v2 main_v3 addi,
    ternary main_v1 main_v3 main_arg0 main_v4 select,
    unary main_v4 main_v5 (broadcastInDim S1024x1 ![0] bcast_S1024_S1024x1_0),
    binary main_arg1 main_v5 main_v6 (fun x i => Host.gather gather_S16384x1024_S1024x1_S1024x1024_1_0_n_n_0_1_11024 x i) ]

theorem main_eq (c : Dev nD) : main (F := F) c = seq ops := rfl

theorem out_eq (V : Valuation τ sig (Elt F)) : after ops V (main_v6 : DevRef τ sig) = found (V (main_arg0 : DevRef τ sig)) (V (main_arg1 : DevRef τ sig)) := by
  after_results
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩

/-- From any memory with zero counters every execution of the lookup ends, its result `found` of the arguments, the
    arguments as they were, every counter zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6)
            = found (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h c main_v6).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

/-! ## What is looked up -/

/-- The index of id `i`. -/
def at1 (i : Fin 1024) : S1024.Idx := fun a => match a with | ⟨0, _⟩ => i
/-- The index of a place of the table. -/
def at2 (a : Fin 16384) (b : Fin 1024) : S16384x1024.Idx := fun k => match k with | ⟨0, _⟩ => a | ⟨1, _⟩ => b

/-- A word that is at least zero and below 16384, read signed, is a row number. -/
theorem in_range (w : BitVec 32) (h : IntOp.andi (IntOp.cmpi .sge w 0#32) (IntOp.cmpi .slt w 16384#32) = 1#1) : w.toNat < 16384 := by
  have h0 : (0#32).toInt = 0 := by decide
  have h1 : (16384#32).toInt = 16384 := by decide
  have hc := BitVec.toInt_eq_toNat_cond w
  have hw := w.isLt
  unfold IntOp.andi IntOp.cmpi at h
  rw [show (BitVec.ofBool (BitVec.sle 0#32 w) &&& BitVec.ofBool (BitVec.slt w 16384#32) = 1#1)
    ↔ (BitVec.sle 0#32 w = true ∧ BitVec.slt w 16384#32 = true) from by
      cases BitVec.sle 0#32 w <;> cases BitVec.slt w 16384#32 <;> decide] at h
  rw [BitVec.sle_eq_decide, BitVec.slt_eq_decide, decide_eq_true_iff, decide_eq_true_iff, h0, h1] at h
  split at hc <;> omega

/-- The sign test of a row number fails. -/
theorem not_below (w : BitVec 32) (h : w.toNat < 16384) : IntOp.cmpi .slt w 0#32 = 0#1 := by
  have h0 : (0#32).toInt = 0 := by decide
  have hc := BitVec.toInt_eq_toNat_cond w
  have hs : BitVec.slt w 0#32 = false := by
    rw [BitVec.slt_eq_decide, h0, decide_eq_false_iff_not]
    split at hc <;> omega
  unfold IntOp.cmpi
  show BitVec.ofBool (BitVec.slt w 0#32) = 0#1
  rw [hs]
  rfl

/-- Row `i` of the result is the row of the table that id `i` names. -/
theorem found_apply (w : S1024.Idx → BitVec 32) (X : S16384x1024.Idx → F .f32) (hw : ∀ i, (w i).toNat < 16384) (i : S1024x1024.Idx) :
    found w X i = X (at2 ⟨(w (at1 (i 0))).toNat, hw _⟩ (i 1)) := by
  have hr : rows w (at1 (i 0)) = w (at1 (i 0)) := by
    show Scalar.select (IntOp.cmpi .slt (w (at1 (i 0))) 0#32) _ (w (at1 (i 0))) = _
    rw [not_below _ (hw _)]
    rfl
  have h := Routing.gather_row gather_S16384x1024_S1024x1_S1024x1024_1_0_n_n_0_1_11024 rfl rfl rfl rfl rfl X
    (broadcastInDim S1024x1 ![0] bcast_S1024_S1024x1_0 (rows w)) (i 0) (i 1) ⟨(w (at1 (i 0))).toNat, hw _⟩
    (by
      refine Eq.trans ?_ (hr.trans (BitVec.eq_of_toNat_eq (by rw [BitVec.toNat_ofNat, Nat.mod_eq_of_lt (w (at1 (i 0))).isLt])))
      refine congrArg (rows w) (funext fun a => ?_)
      match a with
      | ⟨0, _⟩ => rfl) (by decide)
  refine Eq.trans (congrArg (found w X) (funext fun a => ?_)) (h.trans (congrArg X (funext fun a => ?_)))
  · match a with
    | ⟨0, _⟩ => rfl
    | ⟨1, _⟩ => rfl
  · match a with
    | ⟨0, _⟩ => rfl
    | ⟨1, _⟩ => rfl

end Cert.ReferenceIdeal.V

end
-- ==== Proof.V.Value.lean ====
module

public import proofs.«01_k».proof.Proof.V.Launch
public import proofs.«01_k».proof.Proof.V.Ref
public import Idealize.ShloMosaic.Lib.Layout
public import Idealize.ShloMosaic.PureOps.Ideal

@[expose] public section

/-! # The value

Where every id names a row of the table, the rows a device keeps after the exchange with its peer are the rows
the ids name: its own where the id is in its half, the peer's where it is in the other. So the result is the
lookup's. -/

noncomputable section

namespace Cert.KernelIdeal.V

open Idealize.ShloMosaic Idealize.ShloMosaic.TcCoe
open Idealize.SL Idealize.SL.Sem
open Cert.KernelIdeal Cert.KernelIdeal.Gen
open Cert.ReferenceIdeal.V (at1 at2 found found_apply)

/-! ## Words and halves -/

/-- In the half that a row number is in, taking off the half's first row leaves the row of the half. -/
theorem in_own (w : BitVec 32) (y : Fin 2) (hw : w.toNat < 16384) (h : w.toNat / 8192 = y.val) :
    (w - BitVec.ofNat 32 (y.val * 8192)).toNat = w.toNat - y.val * 8192 ∧ inHalf (w - BitVec.ofNat 32 (y.val * 8192)) = 1#1 := by
  have e : (w - BitVec.ofNat 32 (y.val * 8192)).toNat = w.toNat - y.val * 8192 := by
    have := y.isLt
    rw [BitVec.toNat_sub, BitVec.toNat_ofNat]
    omega
  exact ⟨e, (inHalf_iff _).mpr (by rw [e]; omega)⟩

/-- In the other half, it leaves no row of the half. -/
theorem in_other (w : BitVec 32) (y : Fin 2) (hw : w.toNat < 16384) (h : w.toNat / 8192 ≠ y.val) :
    inHalf (w - BitVec.ofNat 32 (y.val * 8192)) = 0#1 := by
  refine (BitVec.eq_zero_or_eq_one _).resolve_right fun h1 => ?_
  have h2 := (inHalf_iff _).mp h1
  have := y.isLt
  rw [BitVec.toNat_sub, BitVec.toNat_ofNat] at h2
  omega

/-- The mask, read as a number, is not zero just where the word passed. -/
theorem mask_test (b : BitVec 1) :
    FloatOps.cmpf (F := Ideal) .one (FloatOps.uitofp .f32 b) (Scalar.ofBits .f32 0x00000000#32) = b := by
  have h0 : Ideal.ofBits .f32 0x00000000#32 = 0 := by simp [Ideal.ofBits, Ideal.ieee]
  show Ideal.cmp .one (((b.toNat : ℝ) : EReal)) (Ideal.ofBits .f32 0x00000000#32) = b
  rw [h0]
  rcases BitVec.eq_zero_or_eq_one b with rfl | rfl
  · simp [Ideal.cmp]
  · simp [Ideal.cmp]

/-! ## A device's rows -/

variable (m : (ℓ : Loc nD τ sig) → Buf (Elt Ideal) ℓ)
variable (w : S1024.Idx → BitVec 32) (X : (⟨2, ![16384, 1024]⟩ : Shape).Idx → Ideal .f32)

/-- The memory holds the ids and, on each device, its half of the table. -/
structure Holds : Prop where
  ids (d : Dev nD) : m ((d : Thread nD τ).loc main_arg0) = w
  table (d : Dev nD) : m ((d : Thread nD τ).loc main_arg1)
    = Layout.blockN ⟨2, ![8192, 1024]⟩ ⟨2, ![16384, 1024]⟩ (Layout.meshBlock [2, 2, 2] ![[1], []] d) X
  range (i : S1024.Idx) : (w i).toNat < 16384

variable {m w X}

/-- The place of id `r` of ring position `t`. -/
def place (t : Fin 4) (r : Fin 256) : Fin 1024 := ⟨t.val * 256 + r.val, by have := t.isLt; have := r.isLt; omega⟩

theorem idAt_eq (H : Holds m w X) (d : Dev nD) (r : Fin 256) : idAt m d r = w (at1 (place (rp d) r)) := by
  unfold idAt ids
  rw [H.ids]
  refine congrArg w (funext fun a => ?_)
  match a with
  | ⟨0, _⟩ => rfl

theorem block_y : ∀ d : Dev nD, ((Layout.meshBlock [2, 2, 2] ![[1], []] d) 0).val = (yOf d).val := by decide
theorem block_x : ∀ d : Dev nD, ((Layout.meshBlock [2, 2, 2] ![[1], []] d) 1).val = 0 := by decide

/-- The row a device gathers for an id in its half is the row of the table that the id names. -/
theorem gathered (H : Holds m w X) (d : Dev nD) (r : Fin 256) (j : Fin 1024)
    (h : (w (at1 (place (rp d) r))).toNat / 8192 = (yOf d).val) :
    gF (inp m) d (ix2 r j) = X (at2 ⟨(w (at1 (place (rp d) r))).toNat, H.range _⟩ j) := by
  obtain ⟨e1, e2⟩ := in_own _ _ (H.range (at1 (place (rp d) r))) h
  have hwd : wd (inp m) d r.val = w (at1 (place (rp d) r)) - BitVec.ofNat 32 ((yOf d).val * 8192) := by
    unfold wd inp
    dsimp only
    rw [V5_v30]
    have hr : (⟨r.val % 256, Nat.mod_lt _ (by decide)⟩ : Fin 256) = r := Fin.ext (Nat.mod_eq_of_lt r.isLt)
    show Scalar.select (inHalf (locAt m d ⟨r.val % 256, _⟩)) (locAt m d ⟨r.val % 256, _⟩) 0#32 = _
    rw [hr]
    unfold locAt
    rw [idAt_eq H, e2]
    rfl
  have hs : (BitVec.toNat (wd (inp m) d r.val)) = (w (at1 (place (rp d) r))).toNat - (yOf d).val * 8192 := by rw [hwd, e1]
  have hev : (inp m).ev d = Layout.blockN ⟨2, ![8192, 1024]⟩ ⟨2, ![16384, 1024]⟩ (Layout.meshBlock [2, 2, 2] ![[1], []] d) X := H.table d
  unfold gF
  rw [hev, Layout.blockN_apply]
  refine congrArg X (funext fun a => Fin.ext ?_)
  rw [Layout.TilesN.idx_val]
  match a with
  | ⟨0, _⟩ =>
    show ((Layout.meshBlock [2, 2, 2] ![[1], []] d) 0).val * 8192 + BitVec.toNat (wd (inp m) d r.val) = (w (at1 (place (rp d) r))).toNat
    rw [block_y, hs]
    omega
  | ⟨1, _⟩ =>
    show ((Layout.meshBlock [2, 2, 2] ![[1], []] d) 1).val * 1024 + j.val = j.val
    rw [block_x]
    omega

/-- The rows a device keeps after the exchange are the rows the ids name. -/
theorem kept (H : Holds m w X) (d : Dev nD) (r : Fin 256) (j : Fin 1024) :
    yF (inp m) d (ix2 r j) = X (at2 ⟨(w (at1 (place (rp d) r))).toNat, H.range _⟩ j) := by
  have hm : @Eq (Ideal .f32) (mAt (inp m) d r) (FloatOps.uitofp .f32 (inHalf (locAt m d r))) := by
    unfold mAt inp
    dsimp only
    rw [V5_v32]
  unfold yF
  show Scalar.select (FloatOps.cmpf (F := Ideal) .one (mAt (inp m) d r) (Scalar.ofBits .f32 0x00000000#32)) _ _ = _
  rw [hm, mask_test]
  unfold locAt
  rw [idAt_eq H]
  by_cases h : (w (at1 (place (rp d) r))).toNat / 8192 = (yOf d).val
  · rw [(in_own _ _ (H.range _) h).2]
    exact gathered H d r j h
  · rw [in_other _ _ (H.range _) h]
    have hp : (w (at1 (place (rp d) r))).toNat / 8192 = (1 - yOf d : Fin 2).val := by
      have h1 := H.range (at1 (place (rp d) r))
      have h2 : ∀ y : Fin 2, (1 - y : Fin 2).val = 1 - y.val := by decide
      have h3 := (yOf d).isLt
      rw [h2]
      omega
    have g := gathered H (yp d) r j (by rw [rp_yp, yOf_yp]; exact hp)
    simp only [rp_yp] at g
    exact g

/-- The kernel's result is the lookup's. -/
theorem result (H : Holds m w X) (d : Dev nD) : @Eq (S1024x1024.Idx → Ideal .f32) (V6' m d main_v33) (found w X) := by
  rw [V6_v33]
  funext i
  rw [found_apply w X H.range]
  have hi : (i 0).val < 1024 := (i 0).isLt
  have hp : place (rp (devAt ⟨(i 0).val / 256 % 4, Nat.mod_lt _ (by decide)⟩ (yOf d))) ⟨(i 0).val % 256, Nat.mod_lt _ (by decide)⟩ = i 0 := by
    rw [rp_devAt]
    exact Fin.ext (show (i 0).val / 256 % 4 * 256 + (i 0).val % 256 = (i 0).val by omega)
  refine (kept H (devAt ⟨(i 0).val / 256 % 4, Nat.mod_lt _ (by decide)⟩ (yOf d)) ⟨(i 0).val % 256, Nat.mod_lt _ (by decide)⟩ (i 1)).trans
    (congrArg X (funext fun a => ?_))
  match a with
  | ⟨0, _⟩ => exact Fin.ext (congrArg (fun k => (w (at1 k)).toNat) hp)
  | ⟨1, _⟩ => rfl

end Cert.KernelIdeal.V

end
-- ==== Proof.lean ====
/-
  The proof of `Cert.Claim`. The kernel's run (Proof/V/Launch.lean `run_main`) is for any float values; at `Bits` and
  at `Ideal` it gives the two frames. The reference's run is Proof/V/Ref.lean; that the two results agree where every
  id names a row of the table is Proof/V/Value.lean.
-/
module

public import proofs.«01_k».proof.Defs
public import proofs.«01_k».proof.Proof.V.Same
public import proofs.«01_k».proof.Proof.V.Value

@[expose] public section

noncomputable section

namespace Cert.Proof

open Idealize.ShloMosaic Idealize.SL.Sem

/-- The precondition's side condition, at either shape of the table. -/
instance preKernel : Cert.Pre_in_table_KernelIdeal.Facts where
  bcast_S_S1024 := by decide
instance preReference : Cert.Pre_in_table_ReferenceIdeal.Facts where
  bcast_S_S1024 := by decide

/-- The kernel's run at any float values, the result dropped. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => ⟨(h.1 c).1, (h.1 c).2.1⟩, h.2⟩) (Cert.KernelIdeal.V.run_main m ρ)

/-- The kernel's frame at `Ideal`. -/
theorem frame_kernelIdeal : Cert.quiescent_KernelIdeal := fun m ρ _ => frame m ρ

/-- The same at `Bits`: the two programs have the same text. -/
theorem frame_kernel : Cert.quiescent_Kernel := fun m ρ _ => by
  have h := frame (F := Bits) m ρ
  rw [← Cert.Same.defs, ← Cert.Same.main] at h
  exact h

/-- The reference's frame. -/
theorem frame_reference : Cert.quiescent_ReferenceIdeal := fun m ρ _ =>
  (θ_run Cert.ReferenceIdeal.defs _ _).mono (fun _ h => ⟨fun c => (h.1 c).2, h.2⟩) (Cert.ReferenceIdeal.V.run_main (F := Ideal) m ρ)

/-- What the value theorem assumes, from the claim's hypotheses. -/
theorem holds (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_in_table_KernelIdeal m)
    (h : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2, 2] ![[1], []] c) (m' (((0 : Dev Cert.ReferenceIdeal.nD).tc : Thread Cert.ReferenceIdeal.nD Cert.ReferenceIdeal.τ).loc Cert.ReferenceIdeal.main_arg1))) :
    Cert.KernelIdeal.V.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) where
  ids d := (h d).1
  table d := (h d).2
  range i := by
    rw [← (h 0).1]
    exact Cert.ReferenceIdeal.V.in_range _ (congrFun (hp 0) i)

/-- On every device the kernel's result is the reference's, where every id names a row of the table. -/
theorem value : Cert.algebraic_KernelIdeal_ReferenceIdeal_pre_in_table_KernelIdeal := fun m ρ m' ρ' hp h =>
  ⟨_, (θ_run Cert.KernelIdeal.defs _ _).mono
      (fun _ r c => ⟨(r.1 c).2.2.trans (Cert.KernelIdeal.V.result (holds m m' hp h) c), (r.1 c).1, (r.1 c).2.1⟩)
      (Cert.KernelIdeal.V.run_main (F := Ideal) m ρ),
    (θ_run Cert.ReferenceIdeal.defs _ _).mono (fun _ r => r.1 0) (Cert.ReferenceIdeal.V.run_main (F := Ideal) m' ρ')⟩

theorem claim : Cert.Claim :=
  ⟨Cert.Kernel.Gen.facts, Cert.KernelIdeal.Gen.facts, Cert.ReferenceIdeal.Gen.facts, preKernel, preReference,
    frame_kernel, frame_kernelIdeal, fun m ρ _ => frame_kernelIdeal m ρ trivial,
    frame_reference, fun m ρ _ => frame_reference m ρ trivial, trivial, value⟩

end Cert.Proof

end
